-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v55) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x1x64 : Shape := ⟨4, ![4, 512, 1, 64]⟩
abbrev S1x512x64 : Shape := ⟨3, ![1, 512, 64]⟩
abbrev S2048x64 : Shape := ⟨2, ![2048, 64]⟩
abbrev S512x64 : Shape := ⟨2, ![512, 64]⟩
abbrev S64x512 : Shape := ⟨2, ![64, 512]⟩
abbrev S2048x1 : Shape := ⟨2, ![2048, 1]⟩
abbrev S1x512 : Shape := ⟨2, ![1, 512]⟩
abbrev S1x1 : Shape := ⟨2, ![1, 1]⟩
abbrev S1024x64 : Shape := ⟨2, ![1024, 64]⟩
abbrev S1024x1 : Shape := ⟨2, ![1024, 1]⟩
abbrev S1024 : Shape := ⟨1, ![1024]⟩
abbrev S512 : Shape := ⟨1, ![512]⟩
abbrev S1024x512 : Shape := ⟨2, ![1024, 512]⟩
abbrev S1024x508 : Shape := ⟨2, ![1024, 508]⟩
abbrev S1024x4 : Shape := ⟨2, ![1024, 4]⟩
abbrev S1024x510 : Shape := ⟨2, ![1024, 510]⟩
abbrev S1024x2 : Shape := ⟨2, ![1024, 2]⟩
abbrev S1024x511 : Shape := ⟨2, ![1024, 511]⟩
abbrev S1x1x512 : Shape := ⟨3, ![1, 1, 512]⟩
abbrev S1 : Shape := ⟨1, ![1]⟩
abbrev S1x1x1 : Shape := ⟨3, ![1, 1, 1]⟩
abbrev S4x512x1 : Shape := ⟨3, ![4, 512, 1]⟩
abbrev S_ : Shape := ⟨0, ![]⟩

abbrev nBuf : Space → Nat
  | .hbm => 18
  | .vmem => 16
  | .smem => 0
  | _ => 0

abbrev bufTy : (tb : Table) → Fin (tcTables nBuf tb) → BufTy
  | .hbm, ⟨0, _⟩ => ⟨S4x512x1x64, .f32⟩
  | .hbm, ⟨1, _⟩ => ⟨S1x512x64, .f32⟩
  | .hbm, ⟨2, _⟩ => ⟨S2048x64, .f32⟩
  | .hbm, ⟨3, _⟩ => ⟨S512x64, .f32⟩
  | .hbm, ⟨4, _⟩ => ⟨S64x512, .f32⟩
  | .hbm, ⟨5, _⟩ => ⟨S2048x64, .f32⟩
  | .hbm, ⟨6, _⟩ => ⟨S2048x1, .f32⟩
  | .hbm, ⟨7, _⟩ => ⟨S2048x1, .f32⟩
  | .hbm, ⟨8, _⟩ => ⟨S2048x1, .i32⟩
  | .hbm, ⟨9, _⟩ => ⟨S2048x1, .i32⟩
  | .hbm, ⟨10, _⟩ => ⟨S1x512, .f32⟩
  | .hbm, ⟨11, _⟩ => ⟨S1x1, .f32⟩
  | .hbm, ⟨12, _⟩ => ⟨S4x512x1x64, .f32⟩
  | .hbm, ⟨13, _⟩ => ⟨S4x512x1, .f32⟩
  | .hbm, ⟨14, _⟩ => ⟨S4x512x1, .f32⟩
  | .hbm, ⟨15, _⟩ => ⟨S_, .f32⟩
  | .hbm, ⟨16, _⟩ => ⟨S4x512x1, .i32⟩
  | .hbm, ⟨17, _⟩ => ⟨S4x512x1, .i32⟩
  | .local _ .vmem, ⟨0, _⟩ => ⟨S1024x64, .f32⟩
  | .local _ .vmem, ⟨1, _⟩ => ⟨S1024x64, .f32⟩
  | .local _ .vmem, ⟨2, _⟩ => ⟨S512x64, .f32⟩
  | .local _ .vmem, ⟨3, _⟩ => ⟨S64x512, .f32⟩
  | .local _ .vmem, ⟨4, _⟩ => ⟨S1024x64, .f32⟩
  | .local _ .vmem, ⟨5, _⟩ => ⟨S1024x64, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .i32⟩
  | .local _ .vmem, ⟨11, _⟩ => ⟨S1024x1, .i32⟩
  | .local _ .vmem, ⟨12, _⟩ => ⟨S1024x1, .i32⟩
  | .local _ .vmem, ⟨13, _⟩ => ⟨S1024x1, .i32⟩
  | .local _ .vmem, ⟨14, _⟩ => ⟨S1x512, .f32⟩
  | .local _ .vmem, ⟨15, _⟩ => ⟨S1x1, .f32⟩
  | _, _ => ⟨S4x512x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v3_5 : Ref sig .tc := ⟨.hbm, 10, rfl⟩
abbrev main_v3_6 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32_52 : BitVec 32 := 0#32
  let v874 : BitVec 1 := Scalar.cmpi .eq arg0 c0_i32_52
  let v875 : BitVec 32 := Scalar.extui v874
  let c0_i32_53 : BitVec 32 := 0#32
  let v876 : BitVec 1 := Scalar.cmpi .ne v875 c0_i32_53
  v876

def k0_cond2 (i : grid0.Coords) : BitVec 1 :=
  let arg0 : BitVec 32 := BitVec.ofNat 32 (i 0).val
  let c1_i32_58 : BitVec 32 := 1#32
  let v881 : BitVec 1 := Scalar.cmpi .eq arg0 c1_i32_58
  let v882 : BitVec 32 := Scalar.extui v881
  let c0_i32_59 : BitVec 32 := 0#32
  let v883 : BitVec 1 := Scalar.cmpi .ne v882 c0_i32_59
  v883

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4x512x1x64 : Shape := ⟨4, ![4, 512, 1, 64]⟩
abbrev S1x512x64 : Shape := ⟨3, ![1, 512, 64]⟩
abbrev S2048x1x1x64 : Shape := ⟨4, ![2048, 1, 1, 64]⟩
abbrev S1x1x512x64 : Shape := ⟨4, ![1, 1, 512, 64]⟩
abbrev S2048x1x512x64 : Shape := ⟨4, ![2048, 1, 512, 64]⟩
abbrev S_ : Shape := ⟨0, ![]⟩
abbrev S2048x1x512 : Shape := ⟨3, ![2048, 1, 512]⟩
abbrev S2048x1 : Shape := ⟨2, ![2048, 1]⟩
abbrev S2048x1x64x8 : Shape := ⟨4, ![2048, 1, 64, 8]⟩
abbrev S2048x1x64 : Shape := ⟨3, ![2048, 1, 64]⟩
abbrev S8 : Shape := ⟨1, ![8]⟩
abbrev S1x8 : Shape := ⟨2, ![1, 8]⟩
abbrev S2048x8 : Shape := ⟨2, ![2048, 8]⟩
abbrev S2048x512 : Shape := ⟨2, ![2048, 512]⟩
abbrev S2048 : Shape := ⟨1, ![2048]⟩
abbrev S2048x8x1 : Shape := ⟨3, ![2048, 8, 1]⟩
abbrev S2048x8x2 : Shape := ⟨3, ![2048, 8, 2]⟩
abbrev S2048x512x1 : Shape := ⟨3, ![2048, 512, 1]⟩
abbrev S1 : Shape := ⟨1, ![1]⟩
abbrev S1x1x1 : Shape := ⟨3, ![1, 1, 1]⟩
abbrev S4x512x1 : Shape := ⟨3, ![4, 512, 1]⟩
abbrev S512 : Shape := ⟨1, ![512]⟩
abbrev S1x1 : Shape := ⟨2, ![1, 1]⟩
abbrev S512x64 : Shape := ⟨2, ![512, 64]⟩
abbrev S2048x8x64 : Shape := ⟨3, ![2048, 8, 64]⟩
abbrev S2048x64 : Shape := ⟨2, ![2048, 64]⟩

abbrev nBuf : Space → Nat
  | .hbm => 204
  | .vmem => 0
  | .smem => 0
  | _ => 0

abbrev hbmTy0_0 (i : Nat) : BufTy := match i % 128 with
  | 0 => ⟨S4x512x1x64, .f32⟩
  | 1 => ⟨S1x512x64, .f32⟩
  | 2 => ⟨S2048x1x1x64, .f32⟩
  | 3 => ⟨S1x1x512x64, .f32⟩
  | 4 => ⟨S2048x1x512x64, .f32⟩
  | 5 => ⟨S2048x1x512x64, .f32⟩
  | 6 => ⟨S2048x1x512x64, .f32⟩
  | 7 => ⟨S2048x1x512x64, .f32⟩
  | 8 => ⟨S_, .f32⟩
  | 9 => ⟨S2048x1x512, .f32⟩
  | 10 => ⟨S2048x1x512, .f32⟩
  | 11 => ⟨S2048x1x512, .i32⟩
  | 12 => ⟨S_, .f32⟩
  | 13 => ⟨S_, .i32⟩
  | 14 => ⟨S2048x1, .f32⟩
  | 15 => ⟨S2048x1, .i32⟩
  | 16 => ⟨S2048x1x64x8, .f32⟩
  | 17 => ⟨S_, .f32⟩
  | 18 => ⟨S2048x1x64, .f32⟩
  | 19 => ⟨S_, .f32⟩
  | 20 => ⟨S2048x1x64, .f32⟩
  | 21 => ⟨S2048x1x64, .f32⟩
  | 22 => ⟨S2048x1x64, .i32⟩
  | 23 => ⟨S_, .f32⟩
  | 24 => ⟨S_, .i32⟩
  | 25 => ⟨S2048x1, .f32⟩
  | 26 => ⟨S2048x1, .i32⟩
  | 27 => ⟨S_, .i32⟩
  | 28 => ⟨S2048x1, .i32⟩
  | 29 => ⟨S2048x1, .i32⟩
  | 30 => ⟨S8, .i32⟩
  | 31 => ⟨S1x8, .i32⟩
  | 32 => ⟨S2048x8, .i32⟩
  | 33 => ⟨S2048x8, .i32⟩
  | 34 => ⟨S2048x8, .i32⟩
  | 35 => ⟨S_, .f32⟩
  | 36 => ⟨S2048x512, .f32⟩
  | 37 => ⟨S2048, .i32⟩
  | 38 => ⟨S2048x1, .i32⟩
  | 39 => ⟨S_, .i32⟩
  | 40 => ⟨S2048x1, .i32⟩
  | 41 => ⟨S2048x1, .i1⟩
  | 42 => ⟨S_, .i32⟩
  | 43 => ⟨S2048x1, .i32⟩
  | 44 => ⟨S2048x1, .i32⟩
  | 45 => ⟨S2048x1, .i32⟩
  | 46 => ⟨S_, .i32⟩
  | 47 => ⟨S2048x8, .i32⟩
  | 48 => ⟨S2048x8, .i1⟩
  | 49 => ⟨S_, .i32⟩
  | 50 => ⟨S2048x8, .i32⟩
  | 51 => ⟨S2048x8, .i32⟩
  | 52 => ⟨S2048x8, .i32⟩
  | 53 => ⟨S2048x8, .i32⟩
  | 54 => ⟨S2048x8x1, .i32⟩
  | 55 => ⟨S2048x8x1, .i32⟩
  | 56 => ⟨S2048x8x2, .i32⟩
  | 57 => ⟨S_, .f32⟩
  | 58 => ⟨S2048x8, .f32⟩
  | 59 => ⟨S2048x512, .f32⟩
  | 60 => ⟨S2048x512, .f32⟩
  | 61 => ⟨S_, .f32⟩
  | 62 => ⟨S2048x512, .f32⟩
  | 63 => ⟨S2048x512, .f32⟩
  | 64 => ⟨S2048x512, .f32⟩
  | 65 => ⟨S2048x512, .f32⟩
  | 66 => ⟨S2048x512, .i32⟩
  | 67 => ⟨S2048x512, .f32⟩
  | 68 => ⟨S2048x512, .i32⟩
  | 69 => ⟨S_, .i32⟩
  | 70 => ⟨S2048x512, .i32⟩
  | 71 => ⟨S2048x512, .i1⟩
  | 72 => ⟨S_, .i32⟩
  | 73 => ⟨S2048x512, .i32⟩
  | 74 => ⟨S2048x512, .i32⟩
  | 75 => ⟨S2048x512, .i32⟩
  | 76 => ⟨S2048x512x1, .i32⟩
  | 77 => ⟨S1, .i32⟩
  | 78 => ⟨S_, .i32⟩
  | 79 => ⟨S2048x512x1, .i32⟩
  | 80 => ⟨S2048x512x1, .i1⟩
  | 81 => ⟨S1x1x1, .i32⟩
  | 82 => ⟨S2048x512x1, .i32⟩
  | 83 => ⟨S2048x512x1, .i1⟩
  | 84 => ⟨S2048x512x1, .i1⟩
  | 85 => ⟨S_, .i1⟩
  | 86 => ⟨S2048x512, .i1⟩
  | 87 => ⟨S2048x512, .f32⟩
  | 88 => ⟨S_, .f32⟩
  | 89 => ⟨S2048x512, .f32⟩
  | 90 => ⟨S2048x512, .f32⟩
  | 91 => ⟨S2048x8, .f32⟩
  | 92 => ⟨S2048x8, .i32⟩
  | 93 => ⟨S2048x8, .f32⟩
  | 94 => ⟨S_, .f32⟩
  | 95 => ⟨S2048, .f32⟩
  | 96 => ⟨S2048x1, .f32⟩
  | 97 => ⟨S_, .f32⟩
  | 98 => ⟨S2048x1, .f32⟩
  | 99 => ⟨S2048x1, .f32⟩
  | 100 => ⟨S2048x8, .f32⟩
  | 101 => ⟨S2048x8, .f32⟩
  | 102 => ⟨S4x512x1, .i32⟩
  | 103 => ⟨S4x512x1, .i32⟩
  | 104 => ⟨S2048x1, .i32⟩
  | 105 => ⟨S2048, .i32⟩
  | 106 => ⟨S_, .i32⟩
  | 107 => ⟨S512, .i32⟩
  | 108 => ⟨S_, .i32⟩
  | 109 => ⟨S_, .i32⟩
  | 110 => ⟨S2048, .i32⟩
  | 111 => ⟨S2048, .i32⟩
  | 112 => ⟨S_, .i32⟩
  | 113 => ⟨S2048, .i32⟩
  | 114 => ⟨S2048, .i1⟩
  | 115 => ⟨S_, .i32⟩
  | 116 => ⟨S2048, .i32⟩
  | 117 => ⟨S2048, .i32⟩
  | 118 => ⟨S2048, .i32⟩
  | 119 => ⟨S2048x1, .i32⟩
  | 120 => ⟨S_, .i32⟩
  | 121 => ⟨S2048, .i32⟩
  | 122 => ⟨S512, .i32⟩
  | 123 => ⟨S512, .f32⟩
  | 124 => ⟨S_, .f32⟩
  | 125 => ⟨S512, .f32⟩
  | 126 => ⟨S512, .f32⟩
  | 127 => ⟨S_, .f32⟩
  | _ => ⟨S4x512x1x64, .f32⟩

abbrev hbmTy0_1 (i : Nat) : BufTy := match i % 128 with
  | 0 => ⟨S512, .f32⟩
  | 1 => ⟨S512, .i1⟩
  | 2 => ⟨S_, .f32⟩
  | 3 => ⟨S512, .f32⟩
  | 4 => ⟨S512, .i1⟩
  | 5 => ⟨S_, .f32⟩
  | 6 => ⟨S_, .f32⟩
  | 7 => ⟨S512, .f32⟩
  | 8 => ⟨S512, .f32⟩
  | 9 => ⟨S512, .f32⟩
  | 10 => ⟨S512, .f32⟩
  | 11 => ⟨S_, .f32⟩
  | 12 => ⟨S_, .f32⟩
  | 13 => ⟨S512, .f32⟩
  | 14 => ⟨S512, .f32⟩
  | 15 => ⟨S_, .f32⟩
  | 16 => ⟨S_, .f32⟩
  | 17 => ⟨S_, .f32⟩
  | 18 => ⟨S1, .i32⟩
  | 19 => ⟨S_, .i32⟩
  | 20 => ⟨S1, .i32⟩
  | 21 => ⟨S1, .i32⟩
  | 22 => ⟨S1x1, .i32⟩
  | 23 => ⟨S2048x8, .i32⟩
  | 24 => ⟨S2048x8, .i32⟩
  | 25 => ⟨S512x64, .f32⟩
  | 26 => ⟨S_, .i32⟩
  | 27 => ⟨S2048x8, .i32⟩
  | 28 => ⟨S2048x8, .i1⟩
  | 29 => ⟨S_, .i32⟩
  | 30 => ⟨S2048x8, .i32⟩
  | 31 => ⟨S2048x8, .i32⟩
  | 32 => ⟨S2048x8, .i32⟩
  | 33 => ⟨S2048x8x1, .i32⟩
  | 34 => ⟨S1, .i32⟩
  | 35 => ⟨S_, .i32⟩
  | 36 => ⟨S2048x8x1, .i32⟩
  | 37 => ⟨S2048x8x1, .i1⟩
  | 38 => ⟨S1x1x1, .i32⟩
  | 39 => ⟨S2048x8x1, .i32⟩
  | 40 => ⟨S2048x8x1, .i1⟩
  | 41 => ⟨S2048x8x1, .i1⟩
  | 42 => ⟨S_, .i1⟩
  | 43 => ⟨S2048x8, .i1⟩
  | 44 => ⟨S2048x8x64, .f32⟩
  | 45 => ⟨S2048x8x64, .i1⟩
  | 46 => ⟨S_, .f32⟩
  | 47 => ⟨S2048x8x64, .f32⟩
  | 48 => ⟨S2048x8x64, .f32⟩
  | 49 => ⟨S2048x8x1, .f32⟩
  | 50 => ⟨S2048x8x64, .f32⟩
  | 51 => ⟨S2048x8x64, .f32⟩
  | 52 => ⟨S_, .f32⟩
  | 53 => ⟨S2048x64, .f32⟩
  | 54 => ⟨S4x512x1x64, .f32⟩
  | 55 => ⟨S4x512x1x64, .f32⟩
  | 56 => ⟨S4x512x1x64, .f32⟩
  | 57 => ⟨S4x512x1x64, .f32⟩
  | 58 => ⟨S4x512x1x64, .f32⟩
  | 59 => ⟨S_, .f32⟩
  | 60 => ⟨S4x512x1, .f32⟩
  | 61 => ⟨S4x512x1, .f32⟩
  | 62 => ⟨S4x512x1, .f32⟩
  | 63 => ⟨S4x512x1x64, .f32⟩
  | 64 => ⟨S4x512x1x64, .f32⟩
  | 65 => ⟨S_, .f32⟩
  | 66 => ⟨S4x512x1, .f32⟩
  | 67 => ⟨S4x512x1, .f32⟩
  | 68 => ⟨S4x512x1, .f32⟩
  | 69 => ⟨S4x512x1x64, .f32⟩
  | 70 => ⟨S4x512x1x64, .f32⟩
  | 71 => ⟨S_, .f32⟩
  | 72 => ⟨S4x512x1, .f32⟩
  | 73 => ⟨S4x512x1, .f32⟩
  | 74 => ⟨S4x512x1, .f32⟩
  | 75 => ⟨S4x512x1, .f32⟩
  | _ => ⟨S4x512x1x64, .f32⟩

abbrev hbmTy (i : Nat) : BufTy := match i / 128 with
  | 0 => hbmTy0_0 i
  | 1 => hbmTy0_1 i
  | _ => ⟨S4x512x1x64, .f32⟩

abbrev bufTy : (tb : Table) → Fin (tcTables nBuf tb) → BufTy
  | .hbm, ⟨i, _⟩ => hbmTy i
  | _, _ => ⟨S4x512x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_c : Ref sig .tc := ⟨.hbm, 13, rfl⟩
abbrev main_call1_v1_0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_call2_v0 : Ref sig .tc := ⟨.hbm, 22, rfl⟩
abbrev main_call2_cst : Ref sig .tc := ⟨.hbm, 23, rfl⟩
abbrev main_call2_c : Ref sig .tc := ⟨.hbm, 24, rfl⟩
abbrev main_call2_v1_0 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call3_v0 : Ref sig .tc := ⟨.hbm, 66, rfl⟩
abbrev main_call3_v1_0 : Ref sig .tc := ⟨.hbm, 67, rfl⟩
abbrev main_v43 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_call4_c_0 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_c_1 : Ref sig .tc := ⟨.hbm, 77, rfl⟩
abbrev main_call4_c_2 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_3 : Ref sig .tc := ⟨.hbm, 85, rfl⟩
abbrev main_call4_v12 : Ref sig .tc := ⟨.hbm, 86, rfl⟩
abbrev main_call4_v13 : Ref sig .tc := ⟨.hbm, 87, rfl⟩
abbrev main_call4_cst : Ref sig .tc := ⟨.hbm, 88, rfl⟩
abbrev main_call4_v14 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_8 : Ref sig .tc := ⟨.hbm, 94, rfl⟩
abbrev main_v48 : Ref sig .tc := ⟨.hbm, 95, rfl⟩
abbrev main_v49 : Ref sig .tc := ⟨.hbm, 96, rfl⟩
abbrev main_cst_9 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_c_10 : Ref sig .tc := ⟨.hbm, 106, rfl⟩
abbrev main_v58 : Ref sig .tc := ⟨.hbm, 107, rfl⟩
abbrev main_c_11 : Ref sig .tc := ⟨.hbm, 108, rfl⟩
abbrev main_call5_v0 : Ref sig .tc := ⟨.hbm, 109, rfl⟩
abbrev main_call5_v1 : Ref sig .tc := ⟨.hbm, 110, rfl⟩
abbrev main_v59 : Ref sig .tc := ⟨.hbm, 111, rfl⟩
abbrev main_c_12 : Ref sig .tc := ⟨.hbm, 112, rfl⟩
abbrev main_v60 : Ref sig .tc := ⟨.hbm, 113, rfl⟩
abbrev main_v61 : Ref sig .tc := ⟨.hbm, 114, rfl⟩
abbrev main_c_13 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_14 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_15 : Ref sig .tc := ⟨.hbm, 124, rfl⟩
abbrev main_v69 : Ref sig .tc := ⟨.hbm, 125, rfl⟩
abbrev main_v70 : Ref sig .tc := ⟨.hbm, 126, rfl⟩
abbrev main_cst_16 : Ref sig .tc := ⟨.hbm, 127, rfl⟩
abbrev main_v71 : Ref sig .tc := ⟨.hbm, 128, rfl⟩
abbrev main_v72 : Ref sig .tc := ⟨.hbm, 129, rfl⟩
abbrev main_cst_17 : Ref sig .tc := ⟨.hbm, 130, rfl⟩
abbrev main_v73 : Ref sig .tc := ⟨.hbm, 131, rfl⟩
abbrev main_v74 : Ref sig .tc := ⟨.hbm, 132, rfl⟩
abbrev main_cst_18 : Ref sig .tc := ⟨.hbm, 133, rfl⟩
abbrev main_call6_v0 : Ref sig .tc := ⟨.hbm, 134, rfl⟩
abbrev main_call6_v1 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_cst_19 : Ref sig .tc := ⟨.hbm, 139, rfl⟩
abbrev main_call7_v0 : Ref sig .tc := ⟨.hbm, 140, rfl⟩
abbrev main_call7_v1 : Ref sig .tc := ⟨.hbm, 141, rfl⟩
abbrev main_v78 : Ref sig .tc := ⟨.hbm, 142, rfl⟩
abbrev main_cst_20 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_c_21 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_call8_c : Ref sig .tc := ⟨.hbm, 154, rfl⟩
abbrev main_call8_v0 : Ref sig .tc := ⟨.hbm, 155, rfl⟩
abbrev main_call8_v1 : Ref sig .tc := ⟨.hbm, 156, rfl⟩
abbrev main_call8_c_0 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_c_1 : Ref sig .tc := ⟨.hbm, 162, rfl⟩
abbrev main_call8_c_2 : Ref sig .tc := ⟨.hbm, 163, rfl⟩
abbrev main_call8_v6 : Ref sig .tc := ⟨.hbm, 164, rfl⟩
abbrev main_call8_v7 : Ref sig .tc := ⟨.hbm, 165, rfl⟩
abbrev main_call8_v8 : Ref sig .tc := ⟨.hbm, 166, rfl⟩
abbrev main_call8_v9 : Ref sig .tc := ⟨.hbm, 167, rfl⟩
abbrev main_call8_v10 : Ref sig .tc := ⟨.hbm, 168, rfl⟩
abbrev main_call8_v11 : Ref sig .tc := ⟨.hbm, 169, rfl⟩
abbrev main_call8_c_3 : Ref sig .tc := ⟨.hbm, 170, rfl⟩
abbrev main_call8_v12 : Ref sig .tc := ⟨.hbm, 171, rfl⟩
abbrev main_call8_v13 : Ref sig .tc := ⟨.hbm, 172, rfl⟩
abbrev main_call8_v14 : Ref sig .tc := ⟨.hbm, 173, rfl⟩
abbrev main_call8_cst : Ref sig .tc := ⟨.hbm, 174, rfl⟩
abbrev main_call8_v15 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_cst_22 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_call9_v0 : Ref sig .tc := ⟨.hbm, 186, rfl⟩
abbrev main_call9_cst : Ref sig .tc := ⟨.hbm, 187, rfl⟩
abbrev main_call9_v1 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_call10_v0 : Ref sig .tc := ⟨.hbm, 192, rfl⟩
abbrev main_call10_cst : Ref sig .tc := ⟨.hbm, 193, rfl⟩
abbrev main_call10_v1 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_call11_v0 : Ref sig .tc := ⟨.hbm, 198, rfl⟩
abbrev main_call11_cst : Ref sig .tc := ⟨.hbm, 199, rfl⟩
abbrev main_call11_v1 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩

abbrev nD : Nat := 1
abbrev τ : Topo := Topo.v7x

variable {F : FTy → Type} [FloatOps F]
-- ==== Proof.Spec.lean ====
/- The mathematics of one vector-quantisation step over the extended reals: what a token's row `x` and the codebook `e`
   determine. Nothing here mentions a program. -/
module

public import Idealize.ShloMosaic.PureOps.Ideal.Laws
public import Idealize.ShloMosaic.Lib.IdealHost

@[expose] public section

noncomputable section

namespace Cert.Vq

open Idealize.ShloMosaic
open scoped BigOperators

/-- `k` is the first position at which `f` is least. -/
def IsFirstMin {n : ℕ} (f : Fin n → EReal) (k : Fin n) : Prop := (∀ j, f k ≤ f j) ∧ ∀ j, j < k → f k < f j

/-- `k` is the first position at which `f` is greatest. -/
def IsFirstMax {n : ℕ} (f : Fin n → EReal) (k : Fin n) : Prop := (∀ j, f j ≤ f k) ∧ ∀ j, j < k → f j < f k

/-- There is a first position of the minimum. -/
theorem exists_firstMin {n : ℕ} [NeZero n] (f : Fin n → EReal) : ∃ k, IsFirstMin f k := by
  classical
  have hne : (Finset.univ.filter fun k => ∀ j, f k ≤ f j).Nonempty := by
    obtain ⟨k, hk⟩ := Finite.exists_min f
    exact ⟨k, by simpa using hk⟩
  refine ⟨Finset.min' _ hne, ?_, fun j hj => ?_⟩
  · simpa using Finset.min'_mem _ hne
  · by_contra hlt
    have hm : ∀ i, f (Finset.min' _ hne) ≤ f i := by simpa using Finset.min'_mem _ hne
    have hj' : j ∈ Finset.univ.filter fun k => ∀ j, f k ≤ f j := by
      simp only [Finset.mem_filter, Finset.mem_univ, true_and]
      exact fun i => (not_lt.mp hlt).trans (hm i)
    exact absurd hj (not_lt.mpr (Finset.min'_le _ _ hj'))

/-- There is a first position of the maximum. -/
theorem exists_firstMax {n : ℕ} [NeZero n] (f : Fin n → EReal) : ∃ k, IsFirstMax f k := by
  obtain ⟨k, h1, h2⟩ := exists_firstMin fun j => -f j
  exact ⟨k, fun j => EReal.neg_le_neg_iff.mp (h1 j), fun j hj => EReal.neg_lt_neg_iff.mp (h2 j hj)⟩

/-- The first position of the minimum is unique. -/
theorem IsFirstMin.unique {n : ℕ} {f : Fin n → EReal} {k k' : Fin n} (h : IsFirstMin f k) (h' : IsFirstMin f k') : k = k' := by
  rcases lt_trichotomy k k' with hl | he | hl
  · exact absurd (h'.2 k hl) (not_lt.mpr (h.1 k'))
  · exact he
  · exact absurd (h.2 k' hl) (not_lt.mpr (h'.1 k))

/-- The first position of the maximum is unique. -/
theorem IsFirstMax.unique {n : ℕ} {f : Fin n → EReal} {k k' : Fin n} (h : IsFirstMax f k) (h' : IsFirstMax f k') : k = k' := by
  rcases lt_trichotomy k k' with hl | he | hl
  · exact absurd (h'.2 k hl) (not_lt.mpr (h.1 k'))
  · exact he
  · exact absurd (h.2 k' hl) (not_lt.mpr (h'.1 k))

/-- The first position of the minimum. -/
def firstMin {n : ℕ} [NeZero n] (f : Fin n → EReal) : Fin n := (exists_firstMin f).choose
/-- The first position of the maximum. -/
def firstMax {n : ℕ} [NeZero n] (f : Fin n → EReal) : Fin n := (exists_firstMax f).choose

/-- It is one. -/
theorem firstMin_spec {n : ℕ} [NeZero n] (f : Fin n → EReal) : IsFirstMin f (firstMin f) := (exists_firstMin f).choose_spec
/-- It is one. -/
theorem firstMax_spec {n : ℕ} [NeZero n] (f : Fin n → EReal) : IsFirstMax f (firstMax f) := (exists_firstMax f).choose_spec
/-- A first minimum is the first minimum. -/
theorem IsFirstMin.eq {n : ℕ} [NeZero n] {f : Fin n → EReal} {k : Fin n} (h : IsFirstMin f k) : k = firstMin f :=
  h.unique (firstMin_spec f)
/-- A first maximum is the first maximum. -/
theorem IsFirstMax.eq {n : ℕ} [NeZero n] {f : Fin n → EReal} {k : Fin n} (h : IsFirstMax f k) : k = firstMax f :=
  h.unique (firstMax_spec f)

/-- The distance of row `x` from codebook entry `k`. -/
def vdist (x : Fin 64 → EReal) (e : Fin 512 → Fin 64 → EReal) (k : Fin 512) : EReal :=
  Ideal.sqrt (∑ v, (x v - e k v) * (x v - e k v))

/-- Entry `s` of group `g`: the codebook is cut in 64 runs of 8. -/
def atom (g : Fin 64) (s : Fin 8) : Fin 512 := ⟨8 * g.val + s.val, by omega⟩
/-- The group of entry `k`. -/
def grp (k : Fin 512) : Fin 64 := ⟨k.val / 8, by omega⟩

/-- The mean distance of a group. -/
def gdist (d : Fin 512 → EReal) (g : Fin 64) : EReal :=
  Ideal.div (∑ s, d (atom g s)) (Ideal.ofBits .f32 0x41000000#32)

/-- The nearest entry. -/
def idxAtom (d : Fin 512 → EReal) : Fin 512 := firstMin d
/-- The nearest group. -/
def idxGroup (d : Fin 512 → EReal) : Fin 64 := firstMin (gdist d)

/-- The weight of entry `k`: the reciprocal distance inside the nearest group, zero outside. -/
def weight (d : Fin 512 → EReal) (k : Fin 512) : EReal := if grp k = idxGroup d then Ideal.div 1 (d k) else 0

/-- What the weights are divided by: their absolute sum, kept from zero. -/
def denom (w : Fin 512 → EReal) : EReal := max (∑ k, max (w k) (-(w k))) (Ideal.ofBits .f32 0x2B8CBCCC#32)

/-- The weighted mean of the codebook entries, one coordinate. -/
def mix (w : Fin 512 → EReal) (e : Fin 512 → Fin 64 → EReal) (v : Fin 64) : EReal :=
  ∑ k, Ideal.div (w k) (denom w) * e k v

/-- The mixture of row `x`. -/
def out (x : Fin 64 → EReal) (e : Fin 512 → Fin 64 → EReal) (v : Fin 64) : EReal := mix (weight (vdist x e)) e v

/-- The straight-through value. -/
def disc (x : Fin 64 → EReal) (e : Fin 512 → Fin 64 → EReal) (v : Fin 64) : EReal := (out x e v - x v) + x v

/-- The norm of the difference of the row and its mixture. -/
def penRoot (x : Fin 64 → EReal) (e : Fin 512 → Fin 64 → EReal) : EReal :=
  Ideal.sqrt (∑ v, (x v - out x e v) * (x v - out x e v))
/-- Its square: the penalty. -/
def pen (x : Fin 64 → EReal) (e : Fin 512 → Fin 64 → EReal) : EReal := penRoot x e * penRoot x e

/-- The entry of greatest weight. -/
def winner (x : Fin 64 → EReal) (e : Fin 512 → Fin 64 → EReal) : Fin 512 := firstMax (weight (vdist x e))

/-- How many of the `2048` rows win entry `k`. -/
def hist (xs : Fin 2048 → Fin 64 → EReal) (e : Fin 512 → Fin 64 → EReal) (k : Fin 512) : EReal :=
  ∑ n, if winner (xs n) e = k then 1 else 0

/-- One entry's part of the entropy, from its count. -/
def entTerm (h : EReal) : EReal :=
  if 0 < h then
    Ideal.div h (Ideal.ofBits .f32 0x45000000#32) * Ideal.log (Ideal.div h (Ideal.ofBits .f32 0x45000000#32))
  else 0
/-- The entropy of the counts. -/
def entropy (h : Fin 512 → EReal) : EReal := -∑ k, entTerm (h k)

/-! ## Two sums rearranged -/

/-- Eight more terms, added as a balanced tree, extend a partial sum. -/
theorem chunk (g : ℕ → EReal) (a : ℕ) :
    (∑ i ∈ Finset.range a, g i)
        + (((g a + g (a + 4)) + (g (a + 2) + g (a + 6))) + ((g (a + 1) + g (a + 5)) + (g (a + 3) + g (a + 7))))
      = ∑ i ∈ Finset.range (a + 8), g i := by
  simp only [Finset.sum_range_succ, ← add_assoc, show a + 8 = a + 7 + 1 from rfl, show a + 7 = a + 6 + 1 from rfl,
    show a + 6 = a + 5 + 1 from rfl, show a + 5 = a + 4 + 1 from rfl, show a + 4 = a + 3 + 1 from rfl,
    show a + 3 = a + 2 + 1 from rfl, show a + 2 = a + 1 + 1 from rfl]
  abel

/-- The first eight, alone. -/
theorem chunk_zero (g : ℕ → EReal) :
    (((g 0 + g 4) + (g 2 + g 6)) + ((g 1 + g 5) + (g 3 + g 7))) = ∑ i ∈ Finset.range 8, g i := by
  have h := chunk g 0
  simpa using h

end Cert.Vq

end
-- ==== Proof.KerDist.lean ====
/- The kernel's block computation: the distances of the block's 1024 rows from the 512 codebook entries. -/
module

public import proofs.«01_k».proof.Proof.Spec
public import proofs.«01_k».proof.Proof.Gen.KernelIdeal.Skeleton
public import Idealize.ShloMosaic.Lib.Pipeline.Value
public import Idealize.ShloMosaic.Lib.ValueIdx

@[expose] public section

noncomputable section

namespace Cert.KernelIdeal.Block

open Cert.KernelIdeal Cert.KernelIdeal.Gen Idealize.ShloMosaic Idealize.ShloMosaic.ValueIdx Cert.Vq
open scoped BigOperators

/-- A column of the rows, spread over the entries, reads the row's coordinate. -/
theorem col_apply (v : ℕ) (hv : v < 64) (x : FVec Ideal S1024x64 .f32) (h0 : S1024x64.Slices ![0, v] S1024x1)
    (h1 : S1024x1.ShapeCasts S1024) (h2 : S1024.ShapeCasts S1024x1) (h3 : S1024x1.Broadcasts S1024x512) (r : Fin 1024) (k : Fin 512) :
    broadcastTo S1024x512 (shapeCast S1024x1 (shapeCast S1024 (extractStridedSlice S1024x1 ![0, v] x h0) h1) h2) h3 (ix2 r k)
      = x (ix2 r ⟨v, hv⟩) := by
  rw [broadcastTo_apply _ h3 (ix2 r k) (ix2 r 0) (by
    intro a; match a with | ⟨0, _⟩ => rfl | ⟨1, _⟩ => rfl)]
  rw [shapeCast_shapeCast]
  exact extractStridedSlice_apply _ _ h0 _ _ (by
    intro a; match a with | ⟨0, _⟩ => simp | ⟨1, _⟩ => simp)

/-- A row of the transposed codebook, spread over the block's rows, reads the entry's coordinate. -/
theorem row_apply (v : ℕ) (hv : v < 64) (y : FVec Ideal S64x512 .f32) (h0 : S64x512.Slices ![v, 0] S1x512)
    (h1 : S1x512.ShapeCasts S512) (h2 : S512.ShapeCasts S1x512) (h3 : S1x512.Broadcasts S1024x512) (r : Fin 1024) (k : Fin 512) :
    broadcastTo S1024x512 (shapeCast S1x512 (shapeCast S512 (extractStridedSlice S1x512 ![v, 0] y h0) h1) h2) h3 (ix2 r k)
      = y (ix2 ⟨v, hv⟩ k) := by
  rw [broadcastTo_apply _ h3 (ix2 r k) (ix2 0 k) (by
    intro a; match a with | ⟨0, _⟩ => rfl | ⟨1, _⟩ => rfl)]
  rw [shapeCast_shapeCast]
  exact extractStridedSlice_apply _ _ h0 _ _ (by
    intro a; match a with | ⟨0, _⟩ => simp | ⟨1, _⟩ => simp)

/-- The squared difference of row `r` and entry `k` in coordinate `v`. -/
def tm (x : FVec Ideal S1024x64 .f32) (y : FVec Ideal S64x512 .f32) (r : Fin 1024) (k : Fin 512) (v : ℕ) : EReal :=
  if h : v < 64 then (x (ix2 r ⟨v, h⟩) - y (ix2 ⟨v, h⟩ k)) * (x (ix2 r ⟨v, h⟩) - y (ix2 ⟨v, h⟩ k)) else 0

/-- One coordinate's term of the kernel is that squared difference. -/
theorem term (v : ℕ) (hv : v < 64) (x : FVec Ideal S1024x64 .f32) (y : FVec Ideal S64x512 .f32) (h0 : S1024x64.Slices ![0, v] S1024x1)
    (h1 : S1024x1.ShapeCasts S1024) (h2 : S1024.ShapeCasts S1024x1) (h3 : S1024x1.Broadcasts S1024x512)
    (g0 : S64x512.Slices ![v, 0] S1x512) (g1 : S1x512.ShapeCasts S512) (g2 : S512.ShapeCasts S1x512) (g3 : S1x512.Broadcasts S1024x512)
    (r : Fin 1024) (k : Fin 512) :
    mulf (subf (broadcastTo S1024x512 (shapeCast S1024x1 (shapeCast S1024 (extractStridedSlice S1024x1 ![0, v] x h0) h1) h2) h3)
          (broadcastTo S1024x512 (shapeCast S1x512 (shapeCast S512 (extractStridedSlice S1x512 ![v, 0] y g0) g1) g2) g3))
        (subf (broadcastTo S1024x512 (shapeCast S1024x1 (shapeCast S1024 (extractStridedSlice S1024x1 ![0, v] x h0) h1) h2) h3)
          (broadcastTo S1024x512 (shapeCast S1x512 (shapeCast S512 (extractStridedSlice S1x512 ![v, 0] y g0) g1) g2) g3)) (ix2 r k)
      = tm x y r k v := by
  rw [mulf_apply, subf_apply, col_apply v hv, row_apply v hv, tm, dif_pos hv]

/-- Eight terms added as a tree onto a partial sum. -/
theorem step (x : FVec Ideal S1024x64 .f32) (y : FVec Ideal S64x512 .f32) (r : Fin 1024) (k : Fin 512) (a : ℕ)
    {acc t0 t1 t2 t3 t4 t5 t6 t7 : FVec Ideal S1024x512 .f32}
    (hacc : acc (ix2 r k) = ∑ i ∈ Finset.range a, tm x y r k i)
    (e0 : t0 (ix2 r k) = tm x y r k a) (e1 : t1 (ix2 r k) = tm x y r k (a + 1)) (e2 : t2 (ix2 r k) = tm x y r k (a + 2))
    (e3 : t3 (ix2 r k) = tm x y r k (a + 3)) (e4 : t4 (ix2 r k) = tm x y r k (a + 4)) (e5 : t5 (ix2 r k) = tm x y r k (a + 5))
    (e6 : t6 (ix2 r k) = tm x y r k (a + 6)) (e7 : t7 (ix2 r k) = tm x y r k (a + 7)) :
    addf acc (addf (addf (addf t0 t4) (addf t2 t6)) (addf (addf t1 t5) (addf t3 t7))) (ix2 r k)
      = ∑ i ∈ Finset.range (a + 8), tm x y r k i := by
  simp only [addf_apply, hacc, e0, e1, e2, e3, e4, e5, e6, e7]
  exact chunk _ a

/-- The first eight terms added as a tree. -/
theorem step0 (x : FVec Ideal S1024x64 .f32) (y : FVec Ideal S64x512 .f32) (r : Fin 1024) (k : Fin 512)
    {t0 t1 t2 t3 t4 t5 t6 t7 : FVec Ideal S1024x512 .f32}
    (e0 : t0 (ix2 r k) = tm x y r k 0) (e1 : t1 (ix2 r k) = tm x y r k 1) (e2 : t2 (ix2 r k) = tm x y r k 2)
    (e3 : t3 (ix2 r k) = tm x y r k 3) (e4 : t4 (ix2 r k) = tm x y r k 4) (e5 : t5 (ix2 r k) = tm x y r k 5)
    (e6 : t6 (ix2 r k) = tm x y r k 6) (e7 : t7 (ix2 r k) = tm x y r k 7) :
    addf (addf (addf t0 t4) (addf t2 t6)) (addf (addf t1 t5) (addf t3 t7)) (ix2 r k)
      = ∑ i ∈ Finset.range 8, tm x y r k i := by
  simp only [addf_apply, e0, e1, e2, e3, e4, e5, e6, e7]
  exact chunk_zero _

section
variable {F : FTy → Type} [FloatOps F]

/-- The sum of the squared differences over the first 8 coordinates, as the kernel adds them. -/
def acc1 (v0 : Vec F S1024x64 .f32) (v4 : Vec F S64x512 .f32) : FVec F S1024x512 .f32 :=
  k0_pay11 (k0_pay2 v0) (k0_pay4 v4) (k0_pay5 v0 v4) (k0_pay6 v0 v4) (k0_pay7 v0 v4) (k0_pay8 v0 v4) (k0_pay9 v4) (k0_pay10 v0)

/-- The sum of the squared differences over the first 16 coordinates, as the kernel adds them. -/
def acc2 (v0 : Vec F S1024x64 .f32) (v4 : Vec F S64x512 .f32) : FVec F S1024x512 .f32 :=
  k0_pay20 (acc1 v0 v4) (k0_pay12 (k0_pay2 v0) (k0_pay4 v4)) (k0_pay13 (k0_pay2 v0) (k0_pay4 v4)) (k0_pay14 (k0_pay2 v0) (k0_pay4 v4)) (k0_pay15 (k0_pay2 v0) (k0_pay4 v4)) (k0_pay16 (k0_pay2 v0) (k0_pay4 v4)) (k0_pay17 (k0_pay2 v0) (k0_pay4 v4)) (k0_pay18 (k0_pay2 v0) (k0_pay4 v4)) (k0_pay19 (k0_pay2 v0) (k0_pay4 v4))

/-- The sum of the squared differences over the first 24 coordinates, as the kernel adds them. -/
def acc3 (v0 : Vec F S1024x64 .f32) (v4 : Vec F S64x512 .f32) : FVec F S1024x512 .f32 :=
  k0_pay27 (k0_pay2 v0) (k0_pay4 v4) (acc2 v0 v4) (k0_pay21 (k0_pay2 v0) (k0_pay4 v4)) (k0_pay22 (k0_pay2 v0) (k0_pay4 v4)) (k0_pay23 (k0_pay2 v0) (k0_pay4 v4)) (k0_pay24 (k0_pay2 v0) (k0_pay4 v4)) (k0_pay25 (k0_pay2 v0) (k0_pay4 v4)) (k0_pay26 (k0_pay2 v0))

/-- The sum of the squared differences over the first 32 coordinates, as the kernel adds them. -/
def acc4 (v0 : Vec F S1024x64 .f32) (v4 : Vec F S64x512 .f32) : FVec F S1024x512 .f32 :=
  k0_pay36 (acc3 v0 v4) (k0_pay32 (k0_pay2 v0) (k0_pay4 v4) (k0_pay28 (k0_pay2 v0) (k0_pay4 v4))) (k0_pay33 (k0_pay2 v0) (k0_pay4 v4) (k0_pay29 (k0_pay2 v0) (k0_pay4 v4))) (k0_pay34 (k0_pay2 v0) (k0_pay4 v4) (k0_pay30 (k0_pay2 v0)) (k0_pay31 (k0_pay4 v4))) (k0_pay35 (k0_pay2 v0) (k0_pay4 v4))

/-- The sum of the squared differences over the first 40 coordinates, as the kernel adds them. -/
def acc5 (v0 : Vec F S1024x64 .f32) (v4 : Vec F S64x512 .f32) : FVec F S1024x512 .f32 :=
  k0_pay44 (k0_pay2 v0) (k0_pay4 v4) (acc4 v0 v4) (k0_pay37 (k0_pay2 v0) (k0_pay4 v4)) (k0_pay38 (k0_pay2 v0) (k0_pay4 v4)) (k0_pay39 (k0_pay2 v0) (k0_pay4 v4)) (k0_pay40 (k0_pay2 v0) (k0_pay4 v4)) (k0_pay41 (k0_pay2 v0) (k0_pay4 v4)) (k0_pay42 (k0_pay2 v0)) (k0_pay43 (k0_pay4 v4))

/-- The sum of the squared differences over the first 48 coordinates, as the kernel adds them. -/
def acc6 (v0 : Vec F S1024x64 .f32) (v4 : Vec F S64x512 .f32) : FVec F S1024x512 .f32 :=
  k0_pay49 (k0_pay2 v0) (k0_pay4 v4) (acc5 v0 v4) (k0_pay45 (k0_pay2 v0) (k0_pay4 v4)) (k0_pay46 (k0_pay2 v0) (k0_pay4 v4)) (k0_pay47 (k0_pay2 v0)) (k0_pay48 (k0_pay4 v4))

/-- The sum of the squared differences over the first 56 coordinates, as the kernel adds them. -/
def acc7 (v0 : Vec F S1024x64 .f32) (v4 : Vec F S64x512 .f32) : FVec F S1024x512 .f32 :=
  k0_pay56 (k0_pay2 v0) (k0_pay4 v4) (acc6 v0 v4) (k0_pay50 (k0_pay2 v0) (k0_pay4 v4)) (k0_pay51 (k0_pay2 v0) (k0_pay4 v4)) (k0_pay52 (k0_pay2 v0) (k0_pay4 v4)) (k0_pay53 (k0_pay2 v0) (k0_pay4 v4)) (k0_pay54 (k0_pay2 v0) (k0_pay4 v4)) (k0_pay55 (k0_pay2 v0) (k0_pay4 v4))

/-- The distances, as the kernel computes them. -/
def kdist (v0 : Vec F S1024x64 .f32) (v4 : Vec F S64x512 .f32) : FVec F S1024x512 .f32 :=
  k0_pay61 (k0_pay2 v0) (k0_pay4 v4) (acc7 v0 v4) (k0_pay57 (k0_pay2 v0) (k0_pay4 v4)) (k0_pay58 (k0_pay2 v0) (k0_pay4 v4)) (k0_pay59 (k0_pay2 v0) (k0_pay4 v4)) (k0_pay60 (k0_pay2 v0))

end

variable (v0 : Vec Ideal S1024x64 .f32) (v4 : Vec Ideal S64x512 .f32) (r : Fin 1024) (k : Fin 512)

/-- It is that sum. -/
theorem acc1_apply : acc1 v0 v4 (ix2 r k) = ∑ i ∈ Finset.range 8, tm (k0_pay2 v0) (k0_pay4 v4) r k i :=
  step0 (k0_pay2 v0) (k0_pay4 v4) r k
    (term 0 (by decide) _ _ slices_S1024x64_o0_0_S1024x1 shapeCasts_S1024x1_S1024 shapeCasts_S1024_S1024x1 broadcasts_S1024x1_S1024x512 slices_S64x512_o0_0_S1x512 shapeCasts_S1x512_S512 shapeCasts_S512_S1x512 broadcasts_S1x512_S1024x512 r k)
    (term 1 (by decide) _ _ slices_S1024x64_o0_1_S1024x1 shapeCasts_S1024x1_S1024 shapeCasts_S1024_S1024x1 broadcasts_S1024x1_S1024x512 slices_S64x512_o1_0_S1x512 shapeCasts_S1x512_S512 shapeCasts_S512_S1x512 broadcasts_S1x512_S1024x512 r k)
    (term 2 (by decide) _ _ slices_S1024x64_o0_2_S1024x1 shapeCasts_S1024x1_S1024 shapeCasts_S1024_S1024x1 broadcasts_S1024x1_S1024x512 slices_S64x512_o2_0_S1x512 shapeCasts_S1x512_S512 shapeCasts_S512_S1x512 broadcasts_S1x512_S1024x512 r k)
    (term 3 (by decide) _ _ slices_S1024x64_o0_3_S1024x1 shapeCasts_S1024x1_S1024 shapeCasts_S1024_S1024x1 broadcasts_S1024x1_S1024x512 slices_S64x512_o3_0_S1x512 shapeCasts_S1x512_S512 shapeCasts_S512_S1x512 broadcasts_S1x512_S1024x512 r k)
    (term 4 (by decide) _ _ slices_S1024x64_o0_4_S1024x1 shapeCasts_S1024x1_S1024 shapeCasts_S1024_S1024x1 broadcasts_S1024x1_S1024x512 slices_S64x512_o4_0_S1x512 shapeCasts_S1x512_S512 shapeCasts_S512_S1x512 broadcasts_S1x512_S1024x512 r k)
    (term 5 (by decide) _ _ slices_S1024x64_o0_5_S1024x1 shapeCasts_S1024x1_S1024 shapeCasts_S1024_S1024x1 broadcasts_S1024x1_S1024x512 slices_S64x512_o5_0_S1x512 shapeCasts_S1x512_S512 shapeCasts_S512_S1x512 broadcasts_S1x512_S1024x512 r k)
    (term 6 (by decide) _ _ slices_S1024x64_o0_6_S1024x1 shapeCasts_S1024x1_S1024 shapeCasts_S1024_S1024x1 broadcasts_S1024x1_S1024x512 slices_S64x512_o6_0_S1x512 shapeCasts_S1x512_S512 shapeCasts_S512_S1x512 broadcasts_S1x512_S1024x512 r k)
    (term 7 (by decide) _ _ slices_S1024x64_o0_7_S1024x1 shapeCasts_S1024x1_S1024 shapeCasts_S1024_S1024x1 broadcasts_S1024x1_S1024x512 slices_S64x512_o7_0_S1x512 shapeCasts_S1x512_S512 shapeCasts_S512_S1x512 broadcasts_S1x512_S1024x512 r k)

/-- It is that sum. -/
theorem acc2_apply : acc2 v0 v4 (ix2 r k) = ∑ i ∈ Finset.range 16, tm (k0_pay2 v0) (k0_pay4 v4) r k i :=
  step (k0_pay2 v0) (k0_pay4 v4) r k 8 (acc1_apply v0 v4 r k)
    (term 8 (by decide) _ _ slices_S1024x64_o0_8_S1024x1 shapeCasts_S1024x1_S1024 shapeCasts_S1024_S1024x1 broadcasts_S1024x1_S1024x512 slices_S64x512_o8_0_S1x512 shapeCasts_S1x512_S512 shapeCasts_S512_S1x512 broadcasts_S1x512_S1024x512 r k)
    (term 9 (by decide) _ _ slices_S1024x64_o0_9_S1024x1 shapeCasts_S1024x1_S1024 shapeCasts_S1024_S1024x1 broadcasts_S1024x1_S1024x512 slices_S64x512_o9_0_S1x512 shapeCasts_S1x512_S512 shapeCasts_S512_S1x512 broadcasts_S1x512_S1024x512 r k)
    (term 10 (by decide) _ _ slices_S1024x64_o0_10_S1024x1 shapeCasts_S1024x1_S1024 shapeCasts_S1024_S1024x1 broadcasts_S1024x1_S1024x512 slices_S64x512_o10_0_S1x512 shapeCasts_S1x512_S512 shapeCasts_S512_S1x512 broadcasts_S1x512_S1024x512 r k)
    (term 11 (by decide) _ _ slices_S1024x64_o0_11_S1024x1 shapeCasts_S1024x1_S1024 shapeCasts_S1024_S1024x1 broadcasts_S1024x1_S1024x512 slices_S64x512_o11_0_S1x512 shapeCasts_S1x512_S512 shapeCasts_S512_S1x512 broadcasts_S1x512_S1024x512 r k)
    (term 12 (by decide) _ _ slices_S1024x64_o0_12_S1024x1 shapeCasts_S1024x1_S1024 shapeCasts_S1024_S1024x1 broadcasts_S1024x1_S1024x512 slices_S64x512_o12_0_S1x512 shapeCasts_S1x512_S512 shapeCasts_S512_S1x512 broadcasts_S1x512_S1024x512 r k)
    (term 13 (by decide) _ _ slices_S1024x64_o0_13_S1024x1 shapeCasts_S1024x1_S1024 shapeCasts_S1024_S1024x1 broadcasts_S1024x1_S1024x512 slices_S64x512_o13_0_S1x512 shapeCasts_S1x512_S512 shapeCasts_S512_S1x512 broadcasts_S1x512_S1024x512 r k)
    (term 14 (by decide) _ _ slices_S1024x64_o0_14_S1024x1 shapeCasts_S1024x1_S1024 shapeCasts_S1024_S1024x1 broadcasts_S1024x1_S1024x512 slices_S64x512_o14_0_S1x512 shapeCasts_S1x512_S512 shapeCasts_S512_S1x512 broadcasts_S1x512_S1024x512 r k)
    (term 15 (by decide) _ _ slices_S1024x64_o0_15_S1024x1 shapeCasts_S1024x1_S1024 shapeCasts_S1024_S1024x1 broadcasts_S1024x1_S1024x512 slices_S64x512_o15_0_S1x512 shapeCasts_S1x512_S512 shapeCasts_S512_S1x512 broadcasts_S1x512_S1024x512 r k)

/-- It is that sum. -/
theorem acc3_apply : acc3 v0 v4 (ix2 r k) = ∑ i ∈ Finset.range 24, tm (k0_pay2 v0) (k0_pay4 v4) r k i :=
  step (k0_pay2 v0) (k0_pay4 v4) r k 16 (acc2_apply v0 v4 r k)
    (term 16 (by decide) _ _ slices_S1024x64_o0_16_S1024x1 shapeCasts_S1024x1_S1024 shapeCasts_S1024_S1024x1 broadcasts_S1024x1_S1024x512 slices_S64x512_o16_0_S1x512 shapeCasts_S1x512_S512 shapeCasts_S512_S1x512 broadcasts_S1x512_S1024x512 r k)
    (term 17 (by decide) _ _ slices_S1024x64_o0_17_S1024x1 shapeCasts_S1024x1_S1024 shapeCasts_S1024_S1024x1 broadcasts_S1024x1_S1024x512 slices_S64x512_o17_0_S1x512 shapeCasts_S1x512_S512 shapeCasts_S512_S1x512 broadcasts_S1x512_S1024x512 r k)
    (term 18 (by decide) _ _ slices_S1024x64_o0_18_S1024x1 shapeCasts_S1024x1_S1024 shapeCasts_S1024_S1024x1 broadcasts_S1024x1_S1024x512 slices_S64x512_o18_0_S1x512 shapeCasts_S1x512_S512 shapeCasts_S512_S1x512 broadcasts_S1x512_S1024x512 r k)
    (term 19 (by decide) _ _ slices_S1024x64_o0_19_S1024x1 shapeCasts_S1024x1_S1024 shapeCasts_S1024_S1024x1 broadcasts_S1024x1_S1024x512 slices_S64x512_o19_0_S1x512 shapeCasts_S1x512_S512 shapeCasts_S512_S1x512 broadcasts_S1x512_S1024x512 r k)
    (term 20 (by decide) _ _ slices_S1024x64_o0_20_S1024x1 shapeCasts_S1024x1_S1024 shapeCasts_S1024_S1024x1 broadcasts_S1024x1_S1024x512 slices_S64x512_o20_0_S1x512 shapeCasts_S1x512_S512 shapeCasts_S512_S1x512 broadcasts_S1x512_S1024x512 r k)
    (term 21 (by decide) _ _ slices_S1024x64_o0_21_S1024x1 shapeCasts_S1024x1_S1024 shapeCasts_S1024_S1024x1 broadcasts_S1024x1_S1024x512 slices_S64x512_o21_0_S1x512 shapeCasts_S1x512_S512 shapeCasts_S512_S1x512 broadcasts_S1x512_S1024x512 r k)
    (term 22 (by decide) _ _ slices_S1024x64_o0_22_S1024x1 shapeCasts_S1024x1_S1024 shapeCasts_S1024_S1024x1 broadcasts_S1024x1_S1024x512 slices_S64x512_o22_0_S1x512 shapeCasts_S1x512_S512 shapeCasts_S512_S1x512 broadcasts_S1x512_S1024x512 r k)
    (term 23 (by decide) _ _ slices_S1024x64_o0_23_S1024x1 shapeCasts_S1024x1_S1024 shapeCasts_S1024_S1024x1 broadcasts_S1024x1_S1024x512 slices_S64x512_o23_0_S1x512 shapeCasts_S1x512_S512 shapeCasts_S512_S1x512 broadcasts_S1x512_S1024x512 r k)

/-- It is that sum. -/
theorem acc4_apply : acc4 v0 v4 (ix2 r k) = ∑ i ∈ Finset.range 32, tm (k0_pay2 v0) (k0_pay4 v4) r k i :=
  step (k0_pay2 v0) (k0_pay4 v4) r k 24 (acc3_apply v0 v4 r k)
    (term 24 (by decide) _ _ slices_S1024x64_o0_24_S1024x1 shapeCasts_S1024x1_S1024 shapeCasts_S1024_S1024x1 broadcasts_S1024x1_S1024x512 slices_S64x512_o24_0_S1x512 shapeCasts_S1x512_S512 shapeCasts_S512_S1x512 broadcasts_S1x512_S1024x512 r k)
    (term 25 (by decide) _ _ slices_S1024x64_o0_25_S1024x1 shapeCasts_S1024x1_S1024 shapeCasts_S1024_S1024x1 broadcasts_S1024x1_S1024x512 slices_S64x512_o25_0_S1x512 shapeCasts_S1x512_S512 shapeCasts_S512_S1x512 broadcasts_S1x512_S1024x512 r k)
    (term 26 (by decide) _ _ slices_S1024x64_o0_26_S1024x1 shapeCasts_S1024x1_S1024 shapeCasts_S1024_S1024x1 broadcasts_S1024x1_S1024x512 slices_S64x512_o26_0_S1x512 shapeCasts_S1x512_S512 shapeCasts_S512_S1x512 broadcasts_S1x512_S1024x512 r k)
    (term 27 (by decide) _ _ slices_S1024x64_o0_27_S1024x1 shapeCasts_S1024x1_S1024 shapeCasts_S1024_S1024x1 broadcasts_S1024x1_S1024x512 slices_S64x512_o27_0_S1x512 shapeCasts_S1x512_S512 shapeCasts_S512_S1x512 broadcasts_S1x512_S1024x512 r k)
    (term 28 (by decide) _ _ slices_S1024x64_o0_28_S1024x1 shapeCasts_S1024x1_S1024 shapeCasts_S1024_S1024x1 broadcasts_S1024x1_S1024x512 slices_S64x512_o28_0_S1x512 shapeCasts_S1x512_S512 shapeCasts_S512_S1x512 broadcasts_S1x512_S1024x512 r k)
    (term 29 (by decide) _ _ slices_S1024x64_o0_29_S1024x1 shapeCasts_S1024x1_S1024 shapeCasts_S1024_S1024x1 broadcasts_S1024x1_S1024x512 slices_S64x512_o29_0_S1x512 shapeCasts_S1x512_S512 shapeCasts_S512_S1x512 broadcasts_S1x512_S1024x512 r k)
    (term 30 (by decide) _ _ slices_S1024x64_o0_30_S1024x1 shapeCasts_S1024x1_S1024 shapeCasts_S1024_S1024x1 broadcasts_S1024x1_S1024x512 slices_S64x512_o30_0_S1x512 shapeCasts_S1x512_S512 shapeCasts_S512_S1x512 broadcasts_S1x512_S1024x512 r k)
    (term 31 (by decide) _ _ slices_S1024x64_o0_31_S1024x1 shapeCasts_S1024x1_S1024 shapeCasts_S1024_S1024x1 broadcasts_S1024x1_S1024x512 slices_S64x512_o31_0_S1x512 shapeCasts_S1x512_S512 shapeCasts_S512_S1x512 broadcasts_S1x512_S1024x512 r k)

/-- It is that sum. -/
theorem acc5_apply : acc5 v0 v4 (ix2 r k) = ∑ i ∈ Finset.range 40, tm (k0_pay2 v0) (k0_pay4 v4) r k i :=
  step (k0_pay2 v0) (k0_pay4 v4) r k 32 (acc4_apply v0 v4 r k)
    (term 32 (by decide) _ _ slices_S1024x64_o0_32_S1024x1 shapeCasts_S1024x1_S1024 shapeCasts_S1024_S1024x1 broadcasts_S1024x1_S1024x512 slices_S64x512_o32_0_S1x512 shapeCasts_S1x512_S512 shapeCasts_S512_S1x512 broadcasts_S1x512_S1024x512 r k)
    (term 33 (by decide) _ _ slices_S1024x64_o0_33_S1024x1 shapeCasts_S1024x1_S1024 shapeCasts_S1024_S1024x1 broadcasts_S1024x1_S1024x512 slices_S64x512_o33_0_S1x512 shapeCasts_S1x512_S512 shapeCasts_S512_S1x512 broadcasts_S1x512_S1024x512 r k)
    (term 34 (by decide) _ _ slices_S1024x64_o0_34_S1024x1 shapeCasts_S1024x1_S1024 shapeCasts_S1024_S1024x1 broadcasts_S1024x1_S1024x512 slices_S64x512_o34_0_S1x512 shapeCasts_S1x512_S512 shapeCasts_S512_S1x512 broadcasts_S1x512_S1024x512 r k)
    (term 35 (by decide) _ _ slices_S1024x64_o0_35_S1024x1 shapeCasts_S1024x1_S1024 shapeCasts_S1024_S1024x1 broadcasts_S1024x1_S1024x512 slices_S64x512_o35_0_S1x512 shapeCasts_S1x512_S512 shapeCasts_S512_S1x512 broadcasts_S1x512_S1024x512 r k)
    (term 36 (by decide) _ _ slices_S1024x64_o0_36_S1024x1 shapeCasts_S1024x1_S1024 shapeCasts_S1024_S1024x1 broadcasts_S1024x1_S1024x512 slices_S64x512_o36_0_S1x512 shapeCasts_S1x512_S512 shapeCasts_S512_S1x512 broadcasts_S1x512_S1024x512 r k)
    (term 37 (by decide) _ _ slices_S1024x64_o0_37_S1024x1 shapeCasts_S1024x1_S1024 shapeCasts_S1024_S1024x1 broadcasts_S1024x1_S1024x512 slices_S64x512_o37_0_S1x512 shapeCasts_S1x512_S512 shapeCasts_S512_S1x512 broadcasts_S1x512_S1024x512 r k)
    (term 38 (by decide) _ _ slices_S1024x64_o0_38_S1024x1 shapeCasts_S1024x1_S1024 shapeCasts_S1024_S1024x1 broadcasts_S1024x1_S1024x512 slices_S64x512_o38_0_S1x512 shapeCasts_S1x512_S512 shapeCasts_S512_S1x512 broadcasts_S1x512_S1024x512 r k)
    (term 39 (by decide) _ _ slices_S1024x64_o0_39_S1024x1 shapeCasts_S1024x1_S1024 shapeCasts_S1024_S1024x1 broadcasts_S1024x1_S1024x512 slices_S64x512_o39_0_S1x512 shapeCasts_S1x512_S512 shapeCasts_S512_S1x512 broadcasts_S1x512_S1024x512 r k)

/-- It is that sum. -/
theorem acc6_apply : acc6 v0 v4 (ix2 r k) = ∑ i ∈ Finset.range 48, tm (k0_pay2 v0) (k0_pay4 v4) r k i :=
  step (k0_pay2 v0) (k0_pay4 v4) r k 40 (acc5_apply v0 v4 r k)
    (term 40 (by decide) _ _ slices_S1024x64_o0_40_S1024x1 shapeCasts_S1024x1_S1024 shapeCasts_S1024_S1024x1 broadcasts_S1024x1_S1024x512 slices_S64x512_o40_0_S1x512 shapeCasts_S1x512_S512 shapeCasts_S512_S1x512 broadcasts_S1x512_S1024x512 r k)
    (term 41 (by decide) _ _ slices_S1024x64_o0_41_S1024x1 shapeCasts_S1024x1_S1024 shapeCasts_S1024_S1024x1 broadcasts_S1024x1_S1024x512 slices_S64x512_o41_0_S1x512 shapeCasts_S1x512_S512 shapeCasts_S512_S1x512 broadcasts_S1x512_S1024x512 r k)
    (term 42 (by decide) _ _ slices_S1024x64_o0_42_S1024x1 shapeCasts_S1024x1_S1024 shapeCasts_S1024_S1024x1 broadcasts_S1024x1_S1024x512 slices_S64x512_o42_0_S1x512 shapeCasts_S1x512_S512 shapeCasts_S512_S1x512 broadcasts_S1x512_S1024x512 r k)
    (term 43 (by decide) _ _ slices_S1024x64_o0_43_S1024x1 shapeCasts_S1024x1_S1024 shapeCasts_S1024_S1024x1 broadcasts_S1024x1_S1024x512 slices_S64x512_o43_0_S1x512 shapeCasts_S1x512_S512 shapeCasts_S512_S1x512 broadcasts_S1x512_S1024x512 r k)
    (term 44 (by decide) _ _ slices_S1024x64_o0_44_S1024x1 shapeCasts_S1024x1_S1024 shapeCasts_S1024_S1024x1 broadcasts_S1024x1_S1024x512 slices_S64x512_o44_0_S1x512 shapeCasts_S1x512_S512 shapeCasts_S512_S1x512 broadcasts_S1x512_S1024x512 r k)
    (term 45 (by decide) _ _ slices_S1024x64_o0_45_S1024x1 shapeCasts_S1024x1_S1024 shapeCasts_S1024_S1024x1 broadcasts_S1024x1_S1024x512 slices_S64x512_o45_0_S1x512 shapeCasts_S1x512_S512 shapeCasts_S512_S1x512 broadcasts_S1x512_S1024x512 r k)
    (term 46 (by decide) _ _ slices_S1024x64_o0_46_S1024x1 shapeCasts_S1024x1_S1024 shapeCasts_S1024_S1024x1 broadcasts_S1024x1_S1024x512 slices_S64x512_o46_0_S1x512 shapeCasts_S1x512_S512 shapeCasts_S512_S1x512 broadcasts_S1x512_S1024x512 r k)
    (term 47 (by decide) _ _ slices_S1024x64_o0_47_S1024x1 shapeCasts_S1024x1_S1024 shapeCasts_S1024_S1024x1 broadcasts_S1024x1_S1024x512 slices_S64x512_o47_0_S1x512 shapeCasts_S1x512_S512 shapeCasts_S512_S1x512 broadcasts_S1x512_S1024x512 r k)

/-- It is that sum. -/
theorem acc7_apply : acc7 v0 v4 (ix2 r k) = ∑ i ∈ Finset.range 56, tm (k0_pay2 v0) (k0_pay4 v4) r k i :=
  step (k0_pay2 v0) (k0_pay4 v4) r k 48 (acc6_apply v0 v4 r k)
    (term 48 (by decide) _ _ slices_S1024x64_o0_48_S1024x1 shapeCasts_S1024x1_S1024 shapeCasts_S1024_S1024x1 broadcasts_S1024x1_S1024x512 slices_S64x512_o48_0_S1x512 shapeCasts_S1x512_S512 shapeCasts_S512_S1x512 broadcasts_S1x512_S1024x512 r k)
    (term 49 (by decide) _ _ slices_S1024x64_o0_49_S1024x1 shapeCasts_S1024x1_S1024 shapeCasts_S1024_S1024x1 broadcasts_S1024x1_S1024x512 slices_S64x512_o49_0_S1x512 shapeCasts_S1x512_S512 shapeCasts_S512_S1x512 broadcasts_S1x512_S1024x512 r k)
    (term 50 (by decide) _ _ slices_S1024x64_o0_50_S1024x1 shapeCasts_S1024x1_S1024 shapeCasts_S1024_S1024x1 broadcasts_S1024x1_S1024x512 slices_S64x512_o50_0_S1x512 shapeCasts_S1x512_S512 shapeCasts_S512_S1x512 broadcasts_S1x512_S1024x512 r k)
    (term 51 (by decide) _ _ slices_S1024x64_o0_51_S1024x1 shapeCasts_S1024x1_S1024 shapeCasts_S1024_S1024x1 broadcasts_S1024x1_S1024x512 slices_S64x512_o51_0_S1x512 shapeCasts_S1x512_S512 shapeCasts_S512_S1x512 broadcasts_S1x512_S1024x512 r k)
    (term 52 (by decide) _ _ slices_S1024x64_o0_52_S1024x1 shapeCasts_S1024x1_S1024 shapeCasts_S1024_S1024x1 broadcasts_S1024x1_S1024x512 slices_S64x512_o52_0_S1x512 shapeCasts_S1x512_S512 shapeCasts_S512_S1x512 broadcasts_S1x512_S1024x512 r k)
    (term 53 (by decide) _ _ slices_S1024x64_o0_53_S1024x1 shapeCasts_S1024x1_S1024 shapeCasts_S1024_S1024x1 broadcasts_S1024x1_S1024x512 slices_S64x512_o53_0_S1x512 shapeCasts_S1x512_S512 shapeCasts_S512_S1x512 broadcasts_S1x512_S1024x512 r k)
    (term 54 (by decide) _ _ slices_S1024x64_o0_54_S1024x1 shapeCasts_S1024x1_S1024 shapeCasts_S1024_S1024x1 broadcasts_S1024x1_S1024x512 slices_S64x512_o54_0_S1x512 shapeCasts_S1x512_S512 shapeCasts_S512_S1x512 broadcasts_S1x512_S1024x512 r k)
    (term 55 (by decide) _ _ slices_S1024x64_o0_55_S1024x1 shapeCasts_S1024x1_S1024 shapeCasts_S1024_S1024x1 broadcasts_S1024x1_S1024x512 slices_S64x512_o55_0_S1x512 shapeCasts_S1x512_S512 shapeCasts_S512_S1x512 broadcasts_S1x512_S1024x512 r k)

/-- The kernel's distance of row `r` from entry `k`. -/
theorem kdist_apply : kdist v0 v4 (ix2 r k)
    = vdist (fun v => v0 (ix2 r v)) (fun k v => v4 (ix2 v k)) k := by
  have h : kdist v0 v4 (ix2 r k) = Ideal.sqrt (∑ i ∈ Finset.range 64, tm (k0_pay2 v0) (k0_pay4 v4) r k i) :=
    congrArg Ideal.sqrt (step (k0_pay2 v0) (k0_pay4 v4) r k 56 (acc7_apply v0 v4 r k)
    (term 56 (by decide) _ _ slices_S1024x64_o0_56_S1024x1 shapeCasts_S1024x1_S1024 shapeCasts_S1024_S1024x1 broadcasts_S1024x1_S1024x512 slices_S64x512_o56_0_S1x512 shapeCasts_S1x512_S512 shapeCasts_S512_S1x512 broadcasts_S1x512_S1024x512 r k)
    (term 57 (by decide) _ _ slices_S1024x64_o0_57_S1024x1 shapeCasts_S1024x1_S1024 shapeCasts_S1024_S1024x1 broadcasts_S1024x1_S1024x512 slices_S64x512_o57_0_S1x512 shapeCasts_S1x512_S512 shapeCasts_S512_S1x512 broadcasts_S1x512_S1024x512 r k)
    (term 58 (by decide) _ _ slices_S1024x64_o0_58_S1024x1 shapeCasts_S1024x1_S1024 shapeCasts_S1024_S1024x1 broadcasts_S1024x1_S1024x512 slices_S64x512_o58_0_S1x512 shapeCasts_S1x512_S512 shapeCasts_S512_S1x512 broadcasts_S1x512_S1024x512 r k)
    (term 59 (by decide) _ _ slices_S1024x64_o0_59_S1024x1 shapeCasts_S1024x1_S1024 shapeCasts_S1024_S1024x1 broadcasts_S1024x1_S1024x512 slices_S64x512_o59_0_S1x512 shapeCasts_S1x512_S512 shapeCasts_S512_S1x512 broadcasts_S1x512_S1024x512 r k)
    (term 60 (by decide) _ _ slices_S1024x64_o0_60_S1024x1 shapeCasts_S1024x1_S1024 shapeCasts_S1024_S1024x1 broadcasts_S1024x1_S1024x512 slices_S64x512_o60_0_S1x512 shapeCasts_S1x512_S512 shapeCasts_S512_S1x512 broadcasts_S1x512_S1024x512 r k)
    (term 61 (by decide) _ _ slices_S1024x64_o0_61_S1024x1 shapeCasts_S1024x1_S1024 shapeCasts_S1024_S1024x1 broadcasts_S1024x1_S1024x512 slices_S64x512_o61_0_S1x512 shapeCasts_S1x512_S512 shapeCasts_S512_S1x512 broadcasts_S1x512_S1024x512 r k)
    (term 62 (by decide) _ _ slices_S1024x64_o0_62_S1024x1 shapeCasts_S1024x1_S1024 shapeCasts_S1024_S1024x1 broadcasts_S1024x1_S1024x512 slices_S64x512_o62_0_S1x512 shapeCasts_S1x512_S512 shapeCasts_S512_S1x512 broadcasts_S1x512_S1024x512 r k)
    (term 63 (by decide) _ _ slices_S1024x64_o0_63_S1024x1 shapeCasts_S1024x1_S1024 shapeCasts_S1024_S1024x1 broadcasts_S1024x1_S1024x512 slices_S64x512_o63_0_S1x512 shapeCasts_S1x512_S512 shapeCasts_S512_S1x512 broadcasts_S1x512_S1024x512 r k))
  have h2 : k0_pay2 v0 = v0 := shapeCast_self _ _
  have h4 : k0_pay4 v4 = v4 := shapeCast_self _ _
  rw [h, h2, h4, vdist, Finset.sum_range]
  refine congrArg _ (Finset.sum_congr rfl fun v _ => ?_)
  rw [tm, dif_pos v.isLt]

end Cert.KernelIdeal.Block

end
-- ==== Proof.KerLib.lean ====
/- Vector operations of the kernel's block computation read at a row: the row minimum and maximum, the least index
   word, the rotation of a row and the sum over a group. -/
module

public import proofs.«01_k».proof.Proof.KerDist
public import Idealize.ShloMosaic.Lib.ValueLayoutCasts

@[expose] public section

noncomputable section

namespace Cert.KernelIdeal.Block

open Cert.KernelIdeal Cert.KernelIdeal.Gen Idealize.ShloMosaic Idealize.ShloMosaic.ValueIdx Cert.Vq
open scoped BigOperators

/-- The inserted index of a row reduction is the row and the column. -/
theorem lift_row (h : S1024x512.Reduces [1] S1024) (r : Fin 1024) (k : Fin 512) : h.lift (ix1 r) k = ix2 r k := by
  funext a; match a with | ⟨0, _⟩ => rfl | ⟨1, _⟩ => rfl

/-- The word of positive infinity. -/
theorem top_word : (FloatOps.ofBits (F := Ideal) .f32 0x7F800000#32 : EReal) = ⊤ := by
  show Ideal.ofBits .f32 0x7F800000#32 = ⊤
  simp [Ideal.ofBits, Ideal.ieee]
/-- The word of negative infinity. -/
theorem bot_word : (FloatOps.ofBits (F := Ideal) .f32 0xFF800000#32 : EReal) = ⊥ := by
  show Ideal.ofBits .f32 0xFF800000#32 = ⊥
  simp [Ideal.ofBits, Ideal.ieee]

/-- A row's minimum is the value at the first position of the minimum. -/
theorem rowMin_apply (f : FVec Ideal S1024x512 .f32) (h : S1024x512.Reduces [1] S1024) (hφ : FKind.Formats .f32)
    (hacc : 0x7F800000#32 = FKind.minimumf.neutral .f32 hφ) (r : Fin 1024) :
    multiReduction .minimumf [1] S1024 f 0x7F800000#32 h hφ hacc (ix1 r)
      = f (ix2 r (firstMin fun k : Fin 512 => f (ix2 r k))) := by
  have e : multiReduction .minimumf [1] S1024 f 0x7F800000#32 h hφ hacc (ix1 r)
      = (Finset.univ : Finset (Fin 512)).fold min (⊤ : EReal) (fun k => f (ix2 r k)) := by
    rw [multiReduction_minimumf_eq_fold, ← top_word]
    refine (h.fold_filter_drop_single _ _ f (ix1 r)).trans ?_
    refine Finset.fold_congr fun k _ => ?_
    exact congrArg f (lift_row h r k)
  rw [e]
  refine le_antisymm ((Finset.fold_min_le _).mpr (Or.inr ⟨_, Finset.mem_univ _, le_rfl⟩)) ?_
  exact (Finset.le_fold_min _).mpr ⟨le_top, fun k _ => (firstMin_spec fun k : Fin 512 => f (ix2 r k)).1 k⟩

/-- A row's maximum is the value at the first position of the maximum. -/
theorem rowMax_apply (f : FVec Ideal S1024x512 .f32) (h : S1024x512.Reduces [1] S1024) (hφ : FKind.Formats .f32)
    (hacc : 0xFF800000#32 = FKind.maximumf.neutral .f32 hφ) (r : Fin 1024) :
    multiReduction .maximumf [1] S1024 f 0xFF800000#32 h hφ hacc (ix1 r)
      = f (ix2 r (firstMax fun k : Fin 512 => f (ix2 r k))) := by
  have e : multiReduction .maximumf [1] S1024 f 0xFF800000#32 h hφ hacc (ix1 r)
      = (Finset.univ : Finset (Fin 512)).fold max (⊥ : EReal) (fun k => f (ix2 r k)) := by
    rw [multiReduction_maximumf_eq_fold, ← bot_word]
    refine (h.fold_filter_drop_single _ _ f (ix1 r)).trans ?_
    refine Finset.fold_congr fun k _ => ?_
    exact congrArg f (lift_row h r k)
  rw [e]
  refine le_antisymm ?_ ((Finset.le_fold_max _).mpr (Or.inr ⟨_, Finset.mem_univ _, le_rfl⟩))
  exact (Finset.fold_max_le _).mpr ⟨bot_le, fun k _ => (firstMax_spec fun k : Fin 512 => f (ix2 r k)).1 k⟩

/-- The signed value of a small word. -/
theorem toInt_small (n : ℕ) (h : n < 2 ^ 31) : (BitVec.ofNat 32 n).toInt = n := by
  rw [BitVec.toInt_ofNat']
  unfold Int.bmod
  have : ((n : ℤ) % (2 ^ 32 : ℕ)) = n := Int.emod_eq_of_lt (by omega) (by omega)
  simp only [this]
  rw [if_pos (by omega)]

/-- The lesser of two signed words has the lesser signed value. -/
theorem minsi_toInt (a b : BitVec 32) : (IKind.minsi.op a b).toInt = min a.toInt b.toInt := by
  show (if a.slt b then a else b).toInt = _
  rw [BitVec.slt_eq_decide]
  by_cases h : a.toInt < b.toInt
  · simp [h, min_eq_left h.le]
  · simp [h, min_eq_right (not_lt.mp h)]

/-- A row's least index word is the least of the row's indices. -/
theorem rowMinI_apply (src : IVec S1024x512 32) (h : S1024x512.Reduces [1] S1024) (hacc : 2147483647#32 = IKind.minsi.neutral)
    (r : Fin 1024) (g : Fin 512 → ℕ) (n : ℕ) (hg : ∀ k, src (ix2 r k) = BitVec.ofNat 32 (g k)) (hlt : ∀ k, g k < 2 ^ 31)
    (k0 : Fin 512) (hk0 : g k0 = n) (hn : ∀ k, n ≤ g k) :
    multiReductionI .minsi [1] S1024 src 2147483647#32 h hacc (ix1 r) = BitVec.ofNat 32 n := by
  have e : multiReductionI .minsi [1] S1024 src 2147483647#32 h hacc (ix1 r)
      = (Finset.univ : Finset (Fin 512)).fold IKind.minsi.op 2147483647#32 (fun k => src (ix2 r k)) := by
    rw [multiReductionI_eq_fold]
    refine (h.fold_filter_drop_single _ _ src (ix1 r)).trans ?_
    refine Finset.fold_congr fun k _ => ?_
    exact congrArg src (lift_row h r k)
  have hn31 : n < 2 ^ 31 := hk0 ▸ hlt k0
  apply BitVec.eq_of_toInt_eq
  rw [e, toInt_small n hn31, ← Finset.fold_hom (op' := min) (m := BitVec.toInt) (fun a b => minsi_toInt a b)]
  refine le_antisymm ((Finset.fold_min_le _).mpr (Or.inr ⟨k0, Finset.mem_univ _, ?_⟩))
    ((Finset.le_fold_min _).mpr ⟨?_, fun k _ => ?_⟩)
  · rw [hg, toInt_small _ (hlt _), hk0]
  · have : (2147483647#32).toInt = 2147483647 := by decide
    rw [this]; omega
  · rw [hg, toInt_small _ (hlt _)]; exact_mod_cast hn k

/-- A row vector spread along the columns reads the row's entry. -/
theorem bcastRow_apply {α : Type} (x : S1024.Idx → α) (h : S1024.ShapeCasts S1024x1) (h' : S1024x1.Broadcasts S1024x512) (r : Fin 1024)
    (k : Fin 512) : broadcastTo S1024x512 (shapeCast S1024x1 x h) h' (ix2 r k) = x (ix1 r) := by
  rw [broadcastTo_apply _ h' (ix2 r k) (ix2 r 0) (by
    intro a; match a with | ⟨0, _⟩ => rfl | ⟨1, _⟩ => rfl)]
  exact shapeCast_a_a1_apply x h r 0

/-- A float equality test selects by equality. -/
theorem select_oeq {α : Type} (a b : EReal) (p q : α) :
    Scalar.select (Ideal.cmp .oeq a b) p q = if a = b then p else q := by
  unfold Scalar.select Ideal.cmp
  by_cases h : a = b <;> simp [h]

/-- A float greater-than test selects by the order. -/
theorem select_ogt {α : Type} (a b : EReal) (p q : α) :
    Scalar.select (Ideal.cmp .ogt a b) p q = if b < a then p else q := by
  unfold Scalar.select Ideal.cmp
  by_cases h : b < a <;> simp [h]

/-- A word equality test selects by equality. -/
theorem select_eqI {α : Type} (a b : BitVec 32) (p q : α) :
    Scalar.select (IntOp.cmpi .eq a b) p q = if a = b then p else q := by
  unfold Scalar.select IntOp.cmpi
  by_cases h : a = b
  · simp [h]
  · have : (a == b) = false := by simpa using h
    simp [h, this]

/-- Two small words are equal exactly when the numbers are. -/
theorem ofNat_inj {a b : ℕ} (ha : a < 2 ^ 31) (hb : b < 2 ^ 31) : BitVec.ofNat 32 a = BitVec.ofNat 32 b ↔ a = b := by
  constructor
  · intro h
    have := congrArg BitVec.toInt h
    rw [toInt_small a ha, toInt_small b hb] at this
    exact_mod_cast this
  · rintro rfl; rfl

/-- The position words: entry `k`'s is `k`. -/
def io : IVec S1024x512 32 := iota .tc S1024x512 32 [1] iota_S1024x512_d1_w32
theorem io_apply (r : Fin 1024) (k : Fin 512) : io (ix2 r k) = BitVec.ofNat 32 k.val := by
  unfold io
  rw [iota_single_apply]

/-- A row rotated: the tail from column `n` on, then the first `n` columns. -/
theorem rot_apply (n p : ℕ) (hp : n + p = 512) (x : FVec Ideal S1024x512 .f32)
    (h0 : S1024x512.Slices ![0, n] ⟨2, ![1024, p]⟩) (h1 : S1024x512.Slices ![0, 0] ⟨2, ![1024, n]⟩)
    (h : Shape.Concatenates [⟨2, ![1024, p]⟩, ⟨2, ![1024, n]⟩] S1024x512 1) (r : Fin 1024) (k : Fin 512) :
    concatenate S1024x512 1 [⟨⟨2, ![1024, p]⟩, extractStridedSlice ⟨2, ![1024, p]⟩ ![0, n] x h0⟩,
      ⟨⟨2, ![1024, n]⟩, extractStridedSlice ⟨2, ![1024, n]⟩ ![0, 0] x h1⟩] h (ix2 r k)
      = x (ix2 r ⟨(k.val + n) % 512, Nat.mod_lt _ (by decide)⟩) := by
  by_cases hk : k.val < p
  · rw [concatenate_pair_apply_left (s₁ := ⟨2, ![1024, p]⟩) (s₂ := ⟨2, ![1024, n]⟩) 1 _ _ h (ix2 r k) rfl (ix2 r ⟨k.val, hk⟩) (by
      intro b; match b with | ⟨0, _⟩ => rfl | ⟨1, _⟩ => rfl)]
    refine extractStridedSlice_apply _ _ h0 _ _ fun a => ?_
    match a with
    | ⟨0, _⟩ => show r.val = 0 + r.val; omega
    | ⟨1, _⟩ => show (k.val + n) % 512 = n + k.val; omega
  · have hk' : k.val - p < n := by have := k.isLt; omega
    rw [concatenate_pair_apply_right (s₁ := ⟨2, ![1024, p]⟩) (s₂ := ⟨2, ![1024, n]⟩) 1 _ _ h (ix2 r k) rfl rfl (ix2 r ⟨k.val - p, hk'⟩) (by
      intro b hb; match b with | ⟨0, _⟩ => rfl | ⟨1, _⟩ => exact absurd rfl hb) (by
      show k.val - p + p = k.val; omega)]
    refine extractStridedSlice_apply _ _ h1 _ _ fun a => ?_
    match a with
    | ⟨0, _⟩ => show r.val = 0 + r.val; omega
    | ⟨1, _⟩ => show (k.val + n) % 512 = 0 + (k.val - p); have := k.isLt; omega

/-- The remainder of a position word by `q`, with the correction of its sign the program writes. -/
def modWord (q w : BitVec 32) : BitVec 32 :=
  Scalar.select (IntOp.andi (IntOp.xori (IntOp.cmpi .slt (IntOp.remsi .vector w q) 0#32) (Scalar.cmpi .slt q 0#32))
    (IntOp.cmpi .ne (IntOp.remsi .vector w q) 0#32)) (IntOp.addi (IntOp.remsi .vector w q) q) (IntOp.remsi .vector w q)

/-- The lanes whose position is in the lower half of its run of 8, of 4 and of 2. -/
theorem lane8 : ∀ k : Fin 512, IntOp.cmpi .slt (modWord 8#32 (BitVec.ofNat 32 k.val)) 4#32 = BitVec.ofBool (decide (k.val % 8 < 4)) := by
  decide +kernel
theorem lane4 : ∀ k : Fin 512, IntOp.cmpi .slt (modWord 4#32 (BitVec.ofNat 32 k.val)) 2#32 = BitVec.ofBool (decide (k.val % 4 < 2)) := by
  decide +kernel
theorem lane2 : ∀ k : Fin 512, IntOp.cmpi .slt (modWord 2#32 (BitVec.ofNat 32 k.val)) 1#32 = BitVec.ofBool (decide (k.val % 2 < 1)) := by
  decide +kernel

/-- A decided bit selects as the proposition. -/
theorem select_decide {α : Type} (p : Prop) [Decidable p] (a b : α) : Scalar.select (BitVec.ofBool (decide p)) a b = if p then a else b := by
  unfold Scalar.select
  by_cases h : p <;> simp [h]

/-- The floor quotient of a position word by 8, as the program writes it. -/
def divWord (w : BitVec 32) : BitVec 32 :=
  Scalar.select (IntOp.andi
      (IntOp.cmpi .ne (IntOp.subi ((IntOp.cmpi .sgt w 0#32).setWidth 32) ((IntOp.cmpi .slt w 0#32).setWidth 32))
        (Scalar.subi (Scalar.extui (Scalar.cmpi .sgt 8#32 0#32)) (Scalar.extui (Scalar.cmpi .slt 8#32 0#32))))
      (IntOp.cmpi .ne (IntOp.remsi .vector w 8#32) 0#32))
    (IntOp.subi (IntOp.divsi .vector w 8#32) 1#32) (IntOp.divsi .vector w 8#32)

/-- It is the quotient. -/
theorem divWord_eq : ∀ k : Fin 512, divWord (BitVec.ofNat 32 k.val) = BitVec.ofNat 32 (k.val / 8) := by
  decide +kernel

/-! ## The sum over a group of eight by three exchanges -/

/-- One exchange: each entry plus its partner `s` away in its run of `2 s`. -/
def swap (s : ℕ) (f : Fin 512 → EReal) (k : Fin 512) : EReal :=
  f k + if k.val % (2 * s) < s then f ⟨(k.val + s) % 512, Nat.mod_lt _ (by decide)⟩
    else f ⟨(k.val + (512 - s)) % 512, Nat.mod_lt _ (by decide)⟩

/-- An exchange inside a group, by the positions in the group. -/
theorem swap_atom (s : ℕ) (hs : s = 4 ∨ s = 2 ∨ s = 1) (f : Fin 512 → EReal) (g : Fin 64) (a b : Fin 8)
    (hab : (a.val % (2 * s) < s ∧ b.val = a.val + s) ∨ (s ≤ a.val % (2 * s) ∧ a.val = b.val + s)) :
    swap s f (atom g a) = f (atom g a) + f (atom g b) := by
  have hg := g.isLt
  have ha := a.isLt
  have hb := b.isLt
  unfold swap
  congr 1
  have hm : (atom g a).val % (2 * s) = a.val % (2 * s) := by
    show (8 * g.val + a.val) % (2 * s) = _
    rcases hs with rfl | rfl | rfl <;> omega
  rw [hm]
  rcases hab with ⟨h1, h2⟩ | ⟨h1, h2⟩
  · rw [if_pos h1]
    refine congrArg f (Fin.ext ?_)
    show (8 * g.val + a.val + s) % 512 = 8 * g.val + b.val
    omega
  · rw [if_neg (not_lt.mpr h1)]
    refine congrArg f (Fin.ext ?_)
    show (8 * g.val + a.val + (512 - s)) % 512 = 8 * g.val + b.val
    omega

/-- Three exchanges leave every entry of a group with the group's sum. -/
theorem swap3_atom (f : Fin 512 → EReal) (g : Fin 64) (a : Fin 8) :
    swap 1 (swap 2 (swap 4 f)) (atom g a) = ∑ s, f (atom g s) := by
  have h4 := fun a b => swap_atom 4 (by simp) f g a b
  have h2 := fun a b => swap_atom 2 (by simp) (swap 4 f) g a b
  have h1 := fun a b => swap_atom 1 (by simp) (swap 2 (swap 4 f)) g a b
  rw [Fin.sum_univ_eight]
  match a with
  | 0 => rw [h1 0 1 (by decide), h2 0 2 (by decide), h2 1 3 (by decide), h4 0 4 (by decide), h4 1 5 (by decide), h4 2 6 (by decide), h4 3 7 (by decide)]; abel
  | 1 => rw [h1 1 0 (by decide), h2 0 2 (by decide), h2 1 3 (by decide), h4 0 4 (by decide), h4 1 5 (by decide), h4 2 6 (by decide), h4 3 7 (by decide)]; abel
  | 2 => rw [h1 2 3 (by decide), h2 2 0 (by decide), h2 3 1 (by decide), h4 0 4 (by decide), h4 1 5 (by decide), h4 2 6 (by decide), h4 3 7 (by decide)]; abel
  | 3 => rw [h1 3 2 (by decide), h2 2 0 (by decide), h2 3 1 (by decide), h4 0 4 (by decide), h4 1 5 (by decide), h4 2 6 (by decide), h4 3 7 (by decide)]; abel
  | 4 => rw [h1 4 5 (by decide), h2 4 6 (by decide), h2 5 7 (by decide), h4 4 0 (by decide), h4 5 1 (by decide), h4 6 2 (by decide), h4 7 3 (by decide)]; abel
  | 5 => rw [h1 5 4 (by decide), h2 4 6 (by decide), h2 5 7 (by decide), h4 4 0 (by decide), h4 5 1 (by decide), h4 6 2 (by decide), h4 7 3 (by decide)]; abel
  | 6 => rw [h1 6 7 (by decide), h2 6 4 (by decide), h2 7 5 (by decide), h4 4 0 (by decide), h4 5 1 (by decide), h4 6 2 (by decide), h4 7 3 (by decide)]; abel
  | 7 => rw [h1 7 6 (by decide), h2 6 4 (by decide), h2 7 5 (by decide), h4 4 0 (by decide), h4 5 1 (by decide), h4 6 2 (by decide), h4 7 3 (by decide)]; abel

/-- Every entry is an entry of its group. -/
theorem eq_atom (k : Fin 512) : k = atom (grp k) ⟨k.val % 8, Nat.mod_lt _ (by decide)⟩ :=
  Fin.ext (by show k.val = 8 * (k.val / 8) + k.val % 8; omega)

/-- Three exchanges leave every entry with its group's sum. -/
theorem swap3 (f : Fin 512 → EReal) (k : Fin 512) : swap 1 (swap 2 (swap 4 f)) k = ∑ s, f (atom (grp k) s) := by
  conv_lhs => rw [eq_atom k]
  exact swap3_atom f (grp k) _

end Cert.KernelIdeal.Block

end
-- ==== Proof.KerRow.lean ====
/- What the kernel writes for one row of a block, and what it adds to the counts, in terms of the row's mathematics. -/
module

public import proofs.«01_k».proof.Proof.KerLib
public import Idealize.ShloMosaic.Lib.ValueLayout

@[expose] public section

noncomputable section

namespace Cert.KernelIdeal.Block

open Cert.KernelIdeal Cert.KernelIdeal.Gen Idealize.ShloMosaic Idealize.ShloMosaic.ValueIdx Cert.Vq
open scoped BigOperators

section
variable {F : FTy → Type} [FloatOps F]

/-- The group means, spread over the entries, from the distances. -/
def kgm (d : FVec F S1024x512 .f32) : FVec F S1024x512 .f32 :=
  k0_pay70 io (k0_pay64 d io) (k0_pay65 d io) (k0_pay66 d io) (Scalar.select (Scalar.cmpi .eq 4#32 0#32) 1#32 4#32)
    (k0_pay67 io) (k0_pay68 io) (k0_pay69 io)
/-- The row minimum of the distances. -/
def kmin (d : FVec F S1024x512 .f32) : FVec F S1024 .f32 :=
  multiReduction .minimumf [1] S1024 d 0x7F800000#32 reduces_S1024x512_S1024 (.inl rfl) rfl
/-- The nearest entry of each row. -/
def kia (d : FVec F S1024x512 .f32) : IVec S1024 32 := k0_pay63 d io (kmin d)
/-- The nearest group of each row. -/
def kig (d : FVec F S1024x512 .f32) : IVec S1024 32 := k0_pay75 io (kgm d) 8#32 (k0_pay71 io) (k0_pay72 io) (k0_pay73 io)
/-- The weights. -/
def kpm (d : FVec F S1024x512 .f32) : FVec F S1024x512 .f32 :=
  k0_pay76 d io (kgm d) 8#32 (k0_pay71 io) (k0_pay72 io) (k0_pay73 io)
/-- The mixtures. -/
def kout (v3 : FVec F S512x64 .f32) (d : FVec F S1024x512 .f32) : FVec F S1024x64 .f32 :=
  k0_pay77 v3 d io (kgm d) 8#32 (k0_pay71 io) (k0_pay72 io) (k0_pay73 io)
/-- The straight-through values. -/
def kdisc (v1 : FVec F S1024x64 .f32) (v3 : FVec F S512x64 .f32) (d : FVec F S1024x512 .f32) : FVec F S1024x64 .f32 :=
  k0_pay78 v1 v3 d io (kgm d) 8#32 (k0_pay71 io) (k0_pay72 io) (k0_pay73 io)
/-- The penalties. -/
def kpen (v1 : FVec F S1024x64 .f32) (v3 : FVec F S512x64 .f32) (d : FVec F S1024x512 .f32) : FVec F S1024x1 .f32 :=
  k0_pay80 (k0_pay79 v1 v3 d io (kgm d) 8#32 (k0_pay71 io) (k0_pay72 io) (k0_pay73 io))
/-- The counts after the block. -/
def khist (d : FVec F S1024x512 .f32) (h : Vec F S1x512 .f32) : FVec F S1x512 .f32 := k0_pay85 io (kpm d) h

end

variable (d : FVec Ideal S1024x512 .f32) (r : Fin 1024) (k : Fin 512)

/-- A row's sum. -/
def rowAdd (f : FVec Ideal S1024x512 .f32) : FVec Ideal S1024 .f32 :=
  multiReduction .add [1] S1024 f 0x00000000#32 reduces_S1024x512_S1024 (.inl rfl) rfl
theorem rowAdd_apply (f : FVec Ideal S1024x512 .f32) (r : Fin 1024) : rowAdd f (ix1 r) = ∑ k : Fin 512, f (ix2 r k) :=
  (Ideal.multiReduction_add_single f _ reduces_S1024x512_S1024 (.inl rfl) rfl (ix1 r)).trans
    (Finset.sum_congr rfl fun k _ => congrArg f (lift_row _ r k))
/-- A row's sum over the coordinates. -/
def rowAdd64 (f : FVec Ideal S1024x64 .f32) : FVec Ideal S1024 .f32 :=
  multiReduction .add [1] S1024 f 0x00000000#32 reduces_S1024x64_S1024 (.inl rfl) rfl
theorem rowAdd64_apply (f : FVec Ideal S1024x64 .f32) (r : Fin 1024) : rowAdd64 f (ix1 r) = ∑ v : Fin 64, f (ix2 r v) :=
  (Ideal.multiReduction_add_single f _ reduces_S1024x64_S1024 (.inl rfl) rfl (ix1 r)).trans
    (Finset.sum_congr rfl fun k _ => congrArg f (by funext a; match a with | ⟨0, _⟩ => rfl | ⟨1, _⟩ => rfl))
/-- A column's sum over the block's rows. -/
def colAdd (f : FVec Ideal S1024x512 .f32) : FVec Ideal S512 .f32 :=
  multiReduction .add [0] S512 f 0x00000000#32 reduces_S1024x512_S512 (.inl rfl) rfl
theorem colAdd_apply (f : FVec Ideal S1024x512 .f32) (k : Fin 512) : colAdd f (ix1 k) = ∑ r : Fin 1024, f (ix2 r k) :=
  (Ideal.multiReduction_add_single f _ reduces_S1024x512_S512 (.inl rfl) rfl (ix1 k)).trans
    (Finset.sum_congr rfl fun r _ => congrArg f (by funext a; match a with | ⟨0, _⟩ => rfl | ⟨1, _⟩ => rfl))
/-- The sum over everything. -/
def allAdd (f : FVec Ideal S1x1x512 .f32) : FVec Ideal S1 .f32 :=
  multiReduction .add [1, 2] S1 f 0x00000000#32 reduces_S1x1x512_S1 (.inl rfl) rfl
theorem allAdd_apply (f : FVec Ideal S1x1x512 .f32) (q : S1.Idx) : allAdd f q = ∑ i, f i :=
  Ideal.multiReduction_add_total f _ reduces_S1x1x512_S1 (by decide) (.inl rfl) rfl q
/-- A row's maximum. -/
def kmax (f : FVec Ideal S1024x512 .f32) : FVec Ideal S1024 .f32 :=
  multiReduction .maximumf [1] S1024 f 0xFF800000#32 reduces_S1024x512_S1024 (.inl rfl) rfl
theorem kmax_apply (f : FVec Ideal S1024x512 .f32) (r : Fin 1024) :
    kmax f (ix1 r) = f (ix2 r (firstMax fun k : Fin 512 => f (ix2 r k))) := rowMax_apply f _ _ _ r
theorem kmin_apply (f : FVec Ideal S1024x512 .f32) (r : Fin 1024) :
    kmin f (ix1 r) = f (ix2 r (firstMin fun k : Fin 512 => f (ix2 r k))) := rowMin_apply f _ _ _ r
/-- A row's least word. -/
def leastI (x : IVec S1024x512 32) : IVec S1024 32 :=
  multiReductionI .minsi [1] S1024 x 2147483647#32 reduces_S1024x512_S1024 rfl
theorem leastI_apply (x : IVec S1024x512 32) (r : Fin 1024) (g : Fin 512 → ℕ) (n : ℕ)
    (hg : ∀ k, x (ix2 r k) = BitVec.ofNat 32 (g k)) (hlt : ∀ k, g k < 2 ^ 31) (k0 : Fin 512) (hk0 : g k0 = n) (hn : ∀ k, n ≤ g k) :
    leastI x (ix1 r) = BitVec.ofNat 32 n := rowMinI_apply x _ _ r g n hg hlt k0 hk0 hn

/-- A row of distances. -/
def rowOf (d : FVec Ideal S1024x512 .f32) (r : Fin 1024) : Fin 512 → EReal := fun k => d (ix2 r k)

/-- The first exchange, four apart. -/
theorem pay64_apply : k0_pay64 d io (ix2 r k) = swap 4 (rowOf d r) k := by
  have h1 : k0_pay64 d io (ix2 r k)
      = d (ix2 r k) + Scalar.select (IntOp.cmpi .slt (modWord 8#32 (io (ix2 r k))) 4#32)
        (concatenate S1024x512 1 [⟨S1024x508, extractStridedSlice S1024x508 ![0, 4] d slices_S1024x512_o0_4_S1024x508⟩,
          ⟨S1024x4, extractStridedSlice S1024x4 ![0, 0] d slices_S1024x512_o0_0_S1024x4⟩] concatenates_S1024x508_S1024x4_S1024x512_d1 (ix2 r k))
        (concatenate S1024x512 1 [⟨S1024x4, extractStridedSlice S1024x4 ![0, 508] d slices_S1024x512_o0_508_S1024x4⟩,
          ⟨S1024x508, extractStridedSlice S1024x508 ![0, 0] d slices_S1024x512_o0_0_S1024x508⟩] concatenates_S1024x4_S1024x508_S1024x512_d1 (ix2 r k)) := rfl
  rw [h1, io_apply, lane8, select_decide, swap]
  have e1 := rot_apply 4 508 rfl d slices_S1024x512_o0_4_S1024x508 slices_S1024x512_o0_0_S1024x4 concatenates_S1024x508_S1024x4_S1024x512_d1 r k
  have e2 := rot_apply 508 4 rfl d slices_S1024x512_o0_508_S1024x4 slices_S1024x512_o0_0_S1024x508 concatenates_S1024x4_S1024x508_S1024x512_d1 r k
  exact congrArg₂ (· + ·) rfl (if_congr Iff.rfl e1 e2)

/-- The row two columns on … -/
theorem pay65_apply : k0_pay65 d io (ix2 r k) = swap 4 (rowOf d r) ⟨(k.val + 2) % 512, Nat.mod_lt _ (by decide)⟩ :=
  (rot_apply 2 510 rfl (k0_pay64 d io) slices_S1024x512_o0_2_S1024x510 slices_S1024x512_o0_0_S1024x2
    concatenates_S1024x510_S1024x2_S1024x512_d1 r k).trans (pay64_apply d r _)
/-- … and two back. -/
theorem pay66_apply : k0_pay66 d io (ix2 r k) = swap 4 (rowOf d r) ⟨(k.val + 510) % 512, Nat.mod_lt _ (by decide)⟩ :=
  (rot_apply 510 2 rfl (k0_pay64 d io) slices_S1024x512_o0_510_S1024x2 slices_S1024x512_o0_0_S1024x510
    concatenates_S1024x2_S1024x510_S1024x512_d1 r k).trans (pay64_apply d r _)

/-- The sums after two exchanges. -/
def two (d : FVec Ideal S1024x512 .f32) : FVec Ideal S1024x512 .f32 :=
  addf (k0_pay64 d io) (select (fun i => IntOp.cmpi .slt (modWord 4#32 (io i)) 2#32) (k0_pay65 d io) (k0_pay66 d io))

theorem two_apply : two d (ix2 r k) = swap 2 (swap 4 (rowOf d r)) k := by
  have h1 : two d (ix2 r k) = k0_pay64 d io (ix2 r k)
      + Scalar.select (IntOp.cmpi .slt (modWord 4#32 (io (ix2 r k))) 2#32) (k0_pay65 d io (ix2 r k)) (k0_pay66 d io (ix2 r k)) := rfl
  rw [h1, io_apply, lane4, select_decide, pay64_apply, pay65_apply, pay66_apply]
  rfl

/-- The mean of entry `k`'s group. -/
theorem kgm_apply : kgm d (ix2 r k) = gdist (rowOf d r) (grp k) := by
  have h1 : kgm d (ix2 r k)
      = Ideal.div (two d (ix2 r k) + Scalar.select (IntOp.cmpi .slt (modWord 2#32 (io (ix2 r k))) 1#32)
        (concatenate S1024x512 1 [⟨S1024x511, extractStridedSlice S1024x511 ![0, 1] (two d) slices_S1024x512_o0_1_S1024x511⟩,
          ⟨S1024x1, extractStridedSlice S1024x1 ![0, 0] (two d) slices_S1024x512_o0_0_S1024x1⟩] concatenates_S1024x511_S1024x1_S1024x512_d1 (ix2 r k))
        (concatenate S1024x512 1 [⟨S1024x1, extractStridedSlice S1024x1 ![0, 511] (two d) slices_S1024x512_o0_511_S1024x1⟩,
          ⟨S1024x511, extractStridedSlice S1024x511 ![0, 0] (two d) slices_S1024x512_o0_0_S1024x511⟩] concatenates_S1024x1_S1024x511_S1024x512_d1 (ix2 r k)))
        (Ideal.ofBits .f32 0x41000000#32) := rfl
  rw [h1, io_apply, lane2, select_decide, gdist, ← swap3]
  have e1 := rot_apply 1 511 rfl (two d) slices_S1024x512_o0_1_S1024x511 slices_S1024x512_o0_0_S1024x1 concatenates_S1024x511_S1024x1_S1024x512_d1 r k
  have e2 := rot_apply 511 1 rfl (two d) slices_S1024x512_o0_511_S1024x1 slices_S1024x512_o0_0_S1024x511 concatenates_S1024x1_S1024x511_S1024x512_d1 r k
  rw [two_apply] at e1 e2
  refine congrArg (Ideal.div · _) ?_
  rw [swap]
  exact congrArg₂ (· + ·) (two_apply d r k) (if_congr Iff.rfl e1 e2)

/-- The position words where a row's entry equals the row's value, another word elsewhere. -/
theorem pick_apply (f : FVec Ideal S1024x512 .f32) (m : FVec Ideal S1024 .f32) (w : IVec S1024x512 32) (q : BitVec 32) (r : Fin 1024) (k : Fin 512) :
    select (cmpf .oeq f (broadcastTo S1024x512 (shapeCast S1024x1 m shapeCasts_S1024_S1024x1) broadcasts_S1024x1_S1024x512))
        w (broadcast S1024x512 q) (ix2 r k) = if f (ix2 r k) = m (ix1 r) then w (ix2 r k) else q := by
  have h1 : select (cmpf .oeq f (broadcastTo S1024x512 (shapeCast S1024x1 m shapeCasts_S1024_S1024x1) broadcasts_S1024x1_S1024x512))
        w (broadcast S1024x512 q) (ix2 r k)
        = Scalar.select (Ideal.cmp .oeq (f (ix2 r k)) (broadcastTo S1024x512 (shapeCast S1024x1 m shapeCasts_S1024_S1024x1)
            broadcasts_S1024x1_S1024x512 (ix2 r k))) (w (ix2 r k)) q := rfl
  rw [h1, select_oeq, bcastRow_apply]

/-- The nearest entry, as a word. -/
theorem kia_apply : kia d (ix1 r) = BitVec.ofNat 32 (idxAtom (rowOf d r)).val := by
  have hs := firstMin_spec (rowOf d r)
  have h0 : kia d = leastI (select (cmpf .oeq d (broadcastTo S1024x512 (shapeCast S1024x1 (kmin d) shapeCasts_S1024_S1024x1)
      broadcasts_S1024x1_S1024x512)) io (broadcast S1024x512 512#32)) := rfl
  rw [h0]
  refine leastI_apply _ r (fun k => if rowOf d r k = rowOf d r (idxAtom (rowOf d r)) then k.val else 512) _ (fun k => ?_) (fun k => ?_)
    (idxAtom (rowOf d r)) (if_pos rfl) (fun k => ?_)
  · rw [pick_apply, kmin_apply, io_apply]
    show (if rowOf d r k = rowOf d r (idxAtom (rowOf d r)) then _ else _) = _
    split <;> rfl
  · show (if _ then _ else _) < _
    split <;> have := k.isLt <;> omega
  · show _ ≤ (if _ then _ else _)
    split
    · next h =>
      by_contra hlt
      exact absurd (hs.2 k (Fin.lt_def.mpr (not_le.mp hlt))) (not_lt.mpr h.le)
    · exact (idxAtom (rowOf d r)).isLt.le

/-- The first minimum of a function constant on the groups lies in the first group of least value. -/
theorem grp_firstMin (G : Fin 64 → EReal) : G (grp (firstMin fun k : Fin 512 => G (grp k))) = G (firstMin G) := by
  have h := (firstMin_spec fun k : Fin 512 => G (grp k)).1
  refine le_antisymm ?_ ((firstMin_spec G).1 _)
  have e : grp (atom (firstMin G) 0) = firstMin G := Fin.ext (by show (8 * (firstMin G).val + 0) / 8 = _; omega)
  have := h (atom (firstMin G) 0)
  simpa only [e] using this

/-- The group word of entry `k`. -/
theorem pay74_apply : k0_pay74 io 8#32 (k0_pay71 io) (k0_pay72 io) (k0_pay73 io) (ix2 r k) = BitVec.ofNat 32 (grp k).val := by
  have h1 : k0_pay74 io 8#32 (k0_pay71 io) (k0_pay72 io) (k0_pay73 io) (ix2 r k) = divWord (io (ix2 r k)) := rfl
  rw [h1, io_apply, divWord_eq]
  rfl

/-- The nearest group, as a word. -/
theorem kig_apply : kig d (ix1 r) = BitVec.ofNat 32 (idxGroup (rowOf d r)).val := by
  have hs := firstMin_spec (gdist (rowOf d r))
  have hk0 : grp (atom (idxGroup (rowOf d r)) 0) = idxGroup (rowOf d r) :=
    Fin.ext (by show (8 * (idxGroup (rowOf d r)).val + 0) / 8 = _; omega)
  have h0 : kig d = leastI (select (cmpf .oeq (kgm d) (broadcastTo S1024x512 (shapeCast S1024x1 (kmin (kgm d)) shapeCasts_S1024_S1024x1)
      broadcasts_S1024x1_S1024x512)) (k0_pay74 io 8#32 (k0_pay71 io) (k0_pay72 io) (k0_pay73 io)) (broadcast S1024x512 64#32)) := rfl
  rw [h0]
  refine leastI_apply _ r (fun k => if gdist (rowOf d r) (grp k) = gdist (rowOf d r) (idxGroup (rowOf d r)) then (grp k).val else 64)
    _ (fun k => ?_) (fun k => ?_) (atom (idxGroup (rowOf d r)) 0) (by simp only [hk0, if_true]) (fun k => ?_)
  · rw [pick_apply, kmin_apply, pay74_apply]
    simp only [kgm_apply, grp_firstMin]
    show (if gdist (rowOf d r) (grp k) = gdist (rowOf d r) (idxGroup (rowOf d r)) then _ else _) = _
    split <;> rfl
  · show (if _ then _ else _) < _
    split <;> have := (grp k).isLt <;> omega
  · show _ ≤ (if _ then _ else _)
    split
    · next h =>
      by_contra hlt
      exact absurd (hs.2 (grp k) (Fin.lt_def.mpr (not_le.mp hlt))) (not_lt.mpr h.le)
    · exact (idxGroup (rowOf d r)).isLt.le

/-- The weight of entry `k`. -/
theorem kpm_apply : kpm d (ix2 r k) = weight (rowOf d r) k := by
  have h1 : kpm d (ix2 r k) = Scalar.select (IntOp.cmpi .eq (k0_pay74 io 8#32 (k0_pay71 io) (k0_pay72 io) (k0_pay73 io) (ix2 r k))
      (broadcastTo S1024x512 (shapeCast S1024x1 (kig d) shapeCasts_S1024_S1024x1) broadcasts_S1024x1_S1024x512 (ix2 r k)))
      (Ideal.div (Ideal.ofBits .f32 0x3F800000#32) (d (ix2 r k))) (Ideal.ofBits .f32 0x00000000#32) := rfl
  rw [h1, select_eqI, bcastRow_apply, pay74_apply, kig_apply, Ideal.ofBits_one_f32, Ideal.ofBits_zero_f32, weight]
  refine if_congr ?_ rfl rfl
  rw [ofNat_inj (by have := (grp k).isLt; omega) (by have := (idxGroup (rowOf d r)).isLt; omega), Fin.ext_iff]

/-- The dot's one contracted coordinate. -/
abbrev ce : dot_S1024x512_S512x64_S1024x64_1_0_0_1_n_n.contr.Idx ≃ Fin 512 :=
  contrEquiv1 dot_S1024x512_S512x64_S1024x64_1_0_0_1_n_n 512 rfl rfl

/-- The mixture of a row, one coordinate. -/
theorem kout_apply (v3 : FVec Ideal S512x64 .f32) (v : Fin 64) :
    kout v3 d (ix2 r v) = mix (weight (rowOf d r)) (fun k v => v3 (ix2 k v)) v := by
  have hden : ∀ k, broadcastTo S1024x512 (maximumf (shapeCast S1024x1 (rowAdd (absf (kpm d))) shapeCasts_S1024_S1024x1) (broadcast S1024x1 (Ideal.ofBits .f32 0x2B8CBCCC#32) : FVec Ideal S1024x1 .f32))
      broadcasts_S1024x1_S1024x512 (ix2 r k) = denom (weight (rowOf d r)) := by
    intro k
    rw [broadcastTo_apply _ _ (ix2 r k) (ix2 r 0) (by
      intro a; match a with | ⟨0, _⟩ => rfl | ⟨1, _⟩ => rfl), maximumf_apply, shapeCast_a_a1_apply, rowAdd_apply]
    refine congrArg₂ max (Finset.sum_congr rfl fun k _ => ?_) rfl
    show max (kpm d (ix2 r k)) (-(kpm d (ix2 r k))) = _
    rw [kpm_apply]
  have h1 : kout v3 d (ix2 r v) = FloatOps.matmul dot_S1024x512_S512x64_S1024x64_1_0_0_1_n_n none
      (divf (kpm d) (broadcastTo S1024x512 (maximumf (shapeCast S1024x1 (rowAdd (absf (kpm d))) shapeCasts_S1024_S1024x1) (broadcast S1024x1 (Ideal.ofBits .f32 0x2B8CBCCC#32) : FVec Ideal S1024x1 .f32))
      broadcasts_S1024x1_S1024x512)) v3 (constant S1024x64 .f32 0x00000000#32) (ix2 r v) := rfl
  rw [h1, Ideal.matmul_constant_zero_apply, mix, ← Equiv.sum_comp ce.symm]
  refine Finset.sum_congr rfl fun k _ => ?_
  have el : dot_S1024x512_S512x64_S1024x64_1_0_0_1_n_n.lhsIdx (ix2 r v) (ce.symm k) = ix2 r k := by
    funext a
    apply Fin.ext
    match a with
    | ⟨0, _⟩ => rfl
    | ⟨1, _⟩ => exact contrEquiv1_symm_val dot_S1024x512_S512x64_S1024x64_1_0_0_1_n_n 512 rfl rfl k
  have er : dot_S1024x512_S512x64_S1024x64_1_0_0_1_n_n.rhsIdx (ix2 r v) (ce.symm k) = ix2 k v := by
    funext a
    apply Fin.ext
    match a with
    | ⟨0, _⟩ => exact contrEquiv1_symm_val dot_S1024x512_S512x64_S1024x64_1_0_0_1_n_n 512 rfl rfl k
    | ⟨1, _⟩ => rfl
  rw [el, er, divf_apply, hden, kpm_apply]

/-- The straight-through value of a row, one coordinate. -/
theorem kdisc_apply (v1 : FVec Ideal S1024x64 .f32) (v3 : FVec Ideal S512x64 .f32) (v : Fin 64) :
    kdisc v1 v3 d (ix2 r v)
      = (mix (weight (rowOf d r)) (fun k v => v3 (ix2 k v)) v - v1 (ix2 r v)) + v1 (ix2 r v) := by
  have h1 : kdisc v1 v3 d (ix2 r v) = (kout v3 d (ix2 r v) - v1 (ix2 r v)) + v1 (ix2 r v) := rfl
  rw [h1, kout_apply]

/-- The penalty of a row. -/
theorem kpen_apply (v1 : FVec Ideal S1024x64 .f32) (v3 : FVec Ideal S512x64 .f32) (z : Fin 1) :
    kpen v1 v3 d (ix2 r z)
      = Ideal.sqrt (∑ v : Fin 64, (v1 (ix2 r v) - mix (weight (rowOf d r)) (fun k v => v3 (ix2 k v)) v)
          * (v1 (ix2 r v) - mix (weight (rowOf d r)) (fun k v => v3 (ix2 k v)) v))
        * Ideal.sqrt (∑ v : Fin 64, (v1 (ix2 r v) - mix (weight (rowOf d r)) (fun k v => v3 (ix2 k v)) v)
          * (v1 (ix2 r v) - mix (weight (rowOf d r)) (fun k v => v3 (ix2 k v)) v)) := by
  have hs : shapeCast S1024x1 (rowAdd64 (mulf (subf v1 (kout v3 d)) (subf v1 (kout v3 d)))) shapeCasts_S1024_S1024x1 (ix2 r z)
      = ∑ v : Fin 64, (v1 (ix2 r v) - mix (weight (rowOf d r)) (fun k v => v3 (ix2 k v)) v)
          * (v1 (ix2 r v) - mix (weight (rowOf d r)) (fun k v => v3 (ix2 k v)) v) := by
    rw [shapeCast_a_a1_apply, rowAdd64_apply]
    refine Finset.sum_congr rfl fun v _ => ?_
    rw [mulf_apply, subf_apply, kout_apply]
  rw [← hs]
  rfl

/-- The counts after a block: before, plus the number of the block's rows that win entry `k`. -/
theorem khist_apply (h : Vec Ideal S1x512 .f32) (z : Fin 1) :
    khist d h (ix2 z k) = h (ix2 z k) + ∑ r : Fin 1024, if firstMax (weight (rowOf d r)) = k then (1 : EReal) else 0 := by
  -- the winning entry's word
  have hwin : ∀ r : Fin 1024, leastI (select (cmpf .oeq (kpm d) (broadcastTo S1024x512 (shapeCast S1024x1
      (kmax (kpm d)) shapeCasts_S1024_S1024x1)
      broadcasts_S1024x1_S1024x512)) io (broadcast S1024x512 512#32)) (ix1 r)
      = BitVec.ofNat 32 (firstMax (weight (rowOf d r))).val := by
    intro r
    have hs := firstMax_spec (weight (rowOf d r))
    refine leastI_apply _ r (fun k => if weight (rowOf d r) k = weight (rowOf d r) (firstMax (weight (rowOf d r))) then k.val else 512) _
      (fun k => ?_) (fun k => ?_) (firstMax (weight (rowOf d r))) (if_pos rfl) (fun k => ?_)
    · rw [pick_apply, kmax_apply, io_apply]
      simp only [kpm_apply]
      split <;> rfl
    · show (if _ then _ else _) < _
      split <;> have := k.isLt <;> omega
    · show _ ≤ (if _ then _ else _)
      split
      · next h =>
        by_contra hlt
        exact absurd (hs.2 k (Fin.lt_def.mpr (not_le.mp hlt))) (not_lt.mpr h.ge)
      · exact (firstMax (weight (rowOf d r))).isLt.le
  have h1 : khist d h (ix2 z k) = shapeCast S1x512 h shapeCasts_S1x512_S1x512 (ix2 z k)
      + shapeCast S1x512 (colAdd (sitofp .f32 (extui 32 (cmpi .eq io (broadcastTo S1024x512 (shapeCast S1024x1
          (leastI (select (cmpf .oeq (kpm d) (broadcastTo S1024x512 (shapeCast S1024x1
      (kmax (kpm d)) shapeCasts_S1024_S1024x1)
      broadcasts_S1024x1_S1024x512)) io (broadcast S1024x512 512#32)))
          shapeCasts_S1024_S1024x1) broadcasts_S1024x1_S1024x512)) natLt_1_32) : FVec Ideal S1024x512 .f32)) shapeCasts_S512_S1x512 (ix2 z k) := rfl
  rw [h1, shapeCast_self, shapeCast_a_1a_apply, colAdd_apply]
  refine congrArg _ (Finset.sum_congr rfl fun r _ => ?_)
  rw [sitofp_apply, extui_apply]
  show ((((IntOp.cmpi .eq (io (ix2 r k)) (broadcastTo S1024x512 (shapeCast S1024x1 _ _) _ (ix2 r k))).setWidth 32).toInt : ℝ) : EReal) = _
  rw [bcastRow_apply, hwin, io_apply]
  unfold IntOp.cmpi
  by_cases hk : firstMax (weight (rowOf d r)) = k
  · rw [if_pos hk, hk]; simp
  · rw [if_neg hk]
    have : (BitVec.ofNat 32 k.val == BitVec.ofNat 32 (firstMax (weight (rowOf d r))).val) = false := by
      rw [beq_eq_false_iff_ne]
      intro he
      exact hk (Fin.ext ((ofNat_inj (by have := k.isLt; omega) (by have := (firstMax (weight (rowOf d r))).isLt; omega)).mp he).symm)
    simp [this]

/-- A row's index as the kernel writes it, in a column. -/
theorem pay81_apply (x : IVec S1024 32) (z : Fin 1) : k0_pay81 x (ix2 r z) = x (ix1 r) := shapeCast_a_a1_apply x _ r z
/-- The same for the group's. -/
theorem pay82_apply (x : IVec S1024 32) (z : Fin 1) : k0_pay82 x (ix2 r z) = x (ix1 r) := shapeCast_a_a1_apply x _ r z
/-- The counts start at zero. -/
theorem pay83_apply (i : S1x512.Idx) : (k0_pay83 (F := Ideal)) i = 0 := Ideal.ofBits_zero_f32

/-- One entry's part of the entropy as the kernel writes it. -/
def kterm (h : Vec Ideal S1x512 .f32) : FVec Ideal S1x512 .f32 :=
  select (cmpf .ogt h (broadcast S1x512 (Ideal.ofBits .f32 0x00000000#32) : FVec Ideal S1x512 .f32))
    (mulf (divf h (broadcast S1x512 (Ideal.ofBits .f32 0x45000000#32) : FVec Ideal S1x512 .f32))
      (log (select (cmpf .ogt h (broadcast S1x512 (Ideal.ofBits .f32 0x00000000#32) : FVec Ideal S1x512 .f32))
        (divf h (broadcast S1x512 (Ideal.ofBits .f32 0x45000000#32) : FVec Ideal S1x512 .f32))
        (broadcast S1x512 (Ideal.ofBits .f32 0x3F800000#32) : FVec Ideal S1x512 .f32))))
    (broadcast S1x512 (Ideal.ofBits .f32 0x00000000#32) : FVec Ideal S1x512 .f32)

theorem kterm_apply (h : Vec Ideal S1x512 .f32) (i : S1x512.Idx) : kterm h i = entTerm (h i) := by
  have h1 : kterm h i = Scalar.select (Ideal.cmp .ogt (h i) (Ideal.ofBits .f32 0x00000000#32))
      (Ideal.div (h i) (Ideal.ofBits .f32 0x45000000#32) * Ideal.log (Scalar.select (Ideal.cmp .ogt (h i) (Ideal.ofBits .f32 0x00000000#32))
        (Ideal.div (h i) (Ideal.ofBits .f32 0x45000000#32)) (Ideal.ofBits .f32 0x3F800000#32))) (Ideal.ofBits .f32 0x00000000#32) := rfl
  rw [h1, select_ogt, select_ogt, Ideal.ofBits_zero_f32, entTerm]
  split <;> rfl

/-- The entropy as the kernel writes it, from the counts. -/
theorem pay1_apply (h : Vec Ideal S1x512 .f32) (i : S1x1.Idx) : k0_pay1 h i = entropy fun k => h (ix2 0 k) := by
  have h1 : ∃ q, k0_pay1 h i = Ideal.ofBits .f32 0x00000000#32 - allAdd (shapeCast S1x1x512
      (kterm (shapeCast S1x512 h shapeCasts_S1x512_S1x512)) shapeCasts_S1x512_S1x1x512) q :=
    ⟨_, rfl⟩
  obtain ⟨q, h1⟩ := h1
  rw [h1, shapeCast_self, allAdd_apply, Ideal.ofBits_zero_f32, zero_sub, entropy]
  have h2 : ∑ i, shapeCast S1x1x512 (kterm h) shapeCasts_S1x512_S1x1x512 i = ∑ i, kterm h i :=
    Equiv.sum_comp (Shape.reshapeEquiv shapeCasts_S1x512_S1x1x512) (kterm h)
  rw [h2, sum_idx2, Fin.sum_univ_one]
  simp only [kterm_apply]

end Cert.KernelIdeal.Block

end
-- ==== Proof.KerOuts.lean ====
/- What each case of the kernel body leaves in each output's block, as the block computation's named terms. -/
module

public import proofs.«01_k».proof.Proof.KerRow
public import proofs.«01_k».proof.Proof.Gen.KernelIdeal.Frame

@[expose] public section

set_option maxRecDepth 65536

noncomputable section

namespace Cert.KernelIdeal.Block

open Cert.KernelIdeal Cert.KernelIdeal.Gen Idealize.ShloMosaic Idealize.ShloMosaic.TcCoe Idealize.SL.Sem

/-- The zero offsets of a whole-block access. -/
theorem off0 : (![0, 0] : Fin 2 → ℕ) = fun _ => 0 := by decide

variable {F : FTy → Type} [FloatOps F]
variable (c : Dev nD) (i : grid0.Coords) (a1 : Memref sig .tc .vmem S1024x64 .f32) (h1 : a1.IsWhole) (a2 : Memref sig .tc .vmem S512x64 .f32) (h2 : a2.IsWhole) (a3 : Memref sig .tc .vmem S64x512 .f32) (h3 : a3.IsWhole) (a4 : Memref sig .tc .vmem S1024x64 .f32) (h4 : a4.IsWhole) (a5 : Memref sig .tc .vmem S1024x1 .f32) (h5 : a5.IsWhole) (a6 : Memref sig .tc .vmem S1024x1 .f32) (h6 : a6.IsWhole) (a7 : Memref sig .tc .vmem S1024x1 .i32) (h7 : a7.IsWhole) (a8 : Memref sig .tc .vmem S1024x1 .i32) (h8 : a8.IsWhole) (a9 : Memref sig .tc .vmem S1x512 .f32) (h9 : a9.IsWhole) (a10 : Memref sig .tc .vmem S1x1 .f32) (h10 : a10.IsWhole)
variable (x0 : Vec F S1024x64 .f32) (x1 : Vec F S512x64 .f32) (x2 : Vec F S64x512 .f32) (xo8 : Vec F S1x512 .f32)

/-- Case A: the straight-through values. -/
theorem out_A_3 (hc0 : cond0_0 i) (hc1 : ¬cond0_1 i) :
    out0_A_3 c i a1 h1 a2 h2 a3 h3 a4 h4 a5 h5 a6 h6 a7 h7 a8 h8 a9 h9 a10 h10 hc0 hc1 x0 x1 x2 = kdisc (k0_pay2 x0) (k0_pay3 x1) (kdist x0 x2) := by
  unfold out0_A_3
  rw [View.read_writes_eq_canon _ _ _ (cover0_A_3 c i a1 h1 a2 h2 a3 h3 a4 h4 a5 h5 a6 h6 a7 h7 a8 h8 a9 h9 a10 h10 hc0 hc1 x0 x1 x2)]
  unfold kernelRun0_A
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x64) off0, View.canon_unit_zero (S := S1024x64) off0]
  rfl

/-- Case A: the penalties. -/
theorem out_A_4 (hc0 : cond0_0 i) (hc1 : ¬cond0_1 i) :
    out0_A_4 c i a1 h1 a2 h2 a3 h3 a4 h4 a5 h5 a6 h6 a7 h7 a8 h8 a9 h9 a10 h10 hc0 hc1 x0 x1 x2 = kpen (k0_pay2 x0) (k0_pay3 x1) (kdist x0 x2) := by
  unfold out0_A_4
  rw [View.read_writes_eq_canon _ _ _ (cover0_A_4 c i a1 h1 a2 h2 a3 h3 a4 h4 a5 h5 a6 h6 a7 h7 a8 h8 a9 h9 a10 h10 hc0 hc1 x0 x1 x2)]
  unfold kernelRun0_A
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case A: the penalties. -/
theorem out_A_5 (hc0 : cond0_0 i) (hc1 : ¬cond0_1 i) :
    out0_A_5 c i a1 h1 a2 h2 a3 h3 a4 h4 a5 h5 a6 h6 a7 h7 a8 h8 a9 h9 a10 h10 hc0 hc1 x0 x1 x2 = kpen (k0_pay2 x0) (k0_pay3 x1) (kdist x0 x2) := by
  unfold out0_A_5
  rw [View.read_writes_eq_canon _ _ _ (cover0_A_5 c i a1 h1 a2 h2 a3 h3 a4 h4 a5 h5 a6 h6 a7 h7 a8 h8 a9 h9 a10 h10 hc0 hc1 x0 x1 x2)]
  unfold kernelRun0_A
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case A: the nearest entries. -/
theorem out_A_6 (hc0 : cond0_0 i) (hc1 : ¬cond0_1 i) :
    out0_A_6 c i a1 h1 a2 h2 a3 h3 a4 h4 a5 h5 a6 h6 a7 h7 a8 h8 a9 h9 a10 h10 hc0 hc1 x0 x1 x2 = k0_pay81 (kia (kdist x0 x2)) := by
  unfold out0_A_6
  rw [View.read_writes_eq_canon _ _ _ (cover0_A_6 c i a1 h1 a2 h2 a3 h3 a4 h4 a5 h5 a6 h6 a7 h7 a8 h8 a9 h9 a10 h10 hc0 hc1 x0 x1 x2)]
  unfold kernelRun0_A
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case A: the nearest groups. -/
theorem out_A_7 (hc0 : cond0_0 i) (hc1 : ¬cond0_1 i) :
    out0_A_7 c i a1 h1 a2 h2 a3 h3 a4 h4 a5 h5 a6 h6 a7 h7 a8 h8 a9 h9 a10 h10 hc0 hc1 x0 x1 x2 = k0_pay82 (kig (kdist x0 x2)) := by
  unfold out0_A_7
  rw [View.read_writes_eq_canon _ _ _ (cover0_A_7 c i a1 h1 a2 h2 a3 h3 a4 h4 a5 h5 a6 h6 a7 h7 a8 h8 a9 h9 a10 h10 hc0 hc1 x0 x1 x2)]
  unfold kernelRun0_A
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case A: the counts. -/
theorem out_A_8 (hc0 : cond0_0 i) (hc1 : ¬cond0_1 i) :
    out0_A_8 c i a1 h1 a2 h2 a3 h3 a4 h4 a5 h5 a6 h6 a7 h7 a8 h8 a9 h9 a10 h10 hc0 hc1 x0 x1 x2 = khist (kdist x0 x2) (k0_pay83 (F := F)) := by
  unfold out0_A_8
  rw [View.read_writes_eq_canon _ _ _ (cover0_A_8 c i a1 h1 a2 h2 a3 h3 a4 h4 a5 h5 a6 h6 a7 h7 a8 h8 a9 h9 a10 h10 hc0 hc1 x0 x1 x2)]
  unfold kernelRun0_A
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.ld_unit_zero (S := S1x512) off0, View.readCov_unit_zero (S := S1x512) _ off0, View.canon_cons_unit_zero (S := S1x512) off0, View.canon_unit_zero (S := S1x512) off0]
  rfl

/-- Case A: the entropy. -/
theorem out_A_9 (hc0 : cond0_0 i) (hc1 : ¬cond0_1 i) :
    out0_A_9 c i a1 h1 a2 h2 a3 h3 a4 h4 a5 h5 a6 h6 a7 h7 a8 h8 a9 h9 a10 h10 hc0 hc1 x0 x1 x2 = k0_pay84 (F := F) := by
  unfold out0_A_9
  rw [View.read_writes_eq_canon _ _ _ (cover0_A_9 c i a1 h1 a2 h2 a3 h3 a4 h4 a5 h5 a6 h6 a7 h7 a8 h8 a9 h9 a10 h10 hc0 hc1 x0 x1 x2)]
  unfold kernelRun0_A
  dsimp only
  sl_unfold_words
  simp only [View.ld_unit_zero (S := S1024x64) off0, View.ld_unit_zero (S := S512x64) off0, View.ld_unit_zero (S := S64x512) off0, View.ld_unit_zero (S := S1x512) off0, View.canon_cons_unit_zero (S := S1x1) off0, View.canon_unit_zero (S := S1x1) off0]

/-- Case B: the straight-through values. -/
theorem out_B_3 (hc0 : ¬cond0_0 i) (hc1 : cond0_1 i) :
    out0_B_3 c i a1 h1 a2 h2 a3 h3 a4 h4 a5 h5 a6 h6 a7 h7 a8 h8 a9 h9 a10 h10 hc0 hc1 x0 x1 x2 xo8 = kdisc (k0_pay2 x0) (k0_pay3 x1) (kdist x0 x2) := by
  unfold out0_B_3
  rw [View.read_writes_eq_canon _ _ _ (cover0_B_3 c i a1 h1 a2 h2 a3 h3 a4 h4 a5 h5 a6 h6 a7 h7 a8 h8 a9 h9 a10 h10 hc0 hc1 x0 x1 x2 xo8)]
  unfold kernelRun0_B
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x64) off0, View.canon_unit_zero (S := S1024x64) off0]
  rfl

/-- Case B: the penalties. -/
theorem out_B_4 (hc0 : ¬cond0_0 i) (hc1 : cond0_1 i) :
    out0_B_4 c i a1 h1 a2 h2 a3 h3 a4 h4 a5 h5 a6 h6 a7 h7 a8 h8 a9 h9 a10 h10 hc0 hc1 x0 x1 x2 xo8 = kpen (k0_pay2 x0) (k0_pay3 x1) (kdist x0 x2) := by
  unfold out0_B_4
  rw [View.read_writes_eq_canon _ _ _ (cover0_B_4 c i a1 h1 a2 h2 a3 h3 a4 h4 a5 h5 a6 h6 a7 h7 a8 h8 a9 h9 a10 h10 hc0 hc1 x0 x1 x2 xo8)]
  unfold kernelRun0_B
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case B: the penalties. -/
theorem out_B_5 (hc0 : ¬cond0_0 i) (hc1 : cond0_1 i) :
    out0_B_5 c i a1 h1 a2 h2 a3 h3 a4 h4 a5 h5 a6 h6 a7 h7 a8 h8 a9 h9 a10 h10 hc0 hc1 x0 x1 x2 xo8 = kpen (k0_pay2 x0) (k0_pay3 x1) (kdist x0 x2) := by
  unfold out0_B_5
  rw [View.read_writes_eq_canon _ _ _ (cover0_B_5 c i a1 h1 a2 h2 a3 h3 a4 h4 a5 h5 a6 h6 a7 h7 a8 h8 a9 h9 a10 h10 hc0 hc1 x0 x1 x2 xo8)]
  unfold kernelRun0_B
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case B: the nearest entries. -/
theorem out_B_6 (hc0 : ¬cond0_0 i) (hc1 : cond0_1 i) :
    out0_B_6 c i a1 h1 a2 h2 a3 h3 a4 h4 a5 h5 a6 h6 a7 h7 a8 h8 a9 h9 a10 h10 hc0 hc1 x0 x1 x2 xo8 = k0_pay81 (kia (kdist x0 x2)) := by
  unfold out0_B_6
  rw [View.read_writes_eq_canon _ _ _ (cover0_B_6 c i a1 h1 a2 h2 a3 h3 a4 h4 a5 h5 a6 h6 a7 h7 a8 h8 a9 h9 a10 h10 hc0 hc1 x0 x1 x2 xo8)]
  unfold kernelRun0_B
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case B: the nearest groups. -/
theorem out_B_7 (hc0 : ¬cond0_0 i) (hc1 : cond0_1 i) :
    out0_B_7 c i a1 h1 a2 h2 a3 h3 a4 h4 a5 h5 a6 h6 a7 h7 a8 h8 a9 h9 a10 h10 hc0 hc1 x0 x1 x2 xo8 = k0_pay82 (kig (kdist x0 x2)) := by
  unfold out0_B_7
  rw [View.read_writes_eq_canon _ _ _ (cover0_B_7 c i a1 h1 a2 h2 a3 h3 a4 h4 a5 h5 a6 h6 a7 h7 a8 h8 a9 h9 a10 h10 hc0 hc1 x0 x1 x2 xo8)]
  unfold kernelRun0_B
  dsimp only
  sl_unfold_words
  simp only [View.readAt_eq_ld, h1.read_unread, h2.read_unread, h3.read_unread]
  simp only [View.ld_unit_zero (S := S1024x64) off0, View.ld_unit_zero (S := S512x64) off0, View.ld_unit_zero (S := S64x512) off0, View.canon_cons_unit_zero (S := S1024x1) off0, View.canon_unit_zero (S := S1024x1) off0]
  rfl

/-- Case B: the counts. -/
theorem out_B_8 (hc0 : ¬cond0_0 i) (hc1 : cond0_1 i) :
    out0_B_8 c i a1 h1 a2 h2 a3 h3 a4 h4 a5 h5 a6 h6 a7 h7 a8 h8 a9 h9 a10 h10 hc0 hc1 x0 x1 x2 xo8 = khist (kdist x0 x2) xo8 := by
  unfold out0_B_8
  rw [View.read_writes_eq_canon _ _ _ (cover0_B_8 c i a1 h1 a2 h2 a3 h3 a4 h4 a5 h5 a6 h6 a7 h7 a8 h8 a9 h9 a10 h10 hc0 hc1 x0 x1 x2 xo8)]
  unfold kernelRun0_B
  dsimp only
  sl_unfold_words
  simp only [View.readAt_eq_ld, h1.read_unread, h2.read_unread, h3.read_unread, h9.read_unread]
  simp only [View.ld_unit_zero (S := S1024x64) off0, View.ld_unit_zero (S := S512x64) off0, View.ld_unit_zero (S := S64x512) off0, View.ld_unit_zero (S := S1x512) off0, View.readCov_unit_zero (S := S1x512) _ off0, View.canon_cons_unit_zero (S := S1x512) off0, View.canon_unit_zero (S := S1x512) off0]
  rfl

/-- Case B: the entropy. -/
theorem out_B_9 (hc0 : ¬cond0_0 i) (hc1 : cond0_1 i) :
    out0_B_9 c i a1 h1 a2 h2 a3 h3 a4 h4 a5 h5 a6 h6 a7 h7 a8 h8 a9 h9 a10 h10 hc0 hc1 x0 x1 x2 xo8 = k0_pay1 (khist (kdist x0 x2) xo8) := by
  unfold out0_B_9
  rw [View.read_writes_eq_canon _ _ _ (cover0_B_9 c i a1 h1 a2 h2 a3 h3 a4 h4 a5 h5 a6 h6 a7 h7 a8 h8 a9 h9 a10 h10 hc0 hc1 x0 x1 x2 xo8)]
  unfold kernelRun0_B
  dsimp only
  sl_unfold_words
  simp only [View.readAt_eq_ld, h1.read_unread, h2.read_unread, h3.read_unread, h9.read_unread]
  simp only [View.ld_unit_zero (S := S1024x64) off0, View.ld_unit_zero (S := S512x64) off0, View.ld_unit_zero (S := S64x512) off0, View.ld_unit_zero (S := S1x512) off0, View.readCov_unit_zero (S := S1x512) _ off0, View.canon_cons_unit_zero (S := S1x1) off0, View.canon_unit_zero (S := S1x1) off0]
  rfl

end Cert.KernelIdeal.Block

end
-- ==== Proof.Args.lean ====
/- The two arguments as rows: the 2048 tokens and the 512 codebook entries, and the six results as functions of them. -/
module

public import proofs.«01_k».proof.Proof.Spec
public import Idealize.ShloMosaic.Lib.ValueIdx

@[expose] public section

noncomputable section

namespace Cert.Vq

open Idealize.ShloMosaic Idealize.ShloMosaic.ValueIdx

/-- The position of token `s` of sequence `b` among all tokens. -/
def token (b : Fin 4) (s : Fin 512) : Fin 2048 := ⟨b.val * 512 + s.val, by omega⟩

/-- Token `n` of the first argument. -/
def tok (x : Vec Ideal ⟨4, ![4, 512, 1, 64]⟩ .f32) (n : Fin 2048) (v : Fin 64) : EReal :=
  x (ix4 ⟨n.val / 512, by omega⟩ ⟨n.val % 512, Nat.mod_lt _ (by decide)⟩ 0 v)

/-- Entry `k` of the second argument. -/
def code (e : Vec Ideal ⟨3, ![1, 512, 64]⟩ .f32) (k : Fin 512) (v : Fin 64) : EReal := e (ix3 0 k v)

/-- A token read by its sequence and its place in it. -/
theorem tok_token (x : Vec Ideal ⟨4, ![4, 512, 1, 64]⟩ .f32) (b : Fin 4) (s : Fin 512) (z : Fin 1) (v : Fin 64) :
    tok x (token b s) v = x (ix4 b s z v) := by
  obtain rfl : z = 0 := Subsingleton.elim _ _
  unfold tok token
  congr 1
  have h1 : (b.val * 512 + s.val) / 512 = b.val := by omega
  have h2 : (b.val * 512 + s.val) % 512 = s.val := by omega
  simp only [h1, h2]

/-- Result 1: the straight-through values. -/
def res1 (x : Vec Ideal ⟨4, ![4, 512, 1, 64]⟩ .f32) (e : Vec Ideal ⟨3, ![1, 512, 64]⟩ .f32) : Vec Ideal ⟨4, ![4, 512, 1, 64]⟩ .f32 :=
  fun i => disc (tok x (token (i 0) (i 1))) (code e) (i 3)
/-- Results 2 and 3: the penalties. -/
def res2 (x : Vec Ideal ⟨4, ![4, 512, 1, 64]⟩ .f32) (e : Vec Ideal ⟨3, ![1, 512, 64]⟩ .f32) : Vec Ideal ⟨3, ![4, 512, 1]⟩ .f32 :=
  fun i => pen (tok x (token (i 0) (i 1))) (code e)
/-- Result 4: the entropy. -/
def res4 (x : Vec Ideal ⟨4, ![4, 512, 1, 64]⟩ .f32) (e : Vec Ideal ⟨3, ![1, 512, 64]⟩ .f32) : Vec Ideal ⟨0, ![]⟩ .f32 :=
  fun _ => entropy (hist (tok x) (code e))
/-- Result 5: the nearest entries. -/
def res5 (x : Vec Ideal ⟨4, ![4, 512, 1, 64]⟩ .f32) (e : Vec Ideal ⟨3, ![1, 512, 64]⟩ .f32) : Vec Ideal ⟨3, ![4, 512, 1]⟩ .i32 :=
  fun i => BitVec.ofNat 32 (idxAtom (vdist (tok x (token (i 0) (i 1))) (code e))).val
/-- Result 6: the nearest groups. -/
def res6 (x : Vec Ideal ⟨4, ![4, 512, 1, 64]⟩ .f32) (e : Vec Ideal ⟨3, ![1, 512, 64]⟩ .f32) : Vec Ideal ⟨3, ![4, 512, 1]⟩ .i32 :=
  fun i => BitVec.ofNat 32 (idxGroup (vdist (tok x (token (i 0) (i 1))) (code e))).val

end Cert.Vq

end
-- ==== Proof.KerBlocks.lean ====
/- What each output array of the kernel holds after the run, as a function of the two arguments. -/
module

public import proofs.«01_k».proof.Proof.KerOuts
public import proofs.«01_k».proof.Proof.Args
public import Idealize.ShloMosaic.Lib.Pipeline.ValueKit

@[expose] public section

set_option maxRecDepth 65536

noncomputable section

namespace Cert.KernelIdeal.Block

open Cert.KernelIdeal Cert.KernelIdeal.Gen Idealize.ShloMosaic.ValueIdx Idealize.ShloMosaic.TcCoe Idealize.SL.Sem Cert.Vq
open Idealize.ShloMosaic hiding ix1 ix2 ix3 ix4 eq_ix1 eq_ix2 eq_ix3
open Idealize.ShloMosaic.Pipeline (Dat)

/-! ## One block, from rows -/

section Rows

variable {x0 : Vec Ideal S1024x64 .f32} {x1 : Vec Ideal S512x64 .f32} {x2 : Vec Ideal S64x512 .f32}
variable {xs : Fin 1024 → Fin 64 → EReal} {e : Fin 512 → Fin 64 → EReal}
variable (h0 : ∀ r v, x0 (ix2 r v) = xs r v) (h1 : ∀ k v, x1 (ix2 k v) = e k v) (h2 : ∀ k v, x2 (ix2 v k) = e k v)

include h0 h2 in
/-- A row of the distances. -/
theorem rowOf_kdist (r : Fin 1024) : rowOf (kdist x0 x2) r = vdist (xs r) e := by
  funext k
  show kdist x0 x2 (ix2 r k) = _
  rw [kdist_apply]
  simp only [h0, h2]

/-- The rows' block passes unchanged. -/
theorem pay2_self (x : Vec Ideal S1024x64 .f32) : k0_pay2 x = x := shapeCast_self x _
/-- The codebook passes unchanged. -/
theorem pay3_self (x : Vec Ideal S512x64 .f32) : k0_pay3 x = x := shapeCast_self x _

include h0 h1 h2
/-- The straight-through values of a block. -/
theorem kdisc_rows (r : Fin 1024) (v : Fin 64) : kdisc (k0_pay2 x0) (k0_pay3 x1) (kdist x0 x2) (ix2 r v) = disc (xs r) e v := by
  rw [pay2_self, pay3_self, kdisc_apply, rowOf_kdist h0 h2]
  simp only [h0, h1]
  rfl
/-- The penalties of a block. -/
theorem kpen_rows (r : Fin 1024) (z : Fin 1) : kpen (k0_pay2 x0) (k0_pay3 x1) (kdist x0 x2) (ix2 r z) = pen (xs r) e := by
  rw [pay2_self, pay3_self, kpen_apply, rowOf_kdist h0 h2]
  simp only [h0, h1]
  rfl
omit h1
/-- The nearest entries of a block. -/
theorem kia_rows (r : Fin 1024) (z : Fin 1) : k0_pay81 (kia (kdist x0 x2)) (ix2 r z) = BitVec.ofNat 32 (idxAtom (vdist (xs r) e)).val := by
  rw [pay81_apply, kia_apply, rowOf_kdist h0 h2]
/-- The nearest groups of a block. -/
theorem kig_rows (r : Fin 1024) (z : Fin 1) : k0_pay82 (kig (kdist x0 x2)) (ix2 r z) = BitVec.ofNat 32 (idxGroup (vdist (xs r) e)).val := by
  rw [pay82_apply, kig_apply, rowOf_kdist h0 h2]
/-- The counts after a block. -/
theorem khist_rows (h : Vec Ideal S1x512 .f32) (z : Fin 1) (k : Fin 512) :
    khist (kdist x0 x2) h (ix2 z k) = h (ix2 z k) + ∑ r : Fin 1024, if winner (xs r) e = k then (1 : EReal) else 0 := by
  rw [khist_apply]
  simp only [rowOf_kdist h0 h2]
  rfl

end Rows

/-! ## The input blocks -/

variable (m : (ℓ : Loc nD τ sig) → Buf (Elt Ideal) ℓ)

/-- The first argument. -/
abbrev argX (c : Dev nD) : Vec Ideal S4x512x1x64 .f32 := m ((c : Thread nD τ).loc main_arg0)
/-- The second argument. -/
abbrev argE (c : Dev nD) : Vec Ideal S1x512x64 .f32 := m ((c : Thread nD τ).loc main_arg1)

/-- The rows, before the region: the first argument reshaped. -/
theorem V_v0 (c : Dev nD) (n : Fin 2048) (v : Fin 64) : (V m c main_v0 : S2048x64.Idx → EReal) (ix2 n v) = tok (argX m c) n v := by
  have h : V m c main_v0 = shapeCast S2048x64 (argX m c) shapeCasts_S4x512x1x64_S2048x64 := by
    show StableHlo.after hostOps0 (fun b => m (c, b)) (Proc.devRef .tc main_v0) = _
    after_results
    rfl
  rw [h]
  refine shapeCast_apply _ _ _ _ ?_
  rw [Shape.rowMajor_val_four, Shape.rowMajor_val_two]
  show ((n.val / 512 * 512 + n.val % 512) * 1 + 0) * 64 + v.val = n.val * 64 + v.val
  omega
/-- The codebook, before the region: the second argument reshaped. -/
theorem V_v1 (c : Dev nD) (k : Fin 512) (v : Fin 64) : (V m c main_v1 : S512x64.Idx → EReal) (ix2 k v) = code (argE m c) k v := by
  have h : V m c main_v1 = shapeCast S512x64 (argE m c) shapeCasts_S1x512x64_S512x64 := by
    show StableHlo.after hostOps0 (fun b => m (c, b)) (Proc.devRef .tc main_v1) = _
    after_results
    rfl
  rw [h]
  exact shapeCast_1ab_ab_apply _ _ k v
/-- The codebook's transpose, before the region. -/
theorem V_v2 (c : Dev nD) (k : Fin 512) (v : Fin 64) : (V m c main_v2 : S64x512.Idx → EReal) (ix2 v k) = code (argE m c) k v := by
  have h : V m c main_v2 = transpose S64x512 [1, 0] (shapeCast S512x64 (argE m c) shapeCasts_S1x512x64_S512x64) transposes_S512x64_S64x512_1_0 := by
    show StableHlo.after hostOps0 (fun b => m (c, b)) (Proc.devRef .tc main_v2) = _
    after_results
    rfl
  rw [h]
  exact (transpose_ix2_apply _ _ v k).trans (shapeCast_1ab_ab_apply _ _ k v)

/-- Row `r` of block `t` among all rows. -/
def rowAt (t : Fin cfg0.N) (r : Fin 1024) : Fin 2048 := ⟨t.val * 1024 + r.val, by
  have : t.val < 2 := lt_of_lt_of_eq t.isLt N_0
  omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])

/-- The rows a block reads. -/
theorem blk0 (c : Dev nD) (t : Fin cfg0.N) (r : Fin 1024) (v : Fin 64) :
    (iblk m c 0 t : S1024x64.Idx → EReal) (ix2 r v) = tok (argX m c) (rowAt t r) v := by
  rw [← V_v0]
  blk_simp [iblk]
  congr 1
  blk_ext [idx0]
  rfl
/-- The codebook a block reads. -/
theorem blk1 (c : Dev nD) (t : Fin cfg0.N) (k : Fin 512) (v : Fin 64) :
    (iblk m c 1 t : S512x64.Idx → EReal) (ix2 k v) = code (argE m c) k v := by
  rw [← V_v1]
  blk_simp [iblk]
  congr 1
  blk_ext [idx1]
/-- The transposed codebook a block reads. -/
theorem blk2 (c : Dev nD) (t : Fin cfg0.N) (k : Fin 512) (v : Fin 64) :
    (iblk m c 2 t : S64x512.Idx → EReal) (ix2 v k) = code (argE m c) k v := by
  rw [← V_v2]
  blk_simp [iblk]
  congr 1
  blk_ext [idx2]

/-! ## The output blocks -/

/-- What a point leaves for output 3. -/
theorem outs3 (c : Dev nD) (t : Fin cfg0.N) : (outsAt0 m c t.val t.isLt).1 = kdisc (k0_pay2 (iblk m c 0 t)) (k0_pay3 (iblk m c 1 t)) (kdist (iblk m c 0 t) (iblk m c 2 t)) := by
  rcases Nat.mod_two_eq_zero_or_one t.val with h | h
  · have h' : ¬ t.val % 2 = 1 := by omega
    rw [outsAt0_A m c t h h']
    dsimp only
    exact out_A_3 (F := Ideal) ..
  · have h' : ¬ t.val % 2 = 0 := by omega
    rw [outsAt0_B m c t h' h]
    dsimp only
    exact out_B_3 (F := Ideal) ..
/-- What a point leaves for output 4. -/
theorem outs4 (c : Dev nD) (t : Fin cfg0.N) : (outsAt0 m c t.val t.isLt).2.1 = kpen (k0_pay2 (iblk m c 0 t)) (k0_pay3 (iblk m c 1 t)) (kdist (iblk m c 0 t) (iblk m c 2 t)) := by
  rcases Nat.mod_two_eq_zero_or_one t.val with h | h
  · have h' : ¬ t.val % 2 = 1 := by omega
    rw [outsAt0_A m c t h h']
    dsimp only
    exact out_A_4 (F := Ideal) ..
  · have h' : ¬ t.val % 2 = 0 := by omega
    rw [outsAt0_B m c t h' h]
    dsimp only
    exact out_B_4 (F := Ideal) ..
/-- What a point leaves for output 5. -/
theorem outs5 (c : Dev nD) (t : Fin cfg0.N) : (outsAt0 m c t.val t.isLt).2.2.1 = kpen (k0_pay2 (iblk m c 0 t)) (k0_pay3 (iblk m c 1 t)) (kdist (iblk m c 0 t) (iblk m c 2 t)) := by
  rcases Nat.mod_two_eq_zero_or_one t.val with h | h
  · have h' : ¬ t.val % 2 = 1 := by omega
    rw [outsAt0_A m c t h h']
    dsimp only
    exact out_A_5 (F := Ideal) ..
  · have h' : ¬ t.val % 2 = 0 := by omega
    rw [outsAt0_B m c t h' h]
    dsimp only
    exact out_B_5 (F := Ideal) ..
/-- What a point leaves for output 6. -/
theorem outs6 (c : Dev nD) (t : Fin cfg0.N) : (outsAt0 m c t.val t.isLt).2.2.2.1 = k0_pay81 (kia (kdist (iblk m c 0 t) (iblk m c 2 t))) := by
  rcases Nat.mod_two_eq_zero_or_one t.val with h | h
  · have h' : ¬ t.val % 2 = 1 := by omega
    rw [outsAt0_A m c t h h']
    dsimp only
    exact out_A_6 (F := Ideal) ..
  · have h' : ¬ t.val % 2 = 0 := by omega
    rw [outsAt0_B m c t h' h]
    dsimp only
    exact out_B_6 (F := Ideal) ..
/-- What a point leaves for output 7. -/
theorem outs7 (c : Dev nD) (t : Fin cfg0.N) : (outsAt0 m c t.val t.isLt).2.2.2.2.1 = k0_pay82 (kig (kdist (iblk m c 0 t) (iblk m c 2 t))) := by
  rcases Nat.mod_two_eq_zero_or_one t.val with h | h
  · have h' : ¬ t.val % 2 = 1 := by omega
    rw [outsAt0_A m c t h h']
    dsimp only
    exact out_A_7 (F := Ideal) ..
  · have h' : ¬ t.val % 2 = 0 := by omega
    rw [outsAt0_B m c t h' h]
    dsimp only
    exact out_B_7 (F := Ideal) ..

theorem idx3 : ∀ t : Fin cfg0.N, win0_3.index t = ![t.val, 0] := (by decide +kernel : ∀ t : Fin grid0.N, win0_3.index t = ![t.val, 0])
/-- Output array 3 after the run. -/
theorem arr3 (c : Dev nD) : (dats m 0 c).arrAt 3 cfg0.N = fun i : S2048x64.Idx => disc (tok (argX m c) (i 0)) (code (argE m c)) (i 1) := by
  refine (dats m 0 c).arrAt_eq_of_covers 3 _ (by decide +kernel) fun t hf y => ?_
  blk_simp
  rw [after0_3, outs3]
  have e0 : (((win0_3.blk t).view.emb y) 0 : Fin 2048) = rowAt t (y 0) := Fin.ext (by blk_simp [idx3]; rfl)
  have e1 : (((win0_3.blk t).view.emb y) 1 : Fin 64) = y 1 := Fin.ext (by blk_simp [idx3])
  dsimp only
  rw [e0, e1]
  have key : ∀ y : S1024x64.Idx, kdisc (k0_pay2 (iblk m c 0 t)) (k0_pay3 (iblk m c 1 t)) (kdist (iblk m c 0 t) (iblk m c 2 t)) y = _ := fun y => (congrArg _ (eq_ix2 y)).trans (kdisc_rows (fun r v => blk0 m c t r v) (fun k v => blk1 m c t k v) (fun k v => blk2 m c t k v) (y 0) (y 1))
  exact key y

theorem idx4 : ∀ t : Fin cfg0.N, win0_4.index t = ![t.val, 0] := (by decide +kernel : ∀ t : Fin grid0.N, win0_4.index t = ![t.val, 0])
/-- Output array 4 after the run. -/
theorem arr4 (c : Dev nD) : (dats m 0 c).arrAt 4 cfg0.N = fun i : S2048x1.Idx => pen (tok (argX m c) (i 0)) (code (argE m c)) := by
  refine (dats m 0 c).arrAt_eq_of_covers 4 _ (by decide +kernel) fun t hf y => ?_
  blk_simp
  rw [after0_4, outs4]
  have e0 : (((win0_4.blk t).view.emb y) 0 : Fin 2048) = rowAt t (y 0) := Fin.ext (by blk_simp [idx4]; rfl)
  dsimp only
  rw [e0]
  have key : ∀ y : S1024x1.Idx, kpen (k0_pay2 (iblk m c 0 t)) (k0_pay3 (iblk m c 1 t)) (kdist (iblk m c 0 t) (iblk m c 2 t)) y = _ := fun y => (congrArg _ (eq_ix2 y)).trans (kpen_rows (fun r v => blk0 m c t r v) (fun k v => blk1 m c t k v) (fun k v => blk2 m c t k v) (y 0) (y 1))
  exact key y

theorem idx5 : ∀ t : Fin cfg0.N, win0_5.index t = ![t.val, 0] := (by decide +kernel : ∀ t : Fin grid0.N, win0_5.index t = ![t.val, 0])
/-- Output array 5 after the run. -/
theorem arr5 (c : Dev nD) : (dats m 0 c).arrAt 5 cfg0.N = fun i : S2048x1.Idx => pen (tok (argX m c) (i 0)) (code (argE m c)) := by
  refine (dats m 0 c).arrAt_eq_of_covers 5 _ (by decide +kernel) fun t hf y => ?_
  blk_simp
  rw [after0_5, outs5]
  have e0 : (((win0_5.blk t).view.emb y) 0 : Fin 2048) = rowAt t (y 0) := Fin.ext (by blk_simp [idx5]; rfl)
  dsimp only
  rw [e0]
  have key : ∀ y : S1024x1.Idx, kpen (k0_pay2 (iblk m c 0 t)) (k0_pay3 (iblk m c 1 t)) (kdist (iblk m c 0 t) (iblk m c 2 t)) y = _ := fun y => (congrArg _ (eq_ix2 y)).trans (kpen_rows (fun r v => blk0 m c t r v) (fun k v => blk1 m c t k v) (fun k v => blk2 m c t k v) (y 0) (y 1))
  exact key y

theorem idx6 : ∀ t : Fin cfg0.N, win0_6.index t = ![t.val, 0] := (by decide +kernel : ∀ t : Fin grid0.N, win0_6.index t = ![t.val, 0])
/-- Output array 6 after the run. -/
theorem arr6 (c : Dev nD) : (dats m 0 c).arrAt 6 cfg0.N = fun i : S2048x1.Idx => BitVec.ofNat 32 (idxAtom (vdist (tok (argX m c) (i 0)) (code (argE m c)))).val := by
  refine (dats m 0 c).arrAt_eq_of_covers 6 _ (by decide +kernel) fun t hf y => ?_
  blk_simp
  rw [after0_6, outs6]
  have e0 : (((win0_6.blk t).view.emb y) 0 : Fin 2048) = rowAt t (y 0) := Fin.ext (by blk_simp [idx6]; rfl)
  dsimp only
  rw [e0]
  have key : ∀ y : S1024x1.Idx, k0_pay81 (kia (kdist (iblk m c 0 t) (iblk m c 2 t))) y = _ := fun y => (congrArg _ (eq_ix2 y)).trans (kia_rows (fun r v => blk0 m c t r v) (fun k v => blk2 m c t k v) (y 0) (y 1))
  exact key y

theorem idx7 : ∀ t : Fin cfg0.N, win0_7.index t = ![t.val, 0] := (by decide +kernel : ∀ t : Fin grid0.N, win0_7.index t = ![t.val, 0])
/-- Output array 7 after the run. -/
theorem arr7 (c : Dev nD) : (dats m 0 c).arrAt 7 cfg0.N = fun i : S2048x1.Idx => BitVec.ofNat 32 (idxGroup (vdist (tok (argX m c) (i 0)) (code (argE m c)))).val := by
  refine (dats m 0 c).arrAt_eq_of_covers 7 _ (by decide +kernel) fun t hf y => ?_
  blk_simp
  rw [after0_7, outs7]
  have e0 : (((win0_7.blk t).view.emb y) 0 : Fin 2048) = rowAt t (y 0) := Fin.ext (by blk_simp [idx7]; rfl)
  dsimp only
  rw [e0]
  have key : ∀ y : S1024x1.Idx, k0_pay82 (kig (kdist (iblk m c 0 t) (iblk m c 2 t))) y = _ := fun y => (congrArg _ (eq_ix2 y)).trans (kig_rows (fun r v => blk0 m c t r v) (fun k v => blk2 m c t k v) (y 0) (y 1))
  exact key y

/-- The counts after the first point. -/
theorem outs8_first (c : Dev nD) (h : 0 < cfg0.N) : (outsAt0 m c 0 h).2.2.2.2.2.1
    = khist (kdist (iblk m c 0 ⟨0, h⟩) (iblk m c 2 ⟨0, h⟩)) (k0_pay83 (F := Ideal)) := by
  rw [outsAt0_A m c ⟨0, h⟩ rfl (by show ¬ 0 % 2 = 1; omega)]
  dsimp only
  exact out_A_8 (F := Ideal) ..

/-- A sum over all rows, block by block. -/
theorem sum_rows (f : Fin 2048 → EReal) (h0 : 0 < cfg0.N) (h1 : 1 < cfg0.N) :
    ∑ n, f n = (∑ r, f (rowAt ⟨0, h0⟩ r)) + ∑ r, f (rowAt ⟨1, h1⟩ r) := by
  have h := Fin.sum_univ_add (a := 1024) (b := 1024) f
  refine h.trans (congrArg₂ (· + ·) (Fintype.sum_congr _ _ fun r => ?_) (Fintype.sum_congr _ _ fun r => ?_))
  · exact congrArg f (Fin.ext (by simp [rowAt]))
  · exact congrArg f (Fin.ext (by show 1024 + r.val = 1 * 1024 + r.val; omega))

/-- The entropy after the last point. -/
theorem outs9_last (c : Dev nD) (t : Fin cfg0.N) (h : t.val % 2 = 1) (i : S1x1.Idx) :
    (outsAt0 m c t.val t.isLt).2.2.2.2.2.2 i = entropy (hist (tok (argX m c)) (code (argE m c))) := by
  have ht2 : t.val < 2 := lt_of_lt_of_eq t.isLt N_0
  have ht : t.val = 1 := by omega
  have hp : 0 < cfg0.N := lt_of_le_of_lt (Nat.zero_le _) t.isLt
  have hp1 : 1 < cfg0.N := ht ▸ t.isLt
  obtain rfl : t = ⟨1, hp1⟩ := Fin.ext ht
  rw [outsAt0_B m c ⟨1, hp1⟩ (by show ¬ 1 % 2 = 0; omega) rfl]
  dsimp only
  refine (congrFun (out_B_9 (F := Ideal) ..) i).trans ?_
  rw [pay1_apply]
  congr 1
  funext k
  rw [khist_rows (fun r v => blk0 m c ⟨1, hp1⟩ r v) (fun k v => blk2 m c ⟨1, hp1⟩ k v)]
  rw [show (outsAt0 m c (1 - 1) _).2.2.2.2.2.1 = _ from outs8_first m c hp]
  rw [khist_rows (fun r v => blk0 m c ⟨0, hp⟩ r v) (fun k v => blk2 m c ⟨0, hp⟩ k v), pay83_apply, zero_add]
  unfold hist
  rw [sum_rows _ hp hp1]

/-- The entropy array after the run. -/
theorem arr9 (c : Dev nD) : (dats m 0 c).arrAt 9 cfg0.N = fun _ : S1x1.Idx => entropy (hist (tok (argX m c)) (code (argE m c))) := by
  refine (dats m 0 c).arrAt_eq_of_covers 9 _ (by decide +kernel) fun t hf y => ?_
  blk_simp
  rw [after0_9]
  exact outs9_last m c t ((flush0_9 t).mp hf) y

end Cert.KernelIdeal.Block

end
-- ==== Proof.KerRun.lean ====
/- The kernel's run: each result is the stated function of the two arguments. -/
module

public import proofs.«01_k».proof.Proof.KerBlocks

@[expose] public section

set_option maxRecDepth 65536

noncomputable section

namespace Cert.KernelIdeal.Block

open Cert.KernelIdeal Cert.KernelIdeal.Gen Idealize.ShloMosaic.ValueIdx Idealize.ShloMosaic.TcCoe Idealize.SL.Sem Cert.Vq
open Idealize.ShloMosaic hiding ix1 ix2 ix3 ix4 eq_ix1 eq_ix2 eq_ix3

variable (m : (ℓ : Loc nD τ sig) → Buf (Elt Ideal) ℓ)

/-- A column of rows read by sequence and place. -/
theorem cast_rows {α : Type} (x : S2048x1.Idx → α) (i : S4x512x1.Idx) :
    shapeCast S4x512x1 x shapeCasts_S2048x1_S4x512x1 i = x (ix2 (token (i 0) (i 1)) 0) := by
  refine shapeCast_apply _ _ _ _ ?_
  rw [Shape.rowMajor_val_two, Shape.rowMajor_val_three]
  have h2 : (i 2).val < 1 := (i 2).isLt
  show ((i 0).val * 512 + (i 1).val) * 1 + 0 = ((i 0).val * 512 + (i 1).val) * 1 + (i 2).val
  omega
/-- A block of rows read by sequence and place. -/
theorem cast_block {α : Type} (x : S2048x64.Idx → α) (i : S4x512x1x64.Idx) :
    shapeCast S4x512x1x64 x shapeCasts_S2048x64_S4x512x1x64 i = x (ix2 (token (i 0) (i 1)) (i 3)) := by
  refine shapeCast_apply _ _ _ _ ?_
  rw [Shape.rowMajor_val_two, Shape.rowMajor_val_four]
  have h2 : (i 2).val < 1 := (i 2).isLt
  show ((i 0).val * 512 + (i 1).val) * 64 + (i 3).val = (((i 0).val * 512 + (i 1).val) * 1 + (i 2).val) * 64 + (i 3).val
  omega

/-- The array of `main_v4` after the run. -/
theorem tail4 (c : Dev nD) : Pipeline.afterTail₀ cfgs (dats m) 0 (V0 m) [hostOps1] c main_v4 = res1 (argX m c) (argE m c) := by
  have h : Pipeline.afterTail₀ cfgs (dats m) 0 (V0 m) [hostOps1] c main_v4
      = shapeCast S4x512x1x64 ((dats m 0 c).arrAt 3 cfg0.N) shapeCasts_S2048x64_S4x512x1x64 := by
    unfold Pipeline.afterTail₀
    show StableHlo.after hostOps1 _ (Proc.devRef .tc main_v4) = _
    after_results
    have hw := Pipeline.withArrays_arr spec0 launch0.win.arr_inj c (V0 m c) (fun w => (dats m 0 c).arrAt w cfg0.N) 3
    exact congrArg (fun x => shapeCast S4x512x1x64 x shapeCasts_S2048x64_S4x512x1x64) hw
  rw [h, arr3]
  funext i
  exact cast_block _ i
/-- The array of `main_v5` after the run. -/
theorem tail5 (c : Dev nD) : Pipeline.afterTail₀ cfgs (dats m) 0 (V0 m) [hostOps1] c main_v5 = res2 (argX m c) (argE m c) := by
  have h : Pipeline.afterTail₀ cfgs (dats m) 0 (V0 m) [hostOps1] c main_v5
      = shapeCast S4x512x1 ((dats m 0 c).arrAt 4 cfg0.N) shapeCasts_S2048x1_S4x512x1 := by
    unfold Pipeline.afterTail₀
    show StableHlo.after hostOps1 _ (Proc.devRef .tc main_v5) = _
    after_results
    have hw := Pipeline.withArrays_arr spec0 launch0.win.arr_inj c (V0 m c) (fun w => (dats m 0 c).arrAt w cfg0.N) 4
    exact congrArg (fun x => shapeCast S4x512x1 x shapeCasts_S2048x1_S4x512x1) hw
  rw [h, arr4]
  funext i
  exact cast_rows _ i
/-- The array of `main_v6` after the run. -/
theorem tail6 (c : Dev nD) : Pipeline.afterTail₀ cfgs (dats m) 0 (V0 m) [hostOps1] c main_v6 = res2 (argX m c) (argE m c) := by
  have h : Pipeline.afterTail₀ cfgs (dats m) 0 (V0 m) [hostOps1] c main_v6
      = shapeCast S4x512x1 ((dats m 0 c).arrAt 5 cfg0.N) shapeCasts_S2048x1_S4x512x1 := by
    unfold Pipeline.afterTail₀
    show StableHlo.after hostOps1 _ (Proc.devRef .tc main_v6) = _
    after_results
    have hw := Pipeline.withArrays_arr spec0 launch0.win.arr_inj c (V0 m c) (fun w => (dats m 0 c).arrAt w cfg0.N) 5
    exact congrArg (fun x => shapeCast S4x512x1 x shapeCasts_S2048x1_S4x512x1) hw
  rw [h, arr5]
  funext i
  exact cast_rows _ i
/-- The array of `main_v7` after the run. -/
theorem tail7 (c : Dev nD) : Pipeline.afterTail₀ cfgs (dats m) 0 (V0 m) [hostOps1] c main_v7 = res4 (argX m c) (argE m c) := by
  have h : Pipeline.afterTail₀ cfgs (dats m) 0 (V0 m) [hostOps1] c main_v7
      = shapeCast S_ ((dats m 0 c).arrAt 9 cfg0.N) shapeCasts_S1x1_S_ := by
    unfold Pipeline.afterTail₀
    show StableHlo.after hostOps1 _ (Proc.devRef .tc main_v7) = _
    after_results
    have hw := Pipeline.withArrays_arr spec0 launch0.win.arr_inj c (V0 m c) (fun w => (dats m 0 c).arrAt w cfg0.N) 9
    exact congrArg (fun x => shapeCast S_ x shapeCasts_S1x1_S_) hw
  rw [h, arr9]
  funext i
  exact rfl
/-- The array of `main_v8` after the run. -/
theorem tail8 (c : Dev nD) : Pipeline.afterTail₀ cfgs (dats m) 0 (V0 m) [hostOps1] c main_v8 = res5 (argX m c) (argE m c) := by
  have h : Pipeline.afterTail₀ cfgs (dats m) 0 (V0 m) [hostOps1] c main_v8
      = shapeCast S4x512x1 ((dats m 0 c).arrAt 6 cfg0.N) shapeCasts_S2048x1_S4x512x1 := by
    unfold Pipeline.afterTail₀
    show StableHlo.after hostOps1 _ (Proc.devRef .tc main_v8) = _
    after_results
    have hw := Pipeline.withArrays_arr spec0 launch0.win.arr_inj c (V0 m c) (fun w => (dats m 0 c).arrAt w cfg0.N) 6
    exact congrArg (fun x => shapeCast S4x512x1 x shapeCasts_S2048x1_S4x512x1) hw
  rw [h, arr6]
  funext i
  exact cast_rows _ i
/-- The array of `main_v9` after the run. -/
theorem tail9 (c : Dev nD) : Pipeline.afterTail₀ cfgs (dats m) 0 (V0 m) [hostOps1] c main_v9 = res6 (argX m c) (argE m c) := by
  have h : Pipeline.afterTail₀ cfgs (dats m) 0 (V0 m) [hostOps1] c main_v9
      = shapeCast S4x512x1 ((dats m 0 c).arrAt 7 cfg0.N) shapeCasts_S2048x1_S4x512x1 := by
    unfold Pipeline.afterTail₀
    show StableHlo.after hostOps1 _ (Proc.devRef .tc main_v9) = _
    after_results
    have hw := Pipeline.withArrays_arr spec0 launch0.win.arr_inj c (V0 m c) (fun w => (dats m 0 c).arrAt w cfg0.N) 7
    exact congrArg (fun x => shapeCast S4x512x1 x shapeCasts_S2048x1_S4x512x1) hw
  rw [h, arr7]
  funext i
  exact cast_rows _ i

/-- The kernel run: the six results as functions of the arguments, the arguments unchanged. -/
theorem run (ρ : Dev nD → PrngReg) : θ_run defs (onTc (τ := τ) (main (F := Ideal))) ⟨m, fun _ => 0, ρ⟩ fun r => ∀ c : Dev nD,
    (r.2.mem ((c : Thread nD τ).loc main_v4) = res1 (argX m c) (argE m c)
    ∧ r.2.mem ((c : Thread nD τ).loc main_v5) = res2 (argX m c) (argE m c)
    ∧ r.2.mem ((c : Thread nD τ).loc main_v6) = res2 (argX m c) (argE m c)
    ∧ r.2.mem ((c : Thread nD τ).loc main_v7) = res4 (argX m c) (argE m c)
    ∧ r.2.mem ((c : Thread nD τ).loc main_v8) = res5 (argX m c) (argE m c)
    ∧ r.2.mem ((c : Thread nD τ).loc main_v9) = res6 (argX m c) (argE m c))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨⟨
      ((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c),
      ((h.1 c).2 main_v7 (Pipeline.mem_restRefs_of main_v7 (by decide) (by decide))).trans (tail7 m c),
      ((h.1 c).2 main_v8 (Pipeline.mem_restRefs_of main_v8 (by decide) (by decide))).trans (tail8 m c),
      ((h.1 c).2 main_v9 (Pipeline.mem_restRefs_of main_v9 (by decide) (by decide))).trans (tail9 m c)⟩,
      h.2 c⟩) (θ_run_and (run_main m ρ) (unchanged m ρ))

end Cert.KernelIdeal.Block

end
-- ==== Proof.RefRun.lean ====
/- The reference program's @main as a LIST of its 202 host operations and its run read back (`run_seq`, the
   `after_results` tactic): every weakly fair execution terminates with each result buffer at the operations'
   composed pure term of the arguments' launch contents, the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v35`, named. It packs its operands into a list of dependent pairs
    whose shapes a later argument's type mentions, so `simp` cannot rewrite an operand where it stands; applied by
    name, the operands are plain arguments, which the window lemmas below rewrite before the name unfolds. -/
def fn_main_v35 : (⟨S2048x8x1, .i32⟩ : BufTy).Contents (Elt F) → (⟨S2048x8x1, .i32⟩ : BufTy).Contents (Elt F) → (⟨S2048x8x2, .i32⟩ : BufTy).Contents (Elt F) :=
  (fun a b => concatenate S2048x8x2 2 [⟨S2048x8x1, a⟩, ⟨S2048x8x1, b⟩] concatenates_S2048x8x1_S2048x8x1_S2048x8x2_d2)

/-- @main's operations 1 … 30 of 202 (window `main_part0`). -/
abbrev ops_part0_0 : List (HloOp τ sig (Elt F)) :=
  [ reshape main_arg0 main_v0 (rfl : (.f32 : EltTy) = .f32) shapeCasts_S4x512x1x64_S2048x1x1x64,
    unary main_arg1 main_v1 (broadcastInDim S1x1x512x64 ![1, 2, 3] bcast_S1x512x64_S1x1x512x64_1_2_3 : (⟨S1x512x64, .f32⟩ : BufTy).Contents (Elt F) → (⟨S1x1x512x64, .f32⟩ : BufTy).Contents (Elt F)),
    unary main_v0 main_v2 (broadcastInDim S2048x1x512x64 ![0, 1, 2, 3] bcast_S2048x1x1x64_S2048x1x512x64_0_1_2_3 : (⟨S2048x1x1x64, .f32⟩ : BufTy).Contents (Elt F) → (⟨S2048x1x512x64, .f32⟩ : BufTy).Contents (Elt F)),
    unary main_v1 main_v3 (broadcastInDim S2048x1x512x64 ![0, 1, 2, 3] bcast_S1x1x512x64_S2048x1x512x64_0_1_2_3 : (⟨S1x1x512x64, .f32⟩ : BufTy).Contents (Elt F) → (⟨S2048x1x512x64, .f32⟩ : BufTy).Contents (Elt F)),
    binary main_v2 main_v3 main_v4 (subf : (⟨S2048x1x512x64, .f32⟩ : BufTy).Contents (Elt F) → (⟨S2048x1x512x64, .f32⟩ : BufTy).Contents (Elt F) → (⟨S2048x1x512x64, .f32⟩ : BufTy).Contents (Elt F)),
    TRef.binary (TRef.of (T := ⟨S2048x1x512x64, .f32⟩) main_v4) (TRef.of (T := ⟨S2048x1x512x64, .f32⟩) main_v4) (TRef.of (T := ⟨S2048x1x512x64, .f32⟩) main_call0_v0) mulf,
    TRef.nullary (TRef.of (T := ⟨S_, .f32⟩) main_call0_cst) (constant S_ .f32 0x00000000#32),
    TRef.binary (TRef.of (T := ⟨S2048x1x512x64, .f32⟩) main_call0_v0) (TRef.of (T := ⟨S_, .f32⟩) main_call0_cst) (TRef.of (T := ⟨S2048x1x512, .f32⟩) main_call0_v1) (fun x v => Host.reduceAdd x v reducesTo_S2048x1x512x64_S2048x1x512_d3 h_S_),
    TRef.unary (TRef.of (T := ⟨S2048x1x512, .f32⟩) main_call0_v1) (TRef.of (T := ⟨S2048x1x512, .f32⟩) main_v5) Host.sqrt,
    TRef.nullary (TRef.of (T := ⟨S2048x1x512, .i32⟩) main_call1_v0) (iotaInDim S2048x1x512 32 2),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S2048x1x512, .f32⟩) main_v5) (TRef.of (T := ⟨S2048x1x512, .i32⟩) main_call1_v0) (TRef.of (T := ⟨S_, .f32⟩) main_call1_cst) (TRef.of (T := ⟨S_, .i32⟩) main_call1_c) (TRef.of (T := ⟨S2048x1, .f32⟩) main_call1_v1_0) (fun x y u v j => (Host.argReduce reducer_argmin_f32_i32 x y u v reducesTo_S2048x1x512_S2048x1_d2 h_S_ j).1),
    TRef.quaternary (TRef.of (T := ⟨S2048x1x512, .f32⟩) main_v5) (TRef.of (T := ⟨S2048x1x512, .i32⟩) main_call1_v0) (TRef.of (T := ⟨S_, .f32⟩) main_call1_cst) (TRef.of (T := ⟨S_, .i32⟩) main_call1_c) (TRef.of (T := ⟨S2048x1, .i32⟩) main_v6) (fun x y u v j => (Host.argReduce reducer_argmin_f32_i32 x y u v reducesTo_S2048x1x512_S2048x1_d2 h_S_ j).2),
    reshape main_v5 main_v7 (rfl : (.f32 : EltTy) = .f32) shapeCasts_S2048x1x512_S2048x1x64x8,
    nullary main_cst (constant S_ .f32 0x00000000#32),
    binary main_v7 main_cst main_v8 ((fun x v => Host.reduceAdd x v reducesTo_S2048x1x64x8_S2048x1x64_d3 h_S_) : (⟨S2048x1x64x8, .f32⟩ : BufTy).Contents (Elt F) → (⟨S_, .f32⟩ : BufTy).Contents (Elt F) → (⟨S2048x1x64, .f32⟩ : BufTy).Contents (Elt F)),
    nullary main_cst_0 (constant S_ .f32 0x41000000#32),
    unary main_cst_0 main_v9 (broadcastInDim S2048x1x64 ![] bcast_S_S2048x1x64 : (⟨S_, .f32⟩ : BufTy).Contents (Elt F) → (⟨S2048x1x64, .f32⟩ : BufTy).Contents (Elt F)),
    binary main_v8 main_v9 main_v10 (Host.divf : (⟨S2048x1x64, .f32⟩ : BufTy).Contents (Elt F) → (⟨S2048x1x64, .f32⟩ : BufTy).Contents (Elt F) → (⟨S2048x1x64, .f32⟩ : BufTy).Contents (Elt F)),
    TRef.nullary (TRef.of (T := ⟨S2048x1x64, .i32⟩) main_call2_v0) (iotaInDim S2048x1x64 32 2),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S2048x1x64, .f32⟩) main_v10) (TRef.of (T := ⟨S2048x1x64, .i32⟩) main_call2_v0) (TRef.of (T := ⟨S_, .f32⟩) main_call2_cst) (TRef.of (T := ⟨S_, .i32⟩) main_call2_c) (TRef.of (T := ⟨S2048x1, .f32⟩) main_call2_v1_0) (fun x y u v j => (Host.argReduce reducer_argmin_f32_i32 x y u v reducesTo_S2048x1x64_S2048x1_d2 h_S_ j).1),
    TRef.quaternary (TRef.of (T := ⟨S2048x1x64, .f32⟩) main_v10) (TRef.of (T := ⟨S2048x1x64, .i32⟩) main_call2_v0) (TRef.of (T := ⟨S_, .f32⟩) main_call2_cst) (TRef.of (T := ⟨S_, .i32⟩) main_call2_c) (TRef.of (T := ⟨S2048x1, .i32⟩) main_v11) (fun x y u v j => (Host.argReduce reducer_argmin_f32_i32 x y u v reducesTo_S2048x1x64_S2048x1_d2 h_S_ j).2),
    nullary main_c (constantI S_ 32 8#32),
    unary main_c main_v12 (broadcastInDim S2048x1 ![] bcast_S_S2048x1 : (⟨S_, .i32⟩ : BufTy).Contents (Elt F) → (⟨S2048x1, .i32⟩ : BufTy).Contents (Elt F)),
    binary main_v11 main_v12 main_v13 (muli : (⟨S2048x1, .i32⟩ : BufTy).Contents (Elt F) → (⟨S2048x1, .i32⟩ : BufTy).Contents (Elt F) → (⟨S2048x1, .i32⟩ : BufTy).Contents (Elt F)),
    nullary main_v14 (iotaInDim S8 32 0),
    unary main_v14 main_v15 (broadcastInDim S1x8 ![1] bcast_S8_S1x8_1 : (⟨S8, .i32⟩ : BufTy).Contents (Elt F) → (⟨S1x8, .i32⟩ : BufTy).Contents (Elt F)) ]

/-- @main's operations 31 … 60 of 202 (window `main_part0`). -/
abbrev ops_part0_1 : List (HloOp τ sig (Elt F)) :=
  [ unary main_v13 main_v16 (broadcastInDim S2048x8 ![0, 1] bcast_S2048x1_S2048x8_0_1 : (⟨S2048x1, .i32⟩ : BufTy).Contents (Elt F) → (⟨S2048x8, .i32⟩ : BufTy).Contents (Elt F)),
    unary main_v15 main_v17 (broadcastInDim S2048x8 ![0, 1] bcast_S1x8_S2048x8_0_1 : (⟨S1x8, .i32⟩ : BufTy).Contents (Elt F) → (⟨S2048x8, .i32⟩ : BufTy).Contents (Elt F)),
    binary main_v16 main_v17 main_v18 (addi : (⟨S2048x8, .i32⟩ : BufTy).Contents (Elt F) → (⟨S2048x8, .i32⟩ : BufTy).Contents (Elt F) → (⟨S2048x8, .i32⟩ : BufTy).Contents (Elt F)),
    nullary main_cst_1 (constant S_ .f32 0x00000000#32),
    unary main_cst_1 main_v19 (broadcastInDim S2048x512 ![] bcast_S_S2048x512 : (⟨S_, .f32⟩ : BufTy).Contents (Elt F) → (⟨S2048x512, .f32⟩ : BufTy).Contents (Elt F)),
    nullary main_v20 (iotaInDim S2048 32 0),
    unary main_v20 main_v21 (broadcastInDim S2048x1 ![0] bcast_S2048_S2048x1_0 : (⟨S2048, .i32⟩ : BufTy).Contents (Elt F) → (⟨S2048x1, .i32⟩ : BufTy).Contents (Elt F)),
    nullary main_c_2 (constantI S_ 32 0#32),
    unary main_c_2 main_v22 (broadcastInDim S2048x1 ![] bcast_S_S2048x1 : (⟨S_, .i32⟩ : BufTy).Contents (Elt F) → (⟨S2048x1, .i32⟩ : BufTy).Contents (Elt F)),
    binary main_v21 main_v22 main_v23 (cmpi .slt : (⟨S2048x1, .i32⟩ : BufTy).Contents (Elt F) → (⟨S2048x1, .i32⟩ : BufTy).Contents (Elt F) → (⟨S2048x1, .i1⟩ : BufTy).Contents (Elt F)),
    nullary main_c_3 (constantI S_ 32 2048#32),
    unary main_c_3 main_v24 (broadcastInDim S2048x1 ![] bcast_S_S2048x1 : (⟨S_, .i32⟩ : BufTy).Contents (Elt F) → (⟨S2048x1, .i32⟩ : BufTy).Contents (Elt F)),
    binary main_v21 main_v24 main_v25 (addi : (⟨S2048x1, .i32⟩ : BufTy).Contents (Elt F) → (⟨S2048x1, .i32⟩ : BufTy).Contents (Elt F) → (⟨S2048x1, .i32⟩ : BufTy).Contents (Elt F)),
    ternary main_v23 main_v25 main_v21 main_v26 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    nullary main_c_4 (constantI S_ 32 0#32),
    unary main_c_4 main_v27 (broadcastInDim S2048x8 ![] bcast_S_S2048x8 : (⟨S_, .i32⟩ : BufTy).Contents (Elt F) → (⟨S2048x8, .i32⟩ : BufTy).Contents (Elt F)),
    binary main_v18 main_v27 main_v28 (cmpi .slt : (⟨S2048x8, .i32⟩ : BufTy).Contents (Elt F) → (⟨S2048x8, .i32⟩ : BufTy).Contents (Elt F) → (⟨S2048x8, .i1⟩ : BufTy).Contents (Elt F)),
    nullary main_c_5 (constantI S_ 32 512#32),
    unary main_c_5 main_v29 (broadcastInDim S2048x8 ![] bcast_S_S2048x8 : (⟨S_, .i32⟩ : BufTy).Contents (Elt F) → (⟨S2048x8, .i32⟩ : BufTy).Contents (Elt F)),
    binary main_v18 main_v29 main_v30 (addi : (⟨S2048x8, .i32⟩ : BufTy).Contents (Elt F) → (⟨S2048x8, .i32⟩ : BufTy).Contents (Elt F) → (⟨S2048x8, .i32⟩ : BufTy).Contents (Elt F)),
    ternary main_v28 main_v30 main_v18 main_v31 (select : (⟨S2048x8, .i1⟩ : BufTy).Contents (Elt F) → (⟨S2048x8, .i32⟩ : BufTy).Contents (Elt F) → (⟨S2048x8, .i32⟩ : BufTy).Contents (Elt F) → (⟨S2048x8, .i32⟩ : BufTy).Contents (Elt F)),
    unary main_v26 main_v32 (broadcastInDim S2048x8 ![0, 1] bcast_S2048x1_S2048x8_0_1 : (⟨S2048x1, .i32⟩ : BufTy).Contents (Elt F) → (⟨S2048x8, .i32⟩ : BufTy).Contents (Elt F)),
    unary main_v32 main_v33 (broadcastInDim S2048x8x1 ![0, 1] bcast_S2048x8_S2048x8x1_0_1 : (⟨S2048x8, .i32⟩ : BufTy).Contents (Elt F) → (⟨S2048x8x1, .i32⟩ : BufTy).Contents (Elt F)),
    unary main_v31 main_v34 (broadcastInDim S2048x8x1 ![0, 1] bcast_S2048x8_S2048x8x1_0_1 : (⟨S2048x8, .i32⟩ : BufTy).Contents (Elt F) → (⟨S2048x8x1, .i32⟩ : BufTy).Contents (Elt F)),
    binary main_v33 main_v34 main_v35 (fn_main_v35 (F := F)),
    nullary main_cst_6 (constant S_ .f32 0x3F800000#32),
    unary main_cst_6 main_v36 (broadcastInDim S2048x8 ![] bcast_S_S2048x8 : (⟨S_, .f32⟩ : BufTy).Contents (Elt F) → (⟨S2048x8, .f32⟩ : BufTy).Contents (Elt F)),
    ternary main_v19 main_v35 main_v36 main_v37 ((fun x i u => Host.scatter scatter_S2048x512_S2048x8x2_S2048x8_n_01_01_2 (fun _ b => b) x i u) : (⟨S2048x512, .f32⟩ : BufTy).Contents (Elt F) → (⟨S2048x8x2, .i32⟩ : BufTy).Contents (Elt F) → (⟨S2048x8, .f32⟩ : BufTy).Contents (Elt F) → (⟨S2048x512, .f32⟩ : BufTy).Contents (Elt F)),
    reshape main_v5 main_v38 (rfl : (.f32 : EltTy) = .f32) shapeCasts_S2048x1x512_S2048x512,
    nullary main_cst_7 (constant S_ .f32 0x3F800000#32) ]

/-- @main's operations 61 … 90 of 202 (window `main_part0`). -/
abbrev ops_part0_2 : List (HloOp τ sig (Elt F)) :=
  [ unary main_cst_7 main_v39 (broadcastInDim S2048x512 ![] bcast_S_S2048x512 : (⟨S_, .f32⟩ : BufTy).Contents (Elt F) → (⟨S2048x512, .f32⟩ : BufTy).Contents (Elt F)),
    binary main_v39 main_v38 main_v40 (Host.divf : (⟨S2048x512, .f32⟩ : BufTy).Contents (Elt F) → (⟨S2048x512, .f32⟩ : BufTy).Contents (Elt F) → (⟨S2048x512, .f32⟩ : BufTy).Contents (Elt F)),
    binary main_v37 main_v40 main_v41 (mulf : (⟨S2048x512, .f32⟩ : BufTy).Contents (Elt F) → (⟨S2048x512, .f32⟩ : BufTy).Contents (Elt F) → (⟨S2048x512, .f32⟩ : BufTy).Contents (Elt F)),
    unary main_v41 main_v42 (Host.negf : (⟨S2048x512, .f32⟩ : BufTy).Contents (Elt F) → (⟨S2048x512, .f32⟩ : BufTy).Contents (Elt F)),
    TRef.nullary (TRef.of (T := ⟨S2048x512, .i32⟩) main_call3_v0) (iotaInDim S2048x512 32 1),
    TRef.binary (TRef.of (T := ⟨S2048x512, .f32⟩) main_v42) (TRef.of (T := ⟨S2048x512, .i32⟩) main_call3_v0) (TRef.of (T := ⟨S2048x512, .f32⟩) main_call3_v1_0) (fun x y => (Host.sort2 S2048x512 1 comparator_f32_i32_d1 x y).1),
    TRef.binary (TRef.of (T := ⟨S2048x512, .f32⟩) main_v42) (TRef.of (T := ⟨S2048x512, .i32⟩) main_call3_v0) (TRef.of (T := ⟨S2048x512, .i32⟩) main_v43) (fun x y => (Host.sort2 S2048x512 1 comparator_f32_i32_d1 x y).2),
    TRef.nullary (TRef.of (T := ⟨S_, .i32⟩) main_call4_c) (constantI S_ 32 0#32),
    TRef.unary (TRef.of (T := ⟨S_, .i32⟩) main_call4_c) (TRef.of (T := ⟨S2048x512, .i32⟩) main_call4_v0) (broadcastInDim S2048x512 ![] bcast_S_S2048x512),
    TRef.binary (TRef.of (T := ⟨S2048x512, .i32⟩) main_v43) (TRef.of (T := ⟨S2048x512, .i32⟩) main_call4_v0) (TRef.of (T := ⟨S2048x512, .i1⟩) main_call4_v1) (cmpi .slt),
    TRef.nullary (TRef.of (T := ⟨S_, .i32⟩) main_call4_c_0) (constantI S_ 32 512#32),
    TRef.unary (TRef.of (T := ⟨S_, .i32⟩) main_call4_c_0) (TRef.of (T := ⟨S2048x512, .i32⟩) main_call4_v2) (broadcastInDim S2048x512 ![] bcast_S_S2048x512),
    TRef.binary (TRef.of (T := ⟨S2048x512, .i32⟩) main_v43) (TRef.of (T := ⟨S2048x512, .i32⟩) main_call4_v2) (TRef.of (T := ⟨S2048x512, .i32⟩) main_call4_v3) addi,
    TRef.ternary (TRef.of (T := ⟨S2048x512, .i1⟩) main_call4_v1) (TRef.of (T := ⟨S2048x512, .i32⟩) main_call4_v3) (TRef.of (T := ⟨S2048x512, .i32⟩) main_v43) (TRef.of (T := ⟨S2048x512, .i32⟩) main_call4_v4) select,
    TRef.reshape (TRef.of (T := ⟨S2048x512, .i32⟩) main_call4_v4) (TRef.of (T := ⟨S2048x512x1, .i32⟩) main_call4_v5) (rfl : (.i32 : EltTy) = .i32) shapeCasts_S2048x512_S2048x512x1,
    TRef.nullary (TRef.of (T := ⟨S1, .i32⟩) main_call4_c_1) (constantI S1 32 511#32),
    TRef.nullary (TRef.of (T := ⟨S_, .i32⟩) main_call4_c_2) (constantI S_ 32 0#32),
    TRef.unary (TRef.of (T := ⟨S_, .i32⟩) main_call4_c_2) (TRef.of (T := ⟨S2048x512x1, .i32⟩) main_call4_v6) (broadcastInDim S2048x512x1 ![] bcast_S_S2048x512x1),
    TRef.binary (TRef.of (T := ⟨S2048x512x1, .i32⟩) main_call4_v5) (TRef.of (T := ⟨S2048x512x1, .i32⟩) main_call4_v6) (TRef.of (T := ⟨S2048x512x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S2048x512x1, .i32⟩) main_call4_v9) (broadcastInDim S2048x512x1 ![0, 1, 2] bcast_S1x1x1_S2048x512x1_0_1_2),
    TRef.binary (TRef.of (T := ⟨S2048x512x1, .i32⟩) main_call4_v5) (TRef.of (T := ⟨S2048x512x1, .i32⟩) main_call4_v9) (TRef.of (T := ⟨S2048x512x1, .i1⟩) main_call4_v10) (cmpi .sle),
    TRef.binary (TRef.of (T := ⟨S2048x512x1, .i1⟩) main_call4_v7) (TRef.of (T := ⟨S2048x512x1, .i1⟩) main_call4_v10) (TRef.of (T := ⟨S2048x512x1, .i1⟩) main_call4_v11) andi,
    TRef.nullary (TRef.of (T := ⟨S_, .i1⟩) main_call4_c_3) (constantI S_ 1 1#1),
    TRef.binary (TRef.of (T := ⟨S2048x512x1, .i1⟩) main_call4_v11) (TRef.of (T := ⟨S_, .i1⟩) main_call4_c_3) (TRef.of (T := ⟨S2048x512, .i1⟩) main_call4_v12) (fun x v => Host.reduce IntOp.andi x v reducesTo_S2048x512x1_S2048x512_d2 h_S_),
    TRef.binary (TRef.of (T := ⟨S2048x512, .f32⟩) main_v41) (TRef.of (T := ⟨S2048x512x1, .i32⟩) main_call4_v5) (TRef.of (T := ⟨S2048x512, .f32⟩) main_call4_v13) (fun x i => Host.gather gather_S2048x512_S2048x512x1_S2048x512_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S2048x512, .f32⟩) main_call4_v14) (broadcastInDim S2048x512 ![] bcast_S_S2048x512),
    TRef.ternary (TRef.of (T := ⟨S2048x512, .i1⟩) main_call4_v12) (TRef.of (T := ⟨S2048x512, .f32⟩) main_call4_v13) (TRef.of (T := ⟨S2048x512, .f32⟩) main_call4_v14) (TRef.of (T := ⟨S2048x512, .f32⟩) main_v44) select,
    unary main_v44 main_v45 ((extractStridedSlice S2048x8 ![0, 0] · slices_S2048x512_S2048x8_0_0) : (⟨S2048x512, .f32⟩ : BufTy).Contents (Elt F) → (⟨S2048x8, .f32⟩ : BufTy).Contents (Elt F)) ]

/-- @main's operations 91 … 94 of 202 (window `main_part0`). -/
abbrev ops_part0_3 : List (HloOp τ sig (Elt F)) :=
  [ unary main_v43 main_v46 ((extractStridedSlice S2048x8 ![0, 0] · slices_S2048x512_S2048x8_0_0) : (⟨S2048x512, .i32⟩ : BufTy).Contents (Elt F) → (⟨S2048x8, .i32⟩ : BufTy).Contents (Elt F)),
    unary main_v45 main_v47 (Host.absf : (⟨S2048x8, .f32⟩ : BufTy).Contents (Elt F) → (⟨S2048x8, .f32⟩ : BufTy).Contents (Elt F)),
    nullary main_cst_8 (constant S_ .f32 0x00000000#32),
    binary main_v47 main_cst_8 main_v48 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 95 … 124 of 202 (window `main_part1`). -/
abbrev ops_part1_0 : List (HloOp τ sig (Elt F)) :=
  [ unary main_v48 main_v49 (broadcastInDim S2048x1 ![0] bcast_S2048_S2048x1_0 : (⟨S2048, .f32⟩ : BufTy).Contents (Elt F) → (⟨S2048x1, .f32⟩ : BufTy).Contents (Elt F)),
    nullary main_cst_9 (constant S_ .f32 0x2B8CBCCC#32),
    unary main_cst_9 main_v50 (broadcastInDim S2048x1 ![] bcast_S_S2048x1 : (⟨S_, .f32⟩ : BufTy).Contents (Elt F) → (⟨S2048x1, .f32⟩ : BufTy).Contents (Elt F)),
    binary main_v49 main_v50 main_v51 (maximumf : (⟨S2048x1, .f32⟩ : BufTy).Contents (Elt F) → (⟨S2048x1, .f32⟩ : BufTy).Contents (Elt F) → (⟨S2048x1, .f32⟩ : BufTy).Contents (Elt F)),
    unary main_v51 main_v52 (broadcastInDim S2048x8 ![0, 1] bcast_S2048x1_S2048x8_0_1 : (⟨S2048x1, .f32⟩ : BufTy).Contents (Elt F) → (⟨S2048x8, .f32⟩ : BufTy).Contents (Elt F)),
    binary main_v45 main_v52 main_v53 (Host.divf : (⟨S2048x8, .f32⟩ : BufTy).Contents (Elt F) → (⟨S2048x8, .f32⟩ : BufTy).Contents (Elt F) → (⟨S2048x8, .f32⟩ : BufTy).Contents (Elt F)),
    reshape main_v6 main_v54 (rfl : (.i32 : EltTy) = .i32) shapeCasts_S2048x1_S4x512x1,
    reshape main_v11 main_v55 (rfl : (.i32 : EltTy) = .i32) shapeCasts_S2048x1_S4x512x1,
    unary main_v46 main_v56 ((extractStridedSlice S2048x1 ![0, 0] · slices_S2048x8_S2048x1_0_0) : (⟨S2048x8, .i32⟩ : BufTy).Contents (Elt F) → (⟨S2048x1, .i32⟩ : BufTy).Contents (Elt F)),
    reshape main_v56 main_v57 (rfl : (.i32 : EltTy) = .i32) shapeCasts_S2048x1_S2048,
    nullary main_c_10 (constantI S_ 32 0#32),
    unary main_c_10 main_v58 (broadcastInDim S512 ![] bcast_S_S512 : (⟨S_, .i32⟩ : BufTy).Contents (Elt F) → (⟨S512, .i32⟩ : BufTy).Contents (Elt F)),
    nullary main_c_11 (constantI S_ 32 0#32),
    TRef.unary (TRef.of (T := ⟨S_, .i32⟩) main_c_11) (TRef.of (T := ⟨S_, .i32⟩) main_call5_v0) id,
    TRef.unary (TRef.of (T := ⟨S_, .i32⟩) main_call5_v0) (TRef.of (T := ⟨S2048, .i32⟩) main_call5_v1) (broadcastInDim S2048 ![] bcast_S_S2048),
    TRef.binary (TRef.of (T := ⟨S2048, .i32⟩) main_call5_v1) (TRef.of (T := ⟨S2048, .i32⟩) main_v57) (TRef.of (T := ⟨S2048, .i32⟩) main_v59) maxsi,
    nullary main_c_12 (constantI S_ 32 0#32),
    unary main_c_12 main_v60 (broadcastInDim S2048 ![] bcast_S_S2048 : (⟨S_, .i32⟩ : BufTy).Contents (Elt F) → (⟨S2048, .i32⟩ : BufTy).Contents (Elt F)),
    binary main_v59 main_v60 main_v61 (cmpi .slt : (⟨S2048, .i32⟩ : BufTy).Contents (Elt F) → (⟨S2048, .i32⟩ : BufTy).Contents (Elt F) → (⟨S2048, .i1⟩ : BufTy).Contents (Elt F)),
    nullary main_c_13 (constantI S_ 32 512#32),
    unary main_c_13 main_v62 (broadcastInDim S2048 ![] bcast_S_S2048 : (⟨S_, .i32⟩ : BufTy).Contents (Elt F) → (⟨S2048, .i32⟩ : BufTy).Contents (Elt F)),
    binary main_v59 main_v62 main_v63 (addi : (⟨S2048, .i32⟩ : BufTy).Contents (Elt F) → (⟨S2048, .i32⟩ : BufTy).Contents (Elt F) → (⟨S2048, .i32⟩ : BufTy).Contents (Elt F)),
    ternary main_v61 main_v63 main_v59 main_v64 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v64 main_v65 (broadcastInDim S2048x1 ![0] bcast_S2048_S2048x1_0 : (⟨S2048, .i32⟩ : BufTy).Contents (Elt F) → (⟨S2048x1, .i32⟩ : BufTy).Contents (Elt F)),
    nullary main_c_14 (constantI S_ 32 1#32),
    unary main_c_14 main_v66 (broadcastInDim S2048 ![] bcast_S_S2048 : (⟨S_, .i32⟩ : BufTy).Contents (Elt F) → (⟨S2048, .i32⟩ : BufTy).Contents (Elt F)),
    ternary main_v58 main_v65 main_v66 main_v67 ((fun x i u => Host.scatter scatter_S512_S2048x1_S2048_n_0_0_1 IntOp.addi x i u) : (⟨S512, .i32⟩ : BufTy).Contents (Elt F) → (⟨S2048x1, .i32⟩ : BufTy).Contents (Elt F) → (⟨S2048, .i32⟩ : BufTy).Contents (Elt F) → (⟨S512, .i32⟩ : BufTy).Contents (Elt F)),
    unary main_v67 main_v68 (sitofp .f32 : (⟨S512, .i32⟩ : BufTy).Contents (Elt F) → (⟨S512, .f32⟩ : BufTy).Contents (Elt F)),
    nullary main_cst_15 (constant S_ .f32 0x45000000#32),
    unary main_cst_15 main_v69 (broadcastInDim S512 ![] bcast_S_S512 : (⟨S_, .f32⟩ : BufTy).Contents (Elt F) → (⟨S512, .f32⟩ : BufTy).Contents (Elt F)) ]

/-- @main's operations 125 … 154 of 202 (window `main_part1`). -/
abbrev ops_part1_1 : List (HloOp τ sig (Elt F)) :=
  [ binary main_v68 main_v69 main_v70 (Host.divf : (⟨S512, .f32⟩ : BufTy).Contents (Elt F) → (⟨S512, .f32⟩ : BufTy).Contents (Elt F) → (⟨S512, .f32⟩ : BufTy).Contents (Elt F)),
    nullary main_cst_16 (constant S_ .f32 0x00000000#32),
    unary main_cst_16 main_v71 (broadcastInDim S512 ![] bcast_S_S512 : (⟨S_, .f32⟩ : BufTy).Contents (Elt F) → (⟨S512, .f32⟩ : BufTy).Contents (Elt F)),
    binary main_v68 main_v71 main_v72 (cmpf .ogt : (⟨S512, .f32⟩ : BufTy).Contents (Elt F) → (⟨S512, .f32⟩ : BufTy).Contents (Elt F) → (⟨S512, .i1⟩ : BufTy).Contents (Elt F)),
    nullary main_cst_17 (constant S_ .f32 0x00000000#32),
    unary main_cst_17 main_v73 (broadcastInDim S512 ![] bcast_S_S512 : (⟨S_, .f32⟩ : BufTy).Contents (Elt F) → (⟨S512, .f32⟩ : BufTy).Contents (Elt F)),
    binary main_v68 main_v73 main_v74 (cmpf .ogt : (⟨S512, .f32⟩ : BufTy).Contents (Elt F) → (⟨S512, .f32⟩ : BufTy).Contents (Elt F) → (⟨S512, .i1⟩ : BufTy).Contents (Elt F)),
    nullary main_cst_18 (constant S_ .f32 0x3F800000#32),
    TRef.unary (TRef.of (T := ⟨S_, .f32⟩) main_cst_18) (TRef.of (T := ⟨S_, .f32⟩) main_call6_v0) id,
    TRef.unary (TRef.of (T := ⟨S_, .f32⟩) main_call6_v0) (TRef.of (T := ⟨S512, .f32⟩) main_call6_v1) (broadcastInDim S512 ![] bcast_S_S512),
    TRef.ternary (TRef.of (T := ⟨S512, .i1⟩) main_v74) (TRef.of (T := ⟨S512, .f32⟩) main_v70) (TRef.of (T := ⟨S512, .f32⟩) main_call6_v1) (TRef.of (T := ⟨S512, .f32⟩) main_v75) select,
    unary main_v75 main_v76 (Host.log : (⟨S512, .f32⟩ : BufTy).Contents (Elt F) → (⟨S512, .f32⟩ : BufTy).Contents (Elt F)),
    binary main_v70 main_v76 main_v77 (mulf : (⟨S512, .f32⟩ : BufTy).Contents (Elt F) → (⟨S512, .f32⟩ : BufTy).Contents (Elt F) → (⟨S512, .f32⟩ : BufTy).Contents (Elt F)),
    nullary main_cst_19 (constant S_ .f32 0x00000000#32),
    TRef.unary (TRef.of (T := ⟨S_, .f32⟩) main_cst_19) (TRef.of (T := ⟨S_, .f32⟩) main_call7_v0) id,
    TRef.unary (TRef.of (T := ⟨S_, .f32⟩) main_call7_v0) (TRef.of (T := ⟨S512, .f32⟩) main_call7_v1) (broadcastInDim S512 ![] bcast_S_S512),
    TRef.ternary (TRef.of (T := ⟨S512, .i1⟩) main_v72) (TRef.of (T := ⟨S512, .f32⟩) main_v77) (TRef.of (T := ⟨S512, .f32⟩) main_call7_v1) (TRef.of (T := ⟨S512, .f32⟩) main_v78) select,
    nullary main_cst_20 (constant S_ .f32 0x00000000#32),
    binary main_v78 main_cst_20 main_v79 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    unary main_v79 main_v80 (Host.negf : (⟨S_, .f32⟩ : BufTy).Contents (Elt F) → (⟨S_, .f32⟩ : BufTy).Contents (Elt F)),
    nullary main_v81 (iotaInDim S1 32 0),
    nullary main_c_21 (constantI S_ 32 512#32),
    unary main_c_21 main_v82 (broadcastInDim S1 ![] bcast_S_S1 : (⟨S_, .i32⟩ : BufTy).Contents (Elt F) → (⟨S1, .i32⟩ : BufTy).Contents (Elt F)),
    binary main_v81 main_v82 main_v83 (muli : (⟨S1, .i32⟩ : BufTy).Contents (Elt F) → (⟨S1, .i32⟩ : BufTy).Contents (Elt F) → (⟨S1, .i32⟩ : BufTy).Contents (Elt F)),
    unary main_v83 main_v84 (broadcastInDim S1x1 ![1] bcast_S1_S1x1_1 : (⟨S1, .i32⟩ : BufTy).Contents (Elt F) → (⟨S1x1, .i32⟩ : BufTy).Contents (Elt F)),
    unary main_v84 main_v85 (broadcastInDim S2048x8 ![0, 1] bcast_S1x1_S2048x8_0_1 : (⟨S1x1, .i32⟩ : BufTy).Contents (Elt F) → (⟨S2048x8, .i32⟩ : BufTy).Contents (Elt F)),
    binary main_v46 main_v85 main_v86 (addi : (⟨S2048x8, .i32⟩ : BufTy).Contents (Elt F) → (⟨S2048x8, .i32⟩ : BufTy).Contents (Elt F) → (⟨S2048x8, .i32⟩ : BufTy).Contents (Elt F)),
    reshape main_arg1 main_v87 (rfl : (.f32 : EltTy) = .f32) shapeCasts_S1x512x64_S512x64,
    TRef.nullary (TRef.of (T := ⟨S_, .i32⟩) main_call8_c) (constantI S_ 32 0#32),
    TRef.unary (TRef.of (T := ⟨S_, .i32⟩) main_call8_c) (TRef.of (T := ⟨S2048x8, .i32⟩) main_call8_v0) (broadcastInDim S2048x8 ![] bcast_S_S2048x8) ]

/-- @main's operations 155 … 182 of 202 (window `main_part1`). -/
abbrev ops_part1_2 : List (HloOp τ sig (Elt F)) :=
  [ TRef.binary (TRef.of (T := ⟨S2048x8, .i32⟩) main_v86) (TRef.of (T := ⟨S2048x8, .i32⟩) main_call8_v0) (TRef.of (T := ⟨S2048x8, .i1⟩) main_call8_v1) (cmpi .slt),
    TRef.nullary (TRef.of (T := ⟨S_, .i32⟩) main_call8_c_0) (constantI S_ 32 512#32),
    TRef.unary (TRef.of (T := ⟨S_, .i32⟩) main_call8_c_0) (TRef.of (T := ⟨S2048x8, .i32⟩) main_call8_v2) (broadcastInDim S2048x8 ![] bcast_S_S2048x8),
    TRef.binary (TRef.of (T := ⟨S2048x8, .i32⟩) main_v86) (TRef.of (T := ⟨S2048x8, .i32⟩) main_call8_v2) (TRef.of (T := ⟨S2048x8, .i32⟩) main_call8_v3) addi,
    TRef.ternary (TRef.of (T := ⟨S2048x8, .i1⟩) main_call8_v1) (TRef.of (T := ⟨S2048x8, .i32⟩) main_call8_v3) (TRef.of (T := ⟨S2048x8, .i32⟩) main_v86) (TRef.of (T := ⟨S2048x8, .i32⟩) main_call8_v4) select,
    TRef.unary (TRef.of (T := ⟨S2048x8, .i32⟩) main_call8_v4) (TRef.of (T := ⟨S2048x8x1, .i32⟩) main_call8_v5) (broadcastInDim S2048x8x1 ![0, 1] bcast_S2048x8_S2048x8x1_0_1),
    TRef.nullary (TRef.of (T := ⟨S1, .i32⟩) main_call8_c_1) (constantI S1 32 511#32),
    TRef.nullary (TRef.of (T := ⟨S_, .i32⟩) main_call8_c_2) (constantI S_ 32 0#32),
    TRef.unary (TRef.of (T := ⟨S_, .i32⟩) main_call8_c_2) (TRef.of (T := ⟨S2048x8x1, .i32⟩) main_call8_v6) (broadcastInDim S2048x8x1 ![] bcast_S_S2048x8x1),
    TRef.binary (TRef.of (T := ⟨S2048x8x1, .i32⟩) main_call8_v5) (TRef.of (T := ⟨S2048x8x1, .i32⟩) main_call8_v6) (TRef.of (T := ⟨S2048x8x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S2048x8x1, .i32⟩) main_call8_v9) (broadcastInDim S2048x8x1 ![0, 1, 2] bcast_S1x1x1_S2048x8x1_0_1_2),
    TRef.binary (TRef.of (T := ⟨S2048x8x1, .i32⟩) main_call8_v5) (TRef.of (T := ⟨S2048x8x1, .i32⟩) main_call8_v9) (TRef.of (T := ⟨S2048x8x1, .i1⟩) main_call8_v10) (cmpi .sle),
    TRef.binary (TRef.of (T := ⟨S2048x8x1, .i1⟩) main_call8_v7) (TRef.of (T := ⟨S2048x8x1, .i1⟩) main_call8_v10) (TRef.of (T := ⟨S2048x8x1, .i1⟩) main_call8_v11) andi,
    TRef.nullary (TRef.of (T := ⟨S_, .i1⟩) main_call8_c_3) (constantI S_ 1 1#1),
    TRef.binary (TRef.of (T := ⟨S2048x8x1, .i1⟩) main_call8_v11) (TRef.of (T := ⟨S_, .i1⟩) main_call8_c_3) (TRef.of (T := ⟨S2048x8, .i1⟩) main_call8_v12) (fun x v => Host.reduce IntOp.andi x v reducesTo_S2048x8x1_S2048x8_d2 h_S_),
    TRef.binary (TRef.of (T := ⟨S512x64, .f32⟩) main_v87) (TRef.of (T := ⟨S2048x8x1, .i32⟩) main_call8_v5) (TRef.of (T := ⟨S2048x8x64, .f32⟩) main_call8_v13) (fun x i => Host.gather gather_S512x64_S2048x8x1_S2048x8x64_2_0_n_n_0_2_164 x i),
    TRef.unary (TRef.of (T := ⟨S2048x8, .i1⟩) main_call8_v12) (TRef.of (T := ⟨S2048x8x64, .i1⟩) main_call8_v14) (broadcastInDim S2048x8x64 ![0, 1] bcast_S2048x8_S2048x8x64_0_1),
    TRef.nullary (TRef.of (T := ⟨S_, .f32⟩) main_call8_cst) (constant S_ .f32 0x7FC00000#32),
    TRef.unary (TRef.of (T := ⟨S_, .f32⟩) main_call8_cst) (TRef.of (T := ⟨S2048x8x64, .f32⟩) main_call8_v15) (broadcastInDim S2048x8x64 ![] bcast_S_S2048x8x64),
    TRef.ternary (TRef.of (T := ⟨S2048x8x64, .i1⟩) main_call8_v14) (TRef.of (T := ⟨S2048x8x64, .f32⟩) main_call8_v13) (TRef.of (T := ⟨S2048x8x64, .f32⟩) main_call8_v15) (TRef.of (T := ⟨S2048x8x64, .f32⟩) main_v88) select,
    unary main_v53 main_v89 (broadcastInDim S2048x8x1 ![0, 1] bcast_S2048x8_S2048x8x1_0_1 : (⟨S2048x8, .f32⟩ : BufTy).Contents (Elt F) → (⟨S2048x8x1, .f32⟩ : BufTy).Contents (Elt F)),
    unary main_v89 main_v90 (broadcastInDim S2048x8x64 ![0, 1, 2] bcast_S2048x8x1_S2048x8x64_0_1_2 : (⟨S2048x8x1, .f32⟩ : BufTy).Contents (Elt F) → (⟨S2048x8x64, .f32⟩ : BufTy).Contents (Elt F)),
    binary main_v88 main_v90 main_v91 (mulf : (⟨S2048x8x64, .f32⟩ : BufTy).Contents (Elt F) → (⟨S2048x8x64, .f32⟩ : BufTy).Contents (Elt F) → (⟨S2048x8x64, .f32⟩ : BufTy).Contents (Elt F)),
    nullary main_cst_22 (constant S_ .f32 0x00000000#32),
    binary main_v91 main_cst_22 main_v92 ((fun x v => Host.reduceAdd x v reducesTo_S2048x8x64_S2048x64_d1 h_S_) : (⟨S2048x8x64, .f32⟩ : BufTy).Contents (Elt F) → (⟨S_, .f32⟩ : BufTy).Contents (Elt F) → (⟨S2048x64, .f32⟩ : BufTy).Contents (Elt F)),
    reshape main_v92 main_v93 (rfl : (.f32 : EltTy) = .f32) shapeCasts_S2048x64_S4x512x1x64,
    binary main_v93 main_arg0 main_v94 (subf : (⟨S4x512x1x64, .f32⟩ : BufTy).Contents (Elt F) → (⟨S4x512x1x64, .f32⟩ : BufTy).Contents (Elt F) → (⟨S4x512x1x64, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 183 … 202 of 202 (window `main_part2`). -/
abbrev ops_part2 : List (HloOp τ sig (Elt F)) :=
  [ binary main_v94 main_arg0 main_v95 (addf : (⟨S4x512x1x64, .f32⟩ : BufTy).Contents (Elt F) → (⟨S4x512x1x64, .f32⟩ : BufTy).Contents (Elt F) → (⟨S4x512x1x64, .f32⟩ : BufTy).Contents (Elt F)),
    binary main_arg0 main_v93 main_v96 (subf : (⟨S4x512x1x64, .f32⟩ : BufTy).Contents (Elt F) → (⟨S4x512x1x64, .f32⟩ : BufTy).Contents (Elt F) → (⟨S4x512x1x64, .f32⟩ : BufTy).Contents (Elt F)),
    TRef.binary (TRef.of (T := ⟨S4x512x1x64, .f32⟩) main_v96) (TRef.of (T := ⟨S4x512x1x64, .f32⟩) main_v96) (TRef.of (T := ⟨S4x512x1x64, .f32⟩) main_call9_v0) mulf,
    TRef.nullary (TRef.of (T := ⟨S_, .f32⟩) main_call9_cst) (constant S_ .f32 0x00000000#32),
    TRef.binary (TRef.of (T := ⟨S4x512x1x64, .f32⟩) main_call9_v0) (TRef.of (T := ⟨S_, .f32⟩) main_call9_cst) (TRef.of (T := ⟨S4x512x1, .f32⟩) main_call9_v1) (fun x v => Host.reduceAdd x v reducesTo_S4x512x1x64_S4x512x1_d3 h_S_),
    TRef.unary (TRef.of (T := ⟨S4x512x1, .f32⟩) main_call9_v1) (TRef.of (T := ⟨S4x512x1, .f32⟩) main_v97) Host.sqrt,
    binary main_v97 main_v97 main_v98 (mulf : (⟨S4x512x1, .f32⟩ : BufTy).Contents (Elt F) → (⟨S4x512x1, .f32⟩ : BufTy).Contents (Elt F) → (⟨S4x512x1, .f32⟩ : BufTy).Contents (Elt F)),
    binary main_arg0 main_v93 main_v99 (subf : (⟨S4x512x1x64, .f32⟩ : BufTy).Contents (Elt F) → (⟨S4x512x1x64, .f32⟩ : BufTy).Contents (Elt F) → (⟨S4x512x1x64, .f32⟩ : BufTy).Contents (Elt F)),
    TRef.binary (TRef.of (T := ⟨S4x512x1x64, .f32⟩) main_v99) (TRef.of (T := ⟨S4x512x1x64, .f32⟩) main_v99) (TRef.of (T := ⟨S4x512x1x64, .f32⟩) main_call10_v0) mulf,
    TRef.nullary (TRef.of (T := ⟨S_, .f32⟩) main_call10_cst) (constant S_ .f32 0x00000000#32),
    TRef.binary (TRef.of (T := ⟨S4x512x1x64, .f32⟩) main_call10_v0) (TRef.of (T := ⟨S_, .f32⟩) main_call10_cst) (TRef.of (T := ⟨S4x512x1, .f32⟩) main_call10_v1) (fun x v => Host.reduceAdd x v reducesTo_S4x512x1x64_S4x512x1_d3 h_S_),
    TRef.unary (TRef.of (T := ⟨S4x512x1, .f32⟩) main_call10_v1) (TRef.of (T := ⟨S4x512x1, .f32⟩) main_v100) Host.sqrt,
    binary main_v100 main_v100 main_v101 (mulf : (⟨S4x512x1, .f32⟩ : BufTy).Contents (Elt F) → (⟨S4x512x1, .f32⟩ : BufTy).Contents (Elt F) → (⟨S4x512x1, .f32⟩ : BufTy).Contents (Elt F)),
    binary main_arg0 main_arg0 main_v102 (subf : (⟨S4x512x1x64, .f32⟩ : BufTy).Contents (Elt F) → (⟨S4x512x1x64, .f32⟩ : BufTy).Contents (Elt F) → (⟨S4x512x1x64, .f32⟩ : BufTy).Contents (Elt F)),
    TRef.binary (TRef.of (T := ⟨S4x512x1x64, .f32⟩) main_v102) (TRef.of (T := ⟨S4x512x1x64, .f32⟩) main_v102) (TRef.of (T := ⟨S4x512x1x64, .f32⟩) main_call11_v0) mulf,
    TRef.nullary (TRef.of (T := ⟨S_, .f32⟩) main_call11_cst) (constant S_ .f32 0x00000000#32),
    TRef.binary (TRef.of (T := ⟨S4x512x1x64, .f32⟩) main_call11_v0) (TRef.of (T := ⟨S_, .f32⟩) main_call11_cst) (TRef.of (T := ⟨S4x512x1, .f32⟩) main_call11_v1) (fun x v => Host.reduceAdd x v reducesTo_S4x512x1x64_S4x512x1_d3 h_S_),
    TRef.unary (TRef.of (T := ⟨S4x512x1, .f32⟩) main_call11_v1) (TRef.of (T := ⟨S4x512x1, .f32⟩) main_v103) Host.sqrt,
    binary main_v103 main_v103 main_v104 (mulf : (⟨S4x512x1, .f32⟩ : BufTy).Contents (Elt F) → (⟨S4x512x1, .f32⟩ : BufTy).Contents (Elt F) → (⟨S4x512x1, .f32⟩ : BufTy).Contents (Elt F)),
    binary main_v101 main_v104 main_v105 (addf : (⟨S4x512x1, .f32⟩ : BufTy).Contents (Elt F) → (⟨S4x512x1, .f32⟩ : BufTy).Contents (Elt F) → (⟨S4x512x1, .f32⟩ : BufTy).Contents (Elt F)) ]

/-- @main's 202 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨reshape_bufs_sub .., unary_bufs_sub .., unary_bufs_sub .., unary_bufs_sub .., binary_bufs_sub .., binary_bufs_sub .., nullary_bufs_sub .., binary_bufs_sub .., unary_bufs_sub .., nullary_bufs_sub .., nullary_bufs_sub .., nullary_bufs_sub .., quaternary_bufs_sub .., quaternary_bufs_sub .., reshape_bufs_sub .., nullary_bufs_sub .., binary_bufs_sub .., nullary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., reshape_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., binary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., unary_bufs_sub .., nullary_bufs_sub .., binary_bufs_sub ..⟩
set_option maxRecDepth 8192 in
theorem ops_part0_3_fresh : (ops_part0_3 : List (HloOp τ sig (Elt F))).Forall fun op => op.fresh = ∅ :=
  ⟨rfl, rfl, rfl, rfl⟩
set_option maxRecDepth 8192 in
theorem ops_part1_0_sub : (ops_part1_0 : List (HloOp τ sig (Elt F))).Forall fun op => op.bufs ⊆ tcRefs τ sig :=
  ⟨unary_bufs_sub .., nullary_bufs_sub .., unary_bufs_sub .., binary_bufs_sub .., unary_bufs_sub .., binary_bufs_sub .., reshape_bufs_sub .., reshape_bufs_sub .., unary_bufs_sub .., reshape_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., binary_bufs_sub .., unary_bufs_sub .., nullary_bufs_sub .., nullary_bufs_sub .., unary_bufs_sub .., binary_bufs_sub .., unary_bufs_sub .., unary_bufs_sub .., binary_bufs_sub .., reshape_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., binary_bufs_sub .., reshape_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., binary_bufs_sub .., binary_bufs_sub .., nullary_bufs_sub .., binary_bufs_sub .., unary_bufs_sub .., binary_bufs_sub .., binary_bufs_sub .., binary_bufs_sub .., nullary_bufs_sub .., binary_bufs_sub .., unary_bufs_sub .., binary_bufs_sub .., binary_bufs_sub .., binary_bufs_sub .., nullary_bufs_sub .., binary_bufs_sub .., unary_bufs_sub .., binary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v4`'s composed term of the arguments (named: it is used 2 times). -/
def res_main_v4 (V0 : Valuation τ sig (Elt F)) : (Proc.devRef .tc main_v4 : DevRef τ sig).ty.Contents (Elt F) :=
  subf (broadcastInDim S2048x1x512x64 ![0, 1, 2, 3] bcast_S2048x1x1x64_S2048x1x512x64_0_1_2_3 (shapeCast _ (V0 (Proc.devRef .tc main_arg0)) shapeCasts_S4x512x1x64_S2048x1x1x64)) (broadcastInDim S2048x1x512x64 ![0, 1, 2, 3] bcast_S1x1x512x64_S2048x1x512x64_0_1_2_3 (broadcastInDim S1x1x512x64 ![1, 2, 3] bcast_S1x512x64_S1x1x512x64_1_2_3 (V0 (Proc.devRef .tc main_arg1))))

set_option maxRecDepth 8192 in
/-- `main_v5`'s composed term of the arguments (named: it is used 4 times). -/
def res_main_v5 (V0 : Valuation τ sig (Elt F)) : (Proc.devRef .tc main_v5 : DevRef τ sig).ty.Contents (Elt F) :=
  Host.sqrt (Host.reduceAdd (mulf (res_main_v4 V0) (res_main_v4 V0)) (constant S_ .f32 0x00000000#32) reducesTo_S2048x1x512x64_S2048x1x512_d3 h_S_)

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S2048x1x512 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0x7F800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v10`'s composed term of the arguments (named: it is used 2 times). -/
def res_main_v10 (V0 : Valuation τ sig (Elt F)) : (Proc.devRef .tc main_v10 : DevRef τ sig).ty.Contents (Elt F) :=
  Host.divf (Host.reduceAdd (shapeCast _ (res_main_v5 V0) shapeCasts_S2048x1x512_S2048x1x64x8) (constant S_ .f32 0x00000000#32) reducesTo_S2048x1x64x8_S2048x1x64_d3 h_S_) (broadcastInDim S2048x1x64 ![] bcast_S_S2048x1x64 (constant S_ .f32 0x41000000#32))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S2048x1x64 32 2

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0x7F800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v11`'s composed term of the arguments (named: it is used 2 times). -/
def res_main_v11 (V0 : Valuation τ sig (Elt F)) : (Proc.devRef .tc main_v11 : DevRef τ sig).ty.Contents (Elt F) :=
  (fun j => (Host.argReduce reducer_argmin_f32_i32 (res_main_v10 V0) (res_main_call2_v0 V0) (res_main_call2_cst V0) (res_main_call2_c V0) reducesTo_S2048x1x64_S2048x1_d2 h_S_ j).2)

set_option maxRecDepth 8192 in
/-- `main_v18`'s composed term of the arguments (named: it is used 3 times). -/
def res_main_v18 (V0 : Valuation τ sig (Elt F)) : (Proc.devRef .tc main_v18 : DevRef τ sig).ty.Contents (Elt F) :=
  addi (broadcastInDim S2048x8 ![0, 1] bcast_S2048x1_S2048x8_0_1 (muli (res_main_v11 V0) (broadcastInDim S2048x1 ![] bcast_S_S2048x1 (constantI S_ 32 8#32)))) (broadcastInDim S2048x8 ![0, 1] bcast_S1x8_S2048x8_0_1 (broadcastInDim S1x8 ![1] bcast_S8_S1x8_1 (iotaInDim S8 32 0)))

set_option maxRecDepth 8192 in
/-- `main_v21`'s composed term of the arguments (named: it is used 3 times). -/
def res_main_v21 (V0 : Valuation τ sig (Elt F)) : (Proc.devRef .tc main_v21 : DevRef τ sig).ty.Contents (Elt F) :=
  broadcastInDim S2048x1 ![0] bcast_S2048_S2048x1_0 (iotaInDim S2048 32 0)

set_option maxRecDepth 8192 in
/-- `main_v41`'s composed term of the arguments (named: it is used 2 times). -/
def res_main_v41 (V0 : Valuation τ sig (Elt F)) : (Proc.devRef .tc main_v41 : DevRef τ sig).ty.Contents (Elt F) :=
  mulf (Host.scatter scatter_S2048x512_S2048x8x2_S2048x8_n_01_01_2 (fun _ b => b) (broadcastInDim S2048x512 ![] bcast_S_S2048x512 (constant S_ .f32 0x00000000#32)) (concatenate S2048x8x2 2 [⟨S2048x8x1, (broadcastInDim S2048x8x1 ![0, 1] bcast_S2048x8_S2048x8x1_0_1 (broadcastInDim S2048x8 ![0, 1] bcast_S2048x1_S2048x8_0_1 (select (cmpi .slt (res_main_v21 V0) (broadcastInDim S2048x1 ![] bcast_S_S2048x1 (constantI S_ 32 0#32))) (addi (res_main_v21 V0) (broadcastInDim S2048x1 ![] bcast_S_S2048x1 (constantI S_ 32 2048#32))) (res_main_v21 V0))))⟩, ⟨S2048x8x1, (broadcastInDim S2048x8x1 ![0, 1] bcast_S2048x8_S2048x8x1_0_1 (select (cmpi .slt (res_main_v18 V0) (broadcastInDim S2048x8 ![] bcast_S_S2048x8 (constantI S_ 32 0#32))) (addi (res_main_v18 V0) (broadcastInDim S2048x8 ![] bcast_S_S2048x8 (constantI S_ 32 512#32))) (res_main_v18 V0)))⟩] concatenates_S2048x8x1_S2048x8x1_S2048x8x2_d2) (broadcastInDim S2048x8 ![] bcast_S_S2048x8 (constant S_ .f32 0x3F800000#32))) (Host.divf (broadcastInDim S2048x512 ![] bcast_S_S2048x512 (constant S_ .f32 0x3F800000#32)) (shapeCast _ (res_main_v5 V0) shapeCasts_S2048x1x512_S2048x512))

set_option maxRecDepth 8192 in
/-- `main_v42`'s composed term of the arguments (named: it is used 2 times). -/
def res_main_v42 (V0 : Valuation τ sig (Elt F)) : (Proc.devRef .tc main_v42 : DevRef τ sig).ty.Contents (Elt F) :=
  Host.negf (res_main_v41 V0)

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S2048x512 32 1

set_option maxRecDepth 8192 in
/-- `main_v43`'s composed term of the arguments (named: it is used 4 times). -/
def res_main_v43 (V0 : Valuation τ sig (Elt F)) : (Proc.devRef .tc main_v43 : DevRef τ sig).ty.Contents (Elt F) :=
  (Host.sort2 S2048x512 1 comparator_f32_i32_d1 (res_main_v42 V0) (res_main_call3_v0 V0)).2

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  shapeCast _ (select (cmpi .slt (res_main_v43 V0) (broadcastInDim S2048x512 ![] bcast_S_S2048x512 (constantI S_ 32 0#32))) (addi (res_main_v43 V0) (broadcastInDim S2048x512 ![] bcast_S_S2048x512 (constantI S_ 32 512#32))) (res_main_v43 V0)) shapeCasts_S2048x512_S2048x512x1

set_option maxRecDepth 8192 in
/-- `main_v45`'s composed term of the arguments (named: it is used 2 times). -/
def res_main_v45 (V0 : Valuation τ sig (Elt F)) : (Proc.devRef .tc main_v45 : DevRef τ sig).ty.Contents (Elt F) :=
  extractStridedSlice S2048x8 ![0, 0] (select (Host.reduce IntOp.andi (andi (cmpi .sge (res_main_call4_v5 V0) (broadcastInDim S2048x512x1 ![] bcast_S_S2048x512x1 (constantI S_ 32 0#32))) (cmpi .sle (res_main_call4_v5 V0) (broadcastInDim S2048x512x1 ![0, 1, 2] bcast_S1x1x1_S2048x512x1_0_1_2 (broadcastInDim S1x1x1 ![2] bcast_S1_S1x1x1_2 (constantI S1 32 511#32))))) (constantI S_ 1 1#1) reducesTo_S2048x512x1_S2048x512_d2 h_S_) (Host.gather gather_S2048x512_S2048x512x1_S2048x512_n_1_0_0_1_2_11 (res_main_v41 V0) (res_main_call4_v5 V0)) (broadcastInDim S2048x512 ![] bcast_S_S2048x512 (constant S_ .f32 0x7FC00000#32))) slices_S2048x512_S2048x8_0_0

set_option maxRecDepth 8192 in
/-- `main_v46`'s composed term of the arguments (named: it is used 2 times). -/
def res_main_v46 (V0 : Valuation τ sig (Elt F)) : (Proc.devRef .tc main_v46 : DevRef τ sig).ty.Contents (Elt F) :=
  extractStridedSlice S2048x8 ![0, 0] (res_main_v43 V0) slices_S2048x512_S2048x8_0_0

set_option maxRecDepth 8192 in
/-- `main_v59`'s composed term of the arguments (named: it is used 3 times). -/
def res_main_v59 (V0 : Valuation τ sig (Elt F)) : (Proc.devRef .tc main_v59 : DevRef τ sig).ty.Contents (Elt F) :=
  maxsi (broadcastInDim S2048 ![] bcast_S_S2048 (id (constantI S_ 32 0#32))) (shapeCast _ (extractStridedSlice S2048x1 ![0, 0] (res_main_v46 V0) slices_S2048x8_S2048x1_0_0) shapeCasts_S2048x1_S2048)

set_option maxRecDepth 8192 in
/-- `main_v68`'s composed term of the arguments (named: it is used 3 times). -/
def res_main_v68 (V0 : Valuation τ sig (Elt F)) : (Proc.devRef .tc main_v68 : DevRef τ sig).ty.Contents (Elt F) :=
  sitofp .f32 (Host.scatter scatter_S512_S2048x1_S2048_n_0_0_1 IntOp.addi (broadcastInDim S512 ![] bcast_S_S512 (constantI S_ 32 0#32)) (broadcastInDim S2048x1 ![0] bcast_S2048_S2048x1_0 (select (cmpi .slt (res_main_v59 V0) (broadcastInDim S2048 ![] bcast_S_S2048 (constantI S_ 32 0#32))) (addi (res_main_v59 V0) (broadcastInDim S2048 ![] bcast_S_S2048 (constantI S_ 32 512#32))) (res_main_v59 V0))) (broadcastInDim S2048 ![] bcast_S_S2048 (constantI S_ 32 1#32)))

set_option maxRecDepth 8192 in
/-- `main_v70`'s composed term of the arguments (named: it is used 2 times). -/
def res_main_v70 (V0 : Valuation τ sig (Elt F)) : (Proc.devRef .tc main_v70 : DevRef τ sig).ty.Contents (Elt F) :=
  Host.divf (res_main_v68 V0) (broadcastInDim S512 ![] bcast_S_S512 (constant S_ .f32 0x45000000#32))

set_option maxRecDepth 8192 in
/-- `main_v86`'s composed term of the arguments (named: it is used 3 times). -/
def res_main_v86 (V0 : Valuation τ sig (Elt F)) : (Proc.devRef .tc main_v86 : DevRef τ sig).ty.Contents (Elt F) :=
  addi (res_main_v46 V0) (broadcastInDim S2048x8 ![0, 1] bcast_S1x1_S2048x8_0_1 (broadcastInDim S1x1 ![1] bcast_S1_S1x1_1 (muli (iotaInDim S1 32 0) (broadcastInDim S1 ![] bcast_S_S1 (constantI S_ 32 512#32)))))

set_option maxRecDepth 8192 in
/-- `main_call8_v5`'s composed term of the arguments (named: it is used 3 times). -/
def res_main_call8_v5 (V0 : Valuation τ sig (Elt F)) : (Proc.devRef .tc main_call8_v5 : DevRef τ sig).ty.Contents (Elt F) :=
  broadcastInDim S2048x8x1 ![0, 1] bcast_S2048x8_S2048x8x1_0_1 (select (cmpi .slt (res_main_v86 V0) (broadcastInDim S2048x8 ![] bcast_S_S2048x8 (constantI S_ 32 0#32))) (addi (res_main_v86 V0) (broadcastInDim S2048x8 ![] bcast_S_S2048x8 (constantI S_ 32 512#32))) (res_main_v86 V0))

set_option maxRecDepth 8192 in
/-- `main_v93`'s composed term of the arguments (named: it is used 3 times). -/
def res_main_v93 (V0 : Valuation τ sig (Elt F)) : (Proc.devRef .tc main_v93 : DevRef τ sig).ty.Contents (Elt F) :=
  shapeCast _ (Host.reduceAdd (mulf (select (broadcastInDim S2048x8x64 ![0, 1] bcast_S2048x8_S2048x8x64_0_1 (Host.reduce IntOp.andi (andi (cmpi .sge (res_main_call8_v5 V0) (broadcastInDim S2048x8x1 ![] bcast_S_S2048x8x1 (constantI S_ 32 0#32))) (cmpi .sle (res_main_call8_v5 V0) (broadcastInDim S2048x8x1 ![0, 1, 2] bcast_S1x1x1_S2048x8x1_0_1_2 (broadcastInDim S1x1x1 ![2] bcast_S1_S1x1x1_2 (constantI S1 32 511#32))))) (constantI S_ 1 1#1) reducesTo_S2048x8x1_S2048x8_d2 h_S_)) (Host.gather gather_S512x64_S2048x8x1_S2048x8x64_2_0_n_n_0_2_164 (shapeCast _ (V0 (Proc.devRef .tc main_arg1)) shapeCasts_S1x512x64_S512x64) (res_main_call8_v5 V0)) (broadcastInDim S2048x8x64 ![] bcast_S_S2048x8x64 (constant S_ .f32 0x7FC00000#32))) (broadcastInDim S2048x8x64 ![0, 1, 2] bcast_S2048x8x1_S2048x8x64_0_1_2 (broadcastInDim S2048x8x1 ![0, 1] bcast_S2048x8_S2048x8x1_0_1 (Host.divf (res_main_v45 V0) (broadcastInDim S2048x8 ![0, 1] bcast_S2048x1_S2048x8_0_1 (maximumf (broadcastInDim S2048x1 ![0] bcast_S2048_S2048x1_0 (Host.reduceAdd (Host.absf (res_main_v45 V0)) (constant S_ .f32 0x00000000#32) reducesTo_S2048x8_S2048_d1 h_S_)) (broadcastInDim S2048x1 ![] bcast_S_S2048x1 (constant S_ .f32 0x2B8CBCCC#32)))))))) (constant S_ .f32 0x00000000#32) reducesTo_S2048x8x64_S2048x64_d1 h_S_) shapeCasts_S2048x64_S4x512x1x64

set_option maxRecDepth 8192 in
/-- `main_v96`'s composed term of the arguments (named: it is used 2 times). -/
def res_main_v96 (V0 : Valuation τ sig (Elt F)) : (Proc.devRef .tc main_v96 : DevRef τ sig).ty.Contents (Elt F) :=
  subf (V0 (Proc.devRef .tc main_arg0)) (res_main_v93 V0)

set_option maxRecDepth 8192 in
/-- `main_v97`'s composed term of the arguments (named: it is used 2 times). -/
def res_main_v97 (V0 : Valuation τ sig (Elt F)) : (Proc.devRef .tc main_v97 : DevRef τ sig).ty.Contents (Elt F) :=
  Host.sqrt (Host.reduceAdd (mulf (res_main_v96 V0) (res_main_v96 V0)) (constant S_ .f32 0x00000000#32) reducesTo_S4x512x1x64_S4x512x1_d3 h_S_)

set_option maxRecDepth 8192 in
/-- `main_v99`'s composed term of the arguments (named: it is used 2 times). -/
def res_main_v99 (V0 : Valuation τ sig (Elt F)) : (Proc.devRef .tc main_v99 : DevRef τ sig).ty.Contents (Elt F) :=
  subf (V0 (Proc.devRef .tc main_arg0)) (res_main_v93 V0)

set_option maxRecDepth 8192 in
/-- `main_v100`'s composed term of the arguments (named: it is used 2 times). -/
def res_main_v100 (V0 : Valuation τ sig (Elt F)) : (Proc.devRef .tc main_v100 : DevRef τ sig).ty.Contents (Elt F) :=
  Host.sqrt (Host.reduceAdd (mulf (res_main_v99 V0) (res_main_v99 V0)) (constant S_ .f32 0x00000000#32) reducesTo_S4x512x1x64_S4x512x1_d3 h_S_)

set_option maxRecDepth 8192 in
/-- `main_v102`'s composed term of the arguments (named: it is used 2 times). -/
def res_main_v102 (V0 : Valuation τ sig (Elt F)) : (Proc.devRef .tc main_v102 : DevRef τ sig).ty.Contents (Elt F) :=
  subf (V0 (Proc.devRef .tc main_arg0)) (V0 (Proc.devRef .tc main_arg0))

set_option maxRecDepth 8192 in
/-- `main_v103`'s composed term of the arguments (named: it is used 2 times). -/
def res_main_v103 (V0 : Valuation τ sig (Elt F)) : (Proc.devRef .tc main_v103 : DevRef τ sig).ty.Contents (Elt F) :=
  Host.sqrt (Host.reduceAdd (mulf (res_main_v102 V0) (res_main_v102 V0)) (constant S_ .f32 0x00000000#32) reducesTo_S4x512x1x64_S4x512x1_d3 h_S_)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_call0_v0, main_call0_cst, main_call0_v1, main_v5, main_call1_v0, main_call1_cst, main_call1_c, main_call1_v1_0, main_v6, main_v7, main_cst, main_v8, main_cst_0, main_v9, main_v10, main_call2_v0, main_call2_cst, main_call2_c, main_call2_v1_0, main_v11, main_c, main_v12, main_v13, main_v14, main_v15]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0, TRef.binary, TRef.nullary, TRef.quaternary, TRef.unary, TRef.toBuf, TRef.ofBuf, cast_eq]
  after_results_simp
  simp only [val0_main_arg1, val0_main_arg0] <;> rfl
set_option maxRecDepth 8192 in
set_option maxHeartbeats 2000000 in
theorem val0_1_main_v6 (V0 : Valuation τ sig (Elt F)) : val0_1 V0 (no_index (Proc.devRef .tc main_v6)) = (fun j => (Host.argReduce reducer_argmin_f32_i32 (res_main_v5 V0) (res_main_call1_v0 V0) (res_main_call1_cst V0) (res_main_call1_c V0) reducesTo_S2048x1x512_S2048x1_d2 h_S_ j).2) := by
  unfold val0_1
  simp only [ops_part0_0, TRef.binary, TRef.nullary, TRef.quaternary, TRef.unary, TRef.toBuf, TRef.ofBuf, cast_eq]
  after_results_simp
  simp only [val0_main_arg1, val0_main_arg0] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.binary, TRef.nullary, TRef.quaternary, TRef.unary, TRef.toBuf, TRef.ofBuf, cast_eq]
  after_results_simp
  simp only [val0_main_arg1, val0_main_arg0] <;> rfl
set_option maxRecDepth 8192 in
set_option maxHeartbeats 2000000 in
theorem val0_1_main_v13 (V0 : Valuation τ sig (Elt F)) : val0_1 V0 (no_index (Proc.devRef .tc main_v13)) = muli (res_main_v11 V0) (broadcastInDim S2048x1 ![] bcast_S_S2048x1 (constantI S_ 32 8#32)) := by
  unfold val0_1
  simp only [ops_part0_0, TRef.binary, TRef.nullary, TRef.quaternary, TRef.unary, TRef.toBuf, TRef.ofBuf, cast_eq]
  after_results_simp
  simp only [val0_main_arg1, val0_main_arg0] <;> rfl
set_option maxRecDepth 8192 in
set_option maxHeartbeats 2000000 in
theorem val0_1_main_v15 (V0 : Valuation τ sig (Elt F)) : val0_1 V0 (no_index (Proc.devRef .tc main_v15)) = broadcastInDim S1x8 ![1] bcast_S8_S1x8_1 (iotaInDim S8 32 0) := by
  unfold val0_1
  simp only [ops_part0_0, TRef.binary, TRef.nullary, TRef.quaternary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v16, main_v17, main_v18, main_cst_1, main_v19, main_v20, main_v21, main_c_2, main_v22, main_v23, main_c_3, main_v24, main_v25, main_v26, main_c_4, main_v27, main_v28, main_c_5, main_v29, main_v30, main_v31, main_v32, main_v33, main_v34, main_v35, main_cst_6, main_v36, main_v37, main_v38, main_cst_7]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v6 (V0 : Valuation τ sig (Elt F)) : val0_2 V0 (no_index (Proc.devRef .tc main_v6)) = (fun j => (Host.argReduce reducer_argmin_f32_i32 (res_main_v5 V0) (res_main_call1_v0 V0) (res_main_call1_cst V0) (res_main_call1_c V0) reducesTo_S2048x1x512_S2048x1_d2 h_S_ j).2) :=
  (val0_2_keep V0 main_v6 (by decide)).trans (val0_1_main_v6 V0)
theorem val0_2_main_v11 (V0 : Valuation τ sig (Elt F)) : val0_2 V0 (no_index (Proc.devRef .tc main_v11)) = res_main_v11 V0 :=
  (val0_2_keep V0 main_v11 (by decide)).trans (val0_1_main_v11 V0)
set_option maxRecDepth 8192 in
set_option maxHeartbeats 2000000 in
theorem val0_2_main_v37 (V0 : Valuation τ sig (Elt F)) : val0_2 V0 (no_index (Proc.devRef .tc main_v37)) = Host.scatter scatter_S2048x512_S2048x8x2_S2048x8_n_01_01_2 (fun _ b => b) (broadcastInDim S2048x512 ![] bcast_S_S2048x512 (constant S_ .f32 0x00000000#32)) (concatenate S2048x8x2 2 [⟨S2048x8x1, (broadcastInDim S2048x8x1 ![0, 1] bcast_S2048x8_S2048x8x1_0_1 (broadcastInDim S2048x8 ![0, 1] bcast_S2048x1_S2048x8_0_1 (select (cmpi .slt (res_main_v21 V0) (broadcastInDim S2048x1 ![] bcast_S_S2048x1 (constantI S_ 32 0#32))) (addi (res_main_v21 V0) (broadcastInDim S2048x1 ![] bcast_S_S2048x1 (constantI S_ 32 2048#32))) (res_main_v21 V0))))⟩, ⟨S2048x8x1, (broadcastInDim S2048x8x1 ![0, 1] bcast_S2048x8_S2048x8x1_0_1 (select (cmpi .slt (res_main_v18 V0) (broadcastInDim S2048x8 ![] bcast_S_S2048x8 (constantI S_ 32 0#32))) (addi (res_main_v18 V0) (broadcastInDim S2048x8 ![] bcast_S_S2048x8 (constantI S_ 32 512#32))) (res_main_v18 V0)))⟩] concatenates_S2048x8x1_S2048x8x1_S2048x8x2_d2) (broadcastInDim S2048x8 ![] bcast_S_S2048x8 (constant S_ .f32 0x3F800000#32)) := by
  unfold val0_2
  simp only [ops_part0_1]
  after_results_simp
  simp only [val0_1_main_v15, val0_1_main_v13] <;> rfl
set_option maxRecDepth 8192 in
set_option maxHeartbeats 2000000 in
theorem val0_2_main_v38 (V0 : Valuation τ sig (Elt F)) : val0_2 V0 (no_index (Proc.devRef .tc main_v38)) = shapeCast _ (res_main_v5 V0) shapeCasts_S2048x1x512_S2048x512 := by
  unfold val0_2
  simp only [ops_part0_1]
  after_results_simp
  simp only [val0_1_main_v5] <;> rfl
set_option maxRecDepth 8192 in
set_option maxHeartbeats 2000000 in
theorem val0_2_main_cst_7 (V0 : Valuation τ sig (Elt F)) : val0_2 V0 (no_index (Proc.devRef .tc main_cst_7)) = constant S_ .f32 0x3F800000#32 := by
  unfold val0_2
  simp only [ops_part0_1]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v39, main_v40, main_v41, main_v42, main_call3_v0, main_call3_v1_0, main_v43, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v44, main_v45]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_v6 (V0 : Valuation τ sig (Elt F)) : val0_3 V0 (no_index (Proc.devRef .tc main_v6)) = (fun j => (Host.argReduce reducer_argmin_f32_i32 (res_main_v5 V0) (res_main_call1_v0 V0) (res_main_call1_cst V0) (res_main_call1_c V0) reducesTo_S2048x1x512_S2048x1_d2 h_S_ j).2) :=
  (val0_3_keep V0 main_v6 (by decide)).trans (val0_2_main_v6 V0)
theorem val0_3_main_v11 (V0 : Valuation τ sig (Elt F)) : val0_3 V0 (no_index (Proc.devRef .tc main_v11)) = res_main_v11 V0 :=
  (val0_3_keep V0 main_v11 (by decide)).trans (val0_2_main_v11 V0)
set_option maxRecDepth 8192 in
set_option maxHeartbeats 2000000 in
theorem val0_3_main_v43 (V0 : Valuation τ sig (Elt F)) : val0_3 V0 (no_index (Proc.devRef .tc main_v43)) = res_main_v43 V0 := by
  unfold val0_3
  simp only [ops_part0_2, TRef.binary, TRef.nullary, TRef.reshape, TRef.ternary, TRef.unary, TRef.toBuf, TRef.ofBuf, cast_eq]
  after_results_simp
  simp only [val0_2_main_v38, val0_2_main_cst_7, val0_2_main_v37] <;> rfl
set_option maxRecDepth 8192 in
set_option maxHeartbeats 2000000 in
theorem val0_3_main_v45 (V0 : Valuation τ sig (Elt F)) : val0_3 V0 (no_index (Proc.devRef .tc main_v45)) = res_main_v45 V0 := by
  unfold val0_3
  simp only [ops_part0_2, TRef.binary, TRef.nullary, TRef.reshape, TRef.ternary, TRef.unary, TRef.toBuf, TRef.ofBuf, cast_eq]
  after_results_simp
  simp only [val0_2_main_v38, val0_2_main_cst_7, val0_2_main_v37] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v46, main_v47, main_cst_8, main_v48]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_v6 (V0 : Valuation τ sig (Elt F)) : val1 V0 (no_index (Proc.devRef .tc main_v6)) = (fun j => (Host.argReduce reducer_argmin_f32_i32 (res_main_v5 V0) (res_main_call1_v0 V0) (res_main_call1_cst V0) (res_main_call1_c V0) reducesTo_S2048x1x512_S2048x1_d2 h_S_ j).2) :=
  (val1_keep V0 main_v6 (by decide)).trans (val0_3_main_v6 V0)
theorem val1_main_v11 (V0 : Valuation τ sig (Elt F)) : val1 V0 (no_index (Proc.devRef .tc main_v11)) = res_main_v11 V0 :=
  (val1_keep V0 main_v11 (by decide)).trans (val0_3_main_v11 V0)
theorem val1_main_v45 (V0 : Valuation τ sig (Elt F)) : val1 V0 (no_index (Proc.devRef .tc main_v45)) = res_main_v45 V0 :=
  (val1_keep V0 main_v45 (by decide)).trans (val0_3_main_v45 V0)
set_option maxRecDepth 8192 in
theorem val1_main_v46 (V0 : Valuation τ sig (Elt F)) : val1 V0 (no_index (Proc.devRef .tc main_v46)) = res_main_v46 V0 := by
  unfold val1
  simp only [ops_part0_3]
  after_results_simp
  simp only [val0_3_main_v43] <;> rfl
set_option maxRecDepth 8192 in
theorem val1_main_v48 (V0 : Valuation τ sig (Elt F)) : val1 V0 (no_index (Proc.devRef .tc main_v48)) = Host.reduceAdd (Host.absf (res_main_v45 V0)) (constant S_ .f32 0x00000000#32) reducesTo_S2048x8_S2048_d1 h_S_ := by
  unfold val1
  simp only [ops_part0_3]
  after_results_simp
  simp only [val0_3_main_v45] <;> rfl

/-- The device's buffer contents after @main's first 124 operations. -/
def val1_1 (V0 : Valuation τ sig (Elt F)) : Valuation τ sig (Elt F) := after ops_part1_0 (val1 V0)
/-- The buffers that window `ops_part1_0`'s operations write. -/
abbrev ops_part1_0_W : List (Ref sig .tc) := [main_v49, main_cst_9, main_v50, main_v51, main_v52, main_v53, main_v54, main_v55, main_v56, main_v57, main_c_10, main_v58, main_c_11, main_call5_v0, main_call5_v1, main_v59, main_c_12, main_v60, main_v61, main_c_13, main_v62, main_v63, main_v64, main_v65, main_c_14, main_v66, main_v67, main_v68, main_cst_15, main_v69]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v46 (V0 : Valuation τ sig (Elt F)) : val1_1 V0 (no_index (Proc.devRef .tc main_v46)) = res_main_v46 V0 :=
  (val1_1_keep V0 main_v46 (by decide)).trans (val1_main_v46 V0)
set_option maxRecDepth 8192 in
set_option maxHeartbeats 2000000 in
theorem val1_1_main_v53 (V0 : Valuation τ sig (Elt F)) : val1_1 V0 (no_index (Proc.devRef .tc main_v53)) = Host.divf (res_main_v45 V0) (broadcastInDim S2048x8 ![0, 1] bcast_S2048x1_S2048x8_0_1 (maximumf (broadcastInDim S2048x1 ![0] bcast_S2048_S2048x1_0 (Host.reduceAdd (Host.absf (res_main_v45 V0)) (constant S_ .f32 0x00000000#32) reducesTo_S2048x8_S2048_d1 h_S_)) (broadcastInDim S2048x1 ![] bcast_S_S2048x1 (constant S_ .f32 0x2B8CBCCC#32)))) := by
  unfold val1_1
  simp only [ops_part1_0, TRef.binary, TRef.unary, TRef.toBuf, TRef.ofBuf, cast_eq]
  after_results_simp
  simp only [val1_main_v48, val1_main_v45] <;> rfl
set_option maxRecDepth 8192 in
set_option maxHeartbeats 2000000 in
theorem val1_1_main_v54 (V0 : Valuation τ sig (Elt F)) : val1_1 V0 (no_index (Proc.devRef .tc main_v54)) = shapeCast _ ((fun j => (Host.argReduce reducer_argmin_f32_i32 (res_main_v5 V0) (res_main_call1_v0 V0) (res_main_call1_cst V0) (res_main_call1_c V0) reducesTo_S2048x1x512_S2048x1_d2 h_S_ j).2)) shapeCasts_S2048x1_S4x512x1 := by
  unfold val1_1
  simp only [ops_part1_0, TRef.binary, TRef.unary, TRef.toBuf, TRef.ofBuf, cast_eq]
  after_results_simp
  simp only [val1_main_v6] <;> rfl
set_option maxRecDepth 8192 in
set_option maxHeartbeats 2000000 in
theorem val1_1_main_v55 (V0 : Valuation τ sig (Elt F)) : val1_1 V0 (no_index (Proc.devRef .tc main_v55)) = shapeCast _ (res_main_v11 V0) shapeCasts_S2048x1_S4x512x1 := by
  unfold val1_1
  simp only [ops_part1_0, TRef.binary, TRef.unary, TRef.toBuf, TRef.ofBuf, cast_eq]
  after_results_simp
  simp only [val1_main_v11] <;> rfl
set_option maxRecDepth 8192 in
set_option maxHeartbeats 2000000 in
theorem val1_1_main_v68 (V0 : Valuation τ sig (Elt F)) : val1_1 V0 (no_index (Proc.devRef .tc main_v68)) = res_main_v68 V0 := by
  unfold val1_1
  simp only [ops_part1_0, TRef.binary, TRef.unary, TRef.toBuf, TRef.ofBuf, cast_eq]
  after_results_simp
  simp only [val1_main_v46] <;> rfl
set_option maxRecDepth 8192 in
set_option maxHeartbeats 2000000 in
theorem val1_1_main_v69 (V0 : Valuation τ sig (Elt F)) : val1_1 V0 (no_index (Proc.devRef .tc main_v69)) = broadcastInDim S512 ![] bcast_S_S512 (constant S_ .f32 0x45000000#32) := by
  unfold val1_1
  simp only [ops_part1_0, TRef.binary, TRef.unary, TRef.toBuf, TRef.ofBuf, cast_eq]
  after_results_simp
  all_goals rfl

/-- The device's buffer contents after @main's first 154 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v70, main_cst_16, main_v71, main_v72, main_cst_17, main_v73, main_v74, main_cst_18, main_call6_v0, main_call6_v1, main_v75, main_v76, main_v77, main_cst_19, main_call7_v0, main_call7_v1, main_v78, main_cst_20, main_v79, main_v80, main_v81, main_c_21, main_v82, main_v83, main_v84, main_v85, main_v86, main_v87, main_call8_c, main_call8_v0]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v53 (V0 : Valuation τ sig (Elt F)) : val1_2 V0 (no_index (Proc.devRef .tc main_v53)) = Host.divf (res_main_v45 V0) (broadcastInDim S2048x8 ![0, 1] bcast_S2048x1_S2048x8_0_1 (maximumf (broadcastInDim S2048x1 ![0] bcast_S2048_S2048x1_0 (Host.reduceAdd (Host.absf (res_main_v45 V0)) (constant S_ .f32 0x00000000#32) reducesTo_S2048x8_S2048_d1 h_S_)) (broadcastInDim S2048x1 ![] bcast_S_S2048x1 (constant S_ .f32 0x2B8CBCCC#32)))) :=
  (val1_2_keep V0 main_v53 (by decide)).trans (val1_1_main_v53 V0)
theorem val1_2_main_v54 (V0 : Valuation τ sig (Elt F)) : val1_2 V0 (no_index (Proc.devRef .tc main_v54)) = shapeCast _ ((fun j => (Host.argReduce reducer_argmin_f32_i32 (res_main_v5 V0) (res_main_call1_v0 V0) (res_main_call1_cst V0) (res_main_call1_c V0) reducesTo_S2048x1x512_S2048x1_d2 h_S_ j).2)) shapeCasts_S2048x1_S4x512x1 :=
  (val1_2_keep V0 main_v54 (by decide)).trans (val1_1_main_v54 V0)
theorem val1_2_main_v55 (V0 : Valuation τ sig (Elt F)) : val1_2 V0 (no_index (Proc.devRef .tc main_v55)) = shapeCast _ (res_main_v11 V0) shapeCasts_S2048x1_S4x512x1 :=
  (val1_2_keep V0 main_v55 (by decide)).trans (val1_1_main_v55 V0)
set_option maxRecDepth 8192 in
set_option maxHeartbeats 2000000 in
theorem val1_2_main_v80 (V0 : Valuation τ sig (Elt F)) : val1_2 V0 (no_index (Proc.devRef .tc main_v80)) = Host.negf (Host.reduceAdd (select (cmpf .ogt (res_main_v68 V0) (broadcastInDim S512 ![] bcast_S_S512 (constant S_ .f32 0x00000000#32))) (mulf (res_main_v70 V0) (Host.log (select (cmpf .ogt (res_main_v68 V0) (broadcastInDim S512 ![] bcast_S_S512 (constant S_ .f32 0x00000000#32))) (res_main_v70 V0) (broadcastInDim S512 ![] bcast_S_S512 (id (constant S_ .f32 0x3F800000#32)))))) (broadcastInDim S512 ![] bcast_S_S512 (id (constant S_ .f32 0x00000000#32)))) (constant S_ .f32 0x00000000#32) reducesTo_S512_S_d0 h_S_) := by
  unfold val1_2
  simp only [ops_part1_1, TRef.nullary, TRef.ternary, TRef.unary, TRef.toBuf, TRef.ofBuf, cast_eq]
  after_results_simp
  simp only [val1_1_main_v68, val1_1_main_v69] <;> rfl
set_option maxRecDepth 8192 in
set_option maxHeartbeats 2000000 in
theorem val1_2_main_v86 (V0 : Valuation τ sig (Elt F)) : val1_2 V0 (no_index (Proc.devRef .tc main_v86)) = res_main_v86 V0 := by
  unfold val1_2
  simp only [ops_part1_1, TRef.nullary, TRef.ternary, TRef.unary, TRef.toBuf, TRef.ofBuf, cast_eq]
  after_results_simp
  simp only [val1_1_main_v46] <;> rfl
set_option maxRecDepth 8192 in
set_option maxHeartbeats 2000000 in
theorem val1_2_main_v87 (V0 : Valuation τ sig (Elt F)) : val1_2 V0 (no_index (Proc.devRef .tc main_v87)) = shapeCast _ (V0 (Proc.devRef .tc main_arg1)) shapeCasts_S1x512x64_S512x64 := by
  unfold val1_2
  simp only [ops_part1_1, TRef.nullary, TRef.ternary, TRef.unary, TRef.toBuf, TRef.ofBuf, cast_eq]
  after_results_simp
  simp only [val1_1_main_arg1] <;> rfl
set_option maxRecDepth 8192 in
set_option maxHeartbeats 2000000 in
theorem val1_2_main_call8_v0 (V0 : Valuation τ sig (Elt F)) : val1_2 V0 (no_index (Proc.devRef .tc main_call8_v0)) = broadcastInDim S2048x8 ![] bcast_S_S2048x8 (constantI S_ 32 0#32) := by
  unfold val1_2
  simp only [ops_part1_1, TRef.nullary, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v88, main_v89, main_v90, main_v91, main_cst_22, main_v92, main_v93, main_v94]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v54 (V0 : Valuation τ sig (Elt F)) : val2 V0 (no_index (Proc.devRef .tc main_v54)) = shapeCast _ ((fun j => (Host.argReduce reducer_argmin_f32_i32 (res_main_v5 V0) (res_main_call1_v0 V0) (res_main_call1_cst V0) (res_main_call1_c V0) reducesTo_S2048x1x512_S2048x1_d2 h_S_ j).2)) shapeCasts_S2048x1_S4x512x1 :=
  (val2_keep V0 main_v54 (by decide)).trans (val1_2_main_v54 V0)
theorem val2_main_v55 (V0 : Valuation τ sig (Elt F)) : val2 V0 (no_index (Proc.devRef .tc main_v55)) = shapeCast _ (res_main_v11 V0) shapeCasts_S2048x1_S4x512x1 :=
  (val2_keep V0 main_v55 (by decide)).trans (val1_2_main_v55 V0)
theorem val2_main_v80 (V0 : Valuation τ sig (Elt F)) : val2 V0 (no_index (Proc.devRef .tc main_v80)) = Host.negf (Host.reduceAdd (select (cmpf .ogt (res_main_v68 V0) (broadcastInDim S512 ![] bcast_S_S512 (constant S_ .f32 0x00000000#32))) (mulf (res_main_v70 V0) (Host.log (select (cmpf .ogt (res_main_v68 V0) (broadcastInDim S512 ![] bcast_S_S512 (constant S_ .f32 0x00000000#32))) (res_main_v70 V0) (broadcastInDim S512 ![] bcast_S_S512 (id (constant S_ .f32 0x3F800000#32)))))) (broadcastInDim S512 ![] bcast_S_S512 (id (constant S_ .f32 0x00000000#32)))) (constant S_ .f32 0x00000000#32) reducesTo_S512_S_d0 h_S_) :=
  (val2_keep V0 main_v80 (by decide)).trans (val1_2_main_v80 V0)
set_option maxRecDepth 8192 in
set_option maxHeartbeats 2000000 in
theorem val2_main_v93 (V0 : Valuation τ sig (Elt F)) : val2 V0 (no_index (Proc.devRef .tc main_v93)) = res_main_v93 V0 := by
  unfold val2
  simp only [ops_part1_2, TRef.binary, TRef.nullary, TRef.ternary, TRef.unary, TRef.toBuf, TRef.ofBuf, cast_eq]
  after_results_simp
  simp only [val1_2_main_v53, val1_2_main_v86, val1_2_main_call8_v0, val1_2_main_v87] <;> rfl
set_option maxRecDepth 8192 in
set_option maxHeartbeats 2000000 in
theorem val2_main_v94 (V0 : Valuation τ sig (Elt F)) : val2 V0 (no_index (Proc.devRef .tc main_v94)) = subf (res_main_v93 V0) (V0 (Proc.devRef .tc main_arg0)) := by
  unfold val2
  simp only [ops_part1_2, TRef.binary, TRef.nullary, TRef.ternary, TRef.unary, TRef.toBuf, TRef.ofBuf, cast_eq]
  after_results_simp
  simp only [val1_2_main_arg0, val1_2_main_v53, val1_2_main_v86, val1_2_main_call8_v0, val1_2_main_v87] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v95, main_v96, main_call9_v0, main_call9_cst, main_call9_v1, main_v97, main_v98, main_v99, main_call10_v0, main_call10_cst, main_call10_v1, main_v100, main_v101, main_v102, main_call11_v0, main_call11_cst, main_call11_v1, main_v103, main_v104, main_v105]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_v54 (V0 : Valuation τ sig (Elt F)) : val3 V0 (no_index (Proc.devRef .tc main_v54)) = shapeCast _ ((fun j => (Host.argReduce reducer_argmin_f32_i32 (res_main_v5 V0) (res_main_call1_v0 V0) (res_main_call1_cst V0) (res_main_call1_c V0) reducesTo_S2048x1x512_S2048x1_d2 h_S_ j).2)) shapeCasts_S2048x1_S4x512x1 :=
  (val3_keep V0 main_v54 (by decide)).trans (val2_main_v54 V0)
theorem val3_main_v55 (V0 : Valuation τ sig (Elt F)) : val3 V0 (no_index (Proc.devRef .tc main_v55)) = shapeCast _ (res_main_v11 V0) shapeCasts_S2048x1_S4x512x1 :=
  (val3_keep V0 main_v55 (by decide)).trans (val2_main_v55 V0)
theorem val3_main_v80 (V0 : Valuation τ sig (Elt F)) : val3 V0 (no_index (Proc.devRef .tc main_v80)) = Host.negf (Host.reduceAdd (select (cmpf .ogt (res_main_v68 V0) (broadcastInDim S512 ![] bcast_S_S512 (constant S_ .f32 0x00000000#32))) (mulf (res_main_v70 V0) (Host.log (select (cmpf .ogt (res_main_v68 V0) (broadcastInDim S512 ![] bcast_S_S512 (constant S_ .f32 0x00000000#32))) (res_main_v70 V0) (broadcastInDim S512 ![] bcast_S_S512 (id (constant S_ .f32 0x3F800000#32)))))) (broadcastInDim S512 ![] bcast_S_S512 (id (constant S_ .f32 0x00000000#32)))) (constant S_ .f32 0x00000000#32) reducesTo_S512_S_d0 h_S_) :=
  (val3_keep V0 main_v80 (by decide)).trans (val2_main_v80 V0)
set_option maxRecDepth 8192 in
set_option maxHeartbeats 2000000 in
theorem val3_main_v95 (V0 : Valuation τ sig (Elt F)) : val3 V0 (no_index (Proc.devRef .tc main_v95)) = addf (subf (res_main_v93 V0) (V0 (Proc.devRef .tc main_arg0))) (V0 (Proc.devRef .tc main_arg0)) := by
  unfold val3
  simp only [ops_part2, TRef.binary, TRef.nullary, TRef.unary, TRef.toBuf, TRef.ofBuf, cast_eq]
  after_results_simp
  simp only [val2_main_arg0, val2_main_v94] <;> rfl
set_option maxRecDepth 8192 in
set_option maxHeartbeats 2000000 in
theorem val3_main_v98 (V0 : Valuation τ sig (Elt F)) : val3 V0 (no_index (Proc.devRef .tc main_v98)) = mulf (res_main_v97 V0) (res_main_v97 V0) := by
  unfold val3
  simp only [ops_part2, TRef.binary, TRef.nullary, TRef.unary, TRef.toBuf, TRef.ofBuf, cast_eq]
  after_results_simp
  simp only [val2_main_v93, val2_main_arg0] <;> rfl
set_option maxRecDepth 8192 in
set_option maxHeartbeats 2000000 in
theorem val3_main_v105 (V0 : Valuation τ sig (Elt F)) : val3 V0 (no_index (Proc.devRef .tc main_v105)) = addf (mulf (res_main_v100 V0) (res_main_v100 V0)) (mulf (res_main_v103 V0) (res_main_v103 V0)) := by
  unfold val3
  simp only [ops_part2, TRef.binary, TRef.nullary, TRef.unary, TRef.toBuf, TRef.ofBuf, cast_eq]
  after_results_simp
  simp only [val2_main_arg0, val2_main_v93] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = addf (subf (res_main_v93 (launchContents m c)) ((launchContents m c) (Proc.devRef .tc main_arg0))) ((launchContents m c) (Proc.devRef .tc main_arg0))
      ∧ r.2.mem ((c.tc : Thread nD τ).loc main_v98) = mulf (res_main_v97 (launchContents m c)) (res_main_v97 (launchContents m c))
      ∧ r.2.mem ((c.tc : Thread nD τ).loc main_v105) = addf (mulf (res_main_v100 (launchContents m c)) (res_main_v100 (launchContents m c))) (mulf (res_main_v103 (launchContents m c)) (res_main_v103 (launchContents m c)))
      ∧ r.2.mem ((c.tc : Thread nD τ).loc main_v80) = Host.negf (Host.reduceAdd (select (cmpf .ogt (res_main_v68 (launchContents m c)) (broadcastInDim S512 ![] bcast_S_S512 (constant S_ .f32 0x00000000#32))) (mulf (res_main_v70 (launchContents m c)) (Host.log (select (cmpf .ogt (res_main_v68 (launchContents m c)) (broadcastInDim S512 ![] bcast_S_S512 (constant S_ .f32 0x00000000#32))) (res_main_v70 (launchContents m c)) (broadcastInDim S512 ![] bcast_S_S512 (id (constant S_ .f32 0x3F800000#32)))))) (broadcastInDim S512 ![] bcast_S_S512 (id (constant S_ .f32 0x00000000#32)))) (constant S_ .f32 0x00000000#32) reducesTo_S512_S_d0 h_S_)
      ∧ r.2.mem ((c.tc : Thread nD τ).loc main_v54) = shapeCast _ ((fun j => (Host.argReduce reducer_argmin_f32_i32 (res_main_v5 (launchContents m c)) (res_main_call1_v0 (launchContents m c)) (res_main_call1_cst (launchContents m c)) (res_main_call1_c (launchContents m c)) reducesTo_S2048x1x512_S2048x1_d2 h_S_ j).2)) shapeCasts_S2048x1_S4x512x1
      ∧ r.2.mem ((c.tc : Thread nD τ).loc main_v55) = shapeCast _ (res_main_v11 (launchContents m c)) shapeCasts_S2048x1_S4x512x1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v95).trans ((congrFun (after_ops (launchContents m c)) (Proc.devRef .tc main_v95)).trans (val3_main_v95 (launchContents m c))),
      (h c main_v98).trans ((congrFun (after_ops (launchContents m c)) (Proc.devRef .tc main_v98)).trans (val3_main_v98 (launchContents m c))),
      (h c main_v105).trans ((congrFun (after_ops (launchContents m c)) (Proc.devRef .tc main_v105)).trans (val3_main_v105 (launchContents m c))),
      (h c main_v80).trans ((congrFun (after_ops (launchContents m c)) (Proc.devRef .tc main_v80)).trans (val3_main_v80 (launchContents m c))),
      (h c main_v54).trans ((congrFun (after_ops (launchContents m c)) (Proc.devRef .tc main_v54)).trans (val3_main_v54 (launchContents m c))),
      (h c main_v55).trans ((congrFun (after_ops (launchContents m c)) (Proc.devRef .tc main_v55)).trans (val3_main_v55 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c)))⟩)
    (run_seq scopedRefs_eq scopedSems_eq defs main (fun _ => ops) main_eq (fun _ => ops_sub) m ρ fun _ => ops_fresh)

end Cert.ReferenceIdeal.Value

end
-- ==== Proof.RefRead.lean ====
/- The reference program, one operation at a time. `val_<buffer>` (one per operation, in program order) is the
   value the operation writes, as a function of the arguments of @main it depends on. `val_<buffer>_apply` reads it
   at an index from the operands at an index, for each operation whose result element depends on one element of each
   operand; a float sum's is the initial value plus the sum over the axis. `val_<buffer>_eq`: a result's term as the
   run states it equals its `val_`. -/
module

public import proofs.«01_k».proof.Proof.RefRun
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg0 : (tensor<4x512x1x64xf32>) -> tensor<2048x1x1x64xf32>
def val_main_v0 (x0 : (⟨S4x512x1x64, .f32⟩ : BufTy).Contents (Elt F)) : (⟨S2048x1x1x64, .f32⟩ : BufTy).Contents (Elt F) :=
  shapeCast _ (x0) shapeCasts_S4x512x1x64_S2048x1x1x64
set_option backward.proofsInPublic true in
abbrev idx_main_v0 (i : S2048x1x1x64.Idx) : S4x512x1x64.Idx := fun a => match a with
  | ⟨0, _⟩ => ⟨((((i 0).val * 1 + (i 1).val) * 1 + (i 2).val) * 64 + (i 3).val) / 32768, by have h0 : (i 0).val < 2048 := (i 0).isLt; have h1 : (i 1).val < 1 := (i 1).isLt; have h2 : (i 2).val < 1 := (i 2).isLt; have h3 : (i 3).val < 64 := (i 3).isLt; show ((((i 0).val * 1 + (i 1).val) * 1 + (i 2).val) * 64 + (i 3).val) / 32768 < 4; omega⟩
  | ⟨1, _⟩ => ⟨((((i 0).val * 1 + (i 1).val) * 1 + (i 2).val) * 64 + (i 3).val) / 64 % 512, by have h0 : (i 0).val < 2048 := (i 0).isLt; have h1 : (i 1).val < 1 := (i 1).isLt; have h2 : (i 2).val < 1 := (i 2).isLt; have h3 : (i 3).val < 64 := (i 3).isLt; show ((((i 0).val * 1 + (i 1).val) * 1 + (i 2).val) * 64 + (i 3).val) / 64 % 512 < 512; omega⟩
  | ⟨2, _⟩ => ⟨0, Nat.one_pos⟩
  | ⟨3, _⟩ => ⟨((((i 0).val * 1 + (i 1).val) * 1 + (i 2).val) * 64 + (i 3).val) % 64, by have h0 : (i 0).val < 2048 := (i 0).isLt; have h1 : (i 1).val < 1 := (i 1).isLt; have h2 : (i 2).val < 1 := (i 2).isLt; have h3 : (i 3).val < 64 := (i 3).isLt; show ((((i 0).val * 1 + (i 1).val) * 1 + (i 2).val) * 64 + (i 3).val) % 64 < 64; omega⟩
theorem val_main_v0_apply (x0 : (⟨S4x512x1x64, .f32⟩ : BufTy).Contents (Elt F)) (i : S2048x1x1x64.Idx) :
    val_main_v0 (F := F) x0 i = x0 (idx_main_v0 i) := by
  unfold val_main_v0
  exact shapeCast_apply x0 shapeCasts_S4x512x1x64_S2048x1x1x64 i (idx_main_v0 i)
    (by rewrite [Shape.rowMajor_val_four, Shape.rowMajor_val_four]; have h0 : (i 0).val < 2048 := (i 0).isLt; have h1 : (i 1).val < 1 := (i 1).isLt; have h2 : (i 2).val < 1 := (i 2).isLt; have h3 : (i 3).val < 64 := (i 3).isLt; show ((((((i 0).val * 1 + (i 1).val) * 1 + (i 2).val) * 64 + (i 3).val) / 32768 * 512 + ((((i 0).val * 1 + (i 1).val) * 1 + (i 2).val) * 64 + (i 3).val) / 64 % 512) * 1 + 0) * 64 + ((((i 0).val * 1 + (i 1).val) * 1 + (i 2).val) * 64 + (i 3).val) % 64 = (((i 0).val * 1 + (i 1).val) * 1 + (i 2).val) * 64 + (i 3).val; omega)

-- %1 = stablehlo.broadcast_in_dim %arg1, dims = [1, 2, 3] : (tensor<1x512x64xf32>) -> tensor<1x1x512x64xf32>
def val_main_v1 (x1 : (⟨S1x512x64, .f32⟩ : BufTy).Contents (Elt F)) : (⟨S1x1x512x64, .f32⟩ : BufTy).Contents (Elt F) :=
  broadcastInDim S1x1x512x64 ![1, 2, 3] bcast_S1x512x64_S1x1x512x64_1_2_3 (x1)
abbrev idx_main_v1 (i : S1x1x512x64.Idx) : S1x512x64.Idx := fun a => match a with
  | ⟨0, _⟩ => ⟨0, Nat.one_pos⟩
  | ⟨1, _⟩ => ⟨(i 2).val, (i 2).isLt⟩
  | ⟨2, _⟩ => ⟨(i 3).val, (i 3).isLt⟩
theorem val_main_v1_apply (x1 : (⟨S1x512x64, .f32⟩ : BufTy).Contents (Elt F)) (i : S1x1x512x64.Idx) :
    val_main_v1 (F := F) x1 i = x1 (idx_main_v1 i) := by
  unfold val_main_v1
  exact broadcastInDim_apply _ bcast_S1x512x64_S1x1x512x64_1_2_3 x1 i (idx_main_v1 i) (fun a => match a with
    | ⟨0, _⟩ => by show 0 = if (1 : Nat) = 1 then 0 else (i 1).val; rw [if_pos rfl]
    | ⟨1, _⟩ => by show (i 2).val = if (512 : Nat) = 1 then 0 else (i 2).val; rw [if_neg (by decide)]
    | ⟨2, _⟩ => by show (i 3).val = if (64 : Nat) = 1 then 0 else (i 3).val; rw [if_neg (by decide)])

-- %2 = stablehlo.broadcast_in_dim %0, dims = [0, 1, 2, 3] : (tensor<2048x1x1x64xf32>) -> tensor<2048x1x512x64xf32>
def val_main_v2 (x0 : (⟨S4x512x1x64, .f32⟩ : BufTy).Contents (Elt F)) : (⟨S2048x1x512x64, .f32⟩ : BufTy).Contents (Elt F) :=
  broadcastInDim S2048x1x512x64 ![0, 1, 2, 3] bcast_S2048x1x1x64_S2048x1x512x64_0_1_2_3 (val_main_v0 (F := F) x0)
abbrev idx_main_v2 (i : S2048x1x512x64.Idx) : S2048x1x1x64.Idx := fun a => match a with
  | ⟨0, _⟩ => ⟨(i 0).val, (i 0).isLt⟩
  | ⟨1, _⟩ => ⟨0, Nat.one_pos⟩
  | ⟨2, _⟩ => ⟨0, Nat.one_pos⟩
  | ⟨3, _⟩ => ⟨(i 3).val, (i 3).isLt⟩
theorem val_main_v2_apply (x0 : (⟨S4x512x1x64, .f32⟩ : BufTy).Contents (Elt F)) (i : S2048x1x512x64.Idx) :
    val_main_v2 (F := F) x0 i = val_main_v0 (F := F) x0 (idx_main_v2 i) := by
  unfold val_main_v2
  generalize val_main_v0 (F := F) x0 = y
  exact broadcastInDim_apply _ bcast_S2048x1x1x64_S2048x1x512x64_0_1_2_3 y i (idx_main_v2 i) (fun a => match a with
    | ⟨0, _⟩ => by show (i 0).val = if (2048 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (64 : Nat) = 1 then 0 else (i 3).val; rw [if_neg (by decide)])

-- %3 = stablehlo.broadcast_in_dim %1, dims = [0, 1, 2, 3] : (tensor<1x1x512x64xf32>) -> tensor<2048x1x512x64xf32>
def val_main_v3 (x1 : (⟨S1x512x64, .f32⟩ : BufTy).Contents (Elt F)) : (⟨S2048x1x512x64, .f32⟩ : BufTy).Contents (Elt F) :=
  broadcastInDim S2048x1x512x64 ![0, 1, 2, 3] bcast_S1x1x512x64_S2048x1x512x64_0_1_2_3 (val_main_v1 (F := F) x1)
abbrev idx_main_v3 (i : S2048x1x512x64.Idx) : S1x1x512x64.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩
theorem val_main_v3_apply (x1 : (⟨S1x512x64, .f32⟩ : BufTy).Contents (Elt F)) (i : S2048x1x512x64.Idx) :
    val_main_v3 (F := F) x1 i = val_main_v1 (F := F) x1 (idx_main_v3 i) := by
  unfold val_main_v3
  generalize val_main_v1 (F := F) x1 = y
  exact broadcastInDim_apply _ bcast_S1x1x512x64_S2048x1x512x64_0_1_2_3 y i (idx_main_v3 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (64 : Nat) = 1 then 0 else (i 3).val; rw [if_neg (by decide)])

-- %4 = stablehlo.subtract %2, %3 : tensor<2048x1x512x64xf32>
def val_main_v4 (x0 : (⟨S4x512x1x64, .f32⟩ : BufTy).Contents (Elt F)) (x1 : (⟨S1x512x64, .f32⟩ : BufTy).Contents (Elt F)) : (⟨S2048x1x512x64, .f32⟩ : BufTy).Contents (Elt F) :=
  subf (val_main_v2 (F := F) x0) (val_main_v3 (F := F) x1)
theorem val_main_v4_apply (x0 : (⟨S4x512x1x64, .f32⟩ : BufTy).Contents (Elt F)) (x1 : (⟨S1x512x64, .f32⟩ : BufTy).Contents (Elt F)) (i : S2048x1x512x64.Idx) :
    val_main_v4 (F := F) x0 x1 i = FloatOps.subf (val_main_v2 (F := F) x0 i) (val_main_v3 (F := F) x1 i) := rfl

-- @norm's %0 = stablehlo.multiply %arg0, %arg0 : tensor<2048x1x512x64xf32>, in %5 = func.call @norm(…) (record main_call0)
def val_main_call0_v0 (x0 : (⟨S4x512x1x64, .f32⟩ : BufTy).Contents (Elt F)) (x1 : (⟨S1x512x64, .f32⟩ : BufTy).Contents (Elt F)) : (⟨S2048x1x512x64, .f32⟩ : BufTy).Contents (Elt F) :=
  mulf (val_main_v4 (F := F) x0 x1) (val_main_v4 (F := F) x0 x1)
theorem val_main_call0_v0_apply (x0 : (⟨S4x512x1x64, .f32⟩ : BufTy).Contents (Elt F)) (x1 : (⟨S1x512x64, .f32⟩ : BufTy).Contents (Elt F)) (i : S2048x1x512x64.Idx) :
    val_main_call0_v0 (F := F) x0 x1 i = FloatOps.mulf (val_main_v4 (F := F) x0 x1 i) (val_main_v4 (F := F) x0 x1 i) := rfl

-- @norm's %cst = stablehlo.constant dense<0.000000e+00> : tensor<f32>, in %5 = func.call @norm(…) (record main_call0)
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

-- @norm's %1 = stablehlo.reduce(%0 init: %cst) applies stablehlo.add across dimensions = [3] : (tensor<2048x1x512x64xf32>, tensor<f32>) -> tensor<2048x1x512xf32> {, in %5 = func.call @norm(…) (record main_call0)
def val_main_call0_v1 (x0 : (⟨S4x512x1x64, .f32⟩ : BufTy).Contents (Elt F)) (x1 : (⟨S1x512x64, .f32⟩ : BufTy).Contents (Elt F)) : (⟨S2048x1x512, .f32⟩ : BufTy).Contents (Elt F) :=
  Host.reduceAdd (val_main_call0_v0 (F := F) x0 x1) (val_main_call0_cst (F := F)) reducesTo_S2048x1x512x64_S2048x1x512_d3 h_S_
abbrev idx_main_call0_v1 (i : S2048x1x512.Idx) (k : Fin 64) : S2048x1x512x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_call0_v1_apply (x0 : (⟨S4x512x1x64, .f32⟩ : BufTy).Contents (Elt Ideal)) (x1 : (⟨S1x512x64, .f32⟩ : BufTy).Contents (Elt Ideal)) (i : S2048x1x512.Idx) :
    val_main_call0_v1 (F := Ideal) x0 x1 i = (val_main_call0_cst (F := Ideal)) (Shape.Idx.first h_S_) + ∑ k : Fin 64, (val_main_call0_v0 (F := Ideal) x0 x1) (idx_main_call0_v1 i k) := by
  unfold val_main_call0_v1
  generalize val_main_call0_v0 (F := Ideal) x0 x1 = y0
  simp only [Host.reduceAdd, Ideal.hostReduceAdd_def]
  rw [Ideal.hostReduceAdd_single reducesTo_S2048x1x512x64_S2048x1x512_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %5 = func.call @norm(…) (record main_call0) result 0: @norm's %2 = stablehlo.sqrt %1 : tensor<2048x1x512xf32>
def val_main_v5 (x0 : (⟨S4x512x1x64, .f32⟩ : BufTy).Contents (Elt F)) (x1 : (⟨S1x512x64, .f32⟩ : BufTy).Contents (Elt F)) : (⟨S2048x1x512, .f32⟩ : BufTy).Contents (Elt F) :=
  Host.sqrt (val_main_call0_v1 (F := F) x0 x1)
theorem val_main_v5_apply (x0 : (⟨S4x512x1x64, .f32⟩ : BufTy).Contents (Elt F)) (x1 : (⟨S1x512x64, .f32⟩ : BufTy).Contents (Elt F)) (i : S2048x1x512.Idx) :
    val_main_v5 (F := F) x0 x1 i = FloatOps.hostUnary .sqrt (val_main_call0_v1 (F := F) x0 x1 i) := rfl

-- @argmin's %0 = stablehlo.iota dim = 2 : tensor<2048x1x512xi32>, in %6 = func.call @argmin(…) (record main_call1)
def val_main_call1_v0 : (⟨S2048x1x512, .i32⟩ : BufTy).Contents (Elt F) :=
  iotaInDim S2048x1x512 32 2
theorem val_main_call1_v0_apply (i : S2048x1x512.Idx) :
    val_main_call1_v0 (F := F) i = BitVec.ofNat 32 (i 2).val := rfl

-- @argmin's %cst = stablehlo.constant dense<0x7F800000> : tensor<f32>, in %6 = func.call @argmin(…) (record main_call1)
def val_main_call1_cst : (⟨S_, .f32⟩ : BufTy).Contents (Elt F) :=
  constant S_ .f32 0x7F800000#32
theorem val_main_call1_cst_apply (i : S_.Idx) :
    val_main_call1_cst (F := F) i = FloatOps.ofBits .f32 0x7F800000#32 := rfl

-- @argmin's %c = stablehlo.constant dense<0> : tensor<i32>, in %6 = func.call @argmin(…) (record main_call1)
def val_main_call1_c : (⟨S_, .i32⟩ : BufTy).Contents (Elt F) :=
  constantI S_ 32 0#32
theorem val_main_call1_c_apply (i : S_.Idx) :
    val_main_call1_c (F := F) i = 0#32 := rfl

-- @argmin's %1:2 = stablehlo.reduce(%arg0 init: %cst), (%0 init: %c) across dimensions = [2] : (tensor<2048x1x512xf32>, tensor<2048x1x512xi32>, tensor<f32>, tensor<i32>) -> (tensor<2048x1xf32>, tensor<2048x1xi32>) reducer(%arg1: tensor<f32>, %arg3: tensor<f32>) (%arg2: tensor<i32>, %arg4: tensor<i32>) {, in %6 = func.call @argmin(…) (record main_call1)
def val_main_call1_v1_0 (x0 : (⟨S4x512x1x64, .f32⟩ : BufTy).Contents (Elt F)) (x1 : (⟨S1x512x64, .f32⟩ : BufTy).Contents (Elt F)) : (⟨S2048x1, .f32⟩ : BufTy).Contents (Elt F) :=
  (fun j => (Host.argReduce reducer_argmin_f32_i32 (val_main_v5 (F := F) x0 x1) (val_main_call1_v0 (F := F)) (val_main_call1_cst (F := F)) (val_main_call1_c (F := F)) reducesTo_S2048x1x512_S2048x1_d2 h_S_ j).1)

-- %6 = func.call @argmin(…) (record main_call1) result 0: @argmin's %1:2 = stablehlo.reduce(%arg0 init: %cst), (%0 init: %c) across dimensions = [2] : (tensor<2048x1x512xf32>, tensor<2048x1x512xi32>, tensor<f32>, tensor<i32>) -> (tensor<2048x1xf32>, tensor<2048x1xi32>) reducer(%arg1: tensor<f32>, %arg3: tensor<f32>) (%arg2: tensor<i32>, %arg4: tensor<i32>) {
def val_main_v6 (x0 : (⟨S4x512x1x64, .f32⟩ : BufTy).Contents (Elt F)) (x1 : (⟨S1x512x64, .f32⟩ : BufTy).Contents (Elt F)) : (⟨S2048x1, .i32⟩ : BufTy).Contents (Elt F) :=
  (fun j => (Host.argReduce reducer_argmin_f32_i32 (val_main_v5 (F := F) x0 x1) (val_main_call1_v0 (F := F)) (val_main_call1_cst (F := F)) (val_main_call1_c (F := F)) reducesTo_S2048x1x512_S2048x1_d2 h_S_ j).2)

-- %7 = stablehlo.reshape %5 : (tensor<2048x1x512xf32>) -> tensor<2048x1x64x8xf32>
def val_main_v7 (x0 : (⟨S4x512x1x64, .f32⟩ : BufTy).Contents (Elt F)) (x1 : (⟨S1x512x64, .f32⟩ : BufTy).Contents (Elt F)) : (⟨S2048x1x64x8, .f32⟩ : BufTy).Contents (Elt F) :=
  shapeCast _ (val_main_v5 (F := F) x0 x1) shapeCasts_S2048x1x512_S2048x1x64x8
set_option backward.proofsInPublic true in
abbrev idx_main_v7 (i : S2048x1x64x8.Idx) : S2048x1x512.Idx := fun a => match a with
  | ⟨0, _⟩ => ⟨((((i 0).val * 1 + (i 1).val) * 64 + (i 2).val) * 8 + (i 3).val) / 512, by have h0 : (i 0).val < 2048 := (i 0).isLt; have h1 : (i 1).val < 1 := (i 1).isLt; have h2 : (i 2).val < 64 := (i 2).isLt; have h3 : (i 3).val < 8 := (i 3).isLt; show ((((i 0).val * 1 + (i 1).val) * 64 + (i 2).val) * 8 + (i 3).val) / 512 < 2048; omega⟩
  | ⟨1, _⟩ => ⟨0, Nat.one_pos⟩
  | ⟨2, _⟩ => ⟨((((i 0).val * 1 + (i 1).val) * 64 + (i 2).val) * 8 + (i 3).val) % 512, by have h0 : (i 0).val < 2048 := (i 0).isLt; have h1 : (i 1).val < 1 := (i 1).isLt; have h2 : (i 2).val < 64 := (i 2).isLt; have h3 : (i 3).val < 8 := (i 3).isLt; show ((((i 0).val * 1 + (i 1).val) * 64 + (i 2).val) * 8 + (i 3).val) % 512 < 512; omega⟩
theorem val_main_v7_apply (x0 : (⟨S4x512x1x64, .f32⟩ : BufTy).Contents (Elt F)) (x1 : (⟨S1x512x64, .f32⟩ : BufTy).Contents (Elt F)) (i : S2048x1x64x8.Idx) :
    val_main_v7 (F := F) x0 x1 i = val_main_v5 (F := F) x0 x1 (idx_main_v7 i) := by
  unfold val_main_v7
  generalize val_main_v5 (F := F) x0 x1 = y
  exact shapeCast_apply y shapeCasts_S2048x1x512_S2048x1x64x8 i (idx_main_v7 i)
    (by rewrite [Shape.rowMajor_val_three, Shape.rowMajor_val_four]; have h0 : (i 0).val < 2048 := (i 0).isLt; have h1 : (i 1).val < 1 := (i 1).isLt; have h2 : (i 2).val < 64 := (i 2).isLt; have h3 : (i 3).val < 8 := (i 3).isLt; show (((((i 0).val * 1 + (i 1).val) * 64 + (i 2).val) * 8 + (i 3).val) / 512 * 1 + 0) * 512 + ((((i 0).val * 1 + (i 1).val) * 64 + (i 2).val) * 8 + (i 3).val) % 512 = (((i 0).val * 1 + (i 1).val) * 64 + (i 2).val) * 8 + (i 3).val; omega)

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %8 = stablehlo.reduce(%7 init: %cst) applies stablehlo.add across dimensions = [3] : (tensor<2048x1x64x8xf32>, tensor<f32>) -> tensor<2048x1x64xf32> {
def val_main_v8 (x0 : (⟨S4x512x1x64, .f32⟩ : BufTy).Contents (Elt F)) (x1 : (⟨S1x512x64, .f32⟩ : BufTy).Contents (Elt F)) : (⟨S2048x1x64, .f32⟩ : BufTy).Contents (Elt F) :=
  Host.reduceAdd (val_main_v7 (F := F) x0 x1) (val_main_cst (F := F)) reducesTo_S2048x1x64x8_S2048x1x64_d3 h_S_
abbrev idx_main_v8 (i : S2048x1x64.Idx) (k : Fin 8) : S2048x1x64x8.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v8_apply (x0 : (⟨S4x512x1x64, .f32⟩ : BufTy).Contents (Elt Ideal)) (x1 : (⟨S1x512x64, .f32⟩ : BufTy).Contents (Elt Ideal)) (i : S2048x1x64.Idx) :
    val_main_v8 (F := Ideal) x0 x1 i = (val_main_cst (F := Ideal)) (Shape.Idx.first h_S_) + ∑ k : Fin 8, (val_main_v7 (F := Ideal) x0 x1) (idx_main_v8 i k) := by
  unfold val_main_v8
  generalize val_main_v7 (F := Ideal) x0 x1 = y0
  simp only [Host.reduceAdd, Ideal.hostReduceAdd_def]
  rw [Ideal.hostReduceAdd_single reducesTo_S2048x1x64x8_S2048x1x64_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %cst_0 = stablehlo.constant dense<8.000000e+00> : tensor<f32>
def val_main_cst_0 : (⟨S_, .f32⟩ : BufTy).Contents (Elt F) :=
  constant S_ .f32 0x41000000#32
theorem val_main_cst_0_apply (i : S_.Idx) :
    val_main_cst_0 (F := F) i = FloatOps.ofBits .f32 0x41000000#32 := rfl

-- %9 = stablehlo.broadcast_in_dim %cst_0, dims = [] : (tensor<f32>) -> tensor<2048x1x64xf32>
def val_main_v9 : (⟨S2048x1x64, .f32⟩ : BufTy).Contents (Elt F) :=
  broadcastInDim S2048x1x64 ![] bcast_S_S2048x1x64 (val_main_cst_0 (F := F))
abbrev idx_main_v9 (i : S2048x1x64.Idx) : S_.Idx := fun a => a.elim0
theorem val_main_v9_apply (i : S2048x1x64.Idx) :
    val_main_v9 (F := F) i = val_main_cst_0 (F := F) (idx_main_v9 i) := by
  unfold val_main_v9
  generalize val_main_cst_0 (F := F) = y
  exact broadcastInDim_apply _ bcast_S_S2048x1x64 y i (idx_main_v9 i) (fun a => a.elim0)

-- %10 = stablehlo.divide %8, %9 : tensor<2048x1x64xf32>
def val_main_v10 (x0 : (⟨S4x512x1x64, .f32⟩ : BufTy).Contents (Elt F)) (x1 : (⟨S1x512x64, .f32⟩ : BufTy).Contents (Elt F)) : (⟨S2048x1x64, .f32⟩ : BufTy).Contents (Elt F) :=
  Host.divf (val_main_v8 (F := F) x0 x1) (val_main_v9 (F := F))
theorem val_main_v10_apply (x0 : (⟨S4x512x1x64, .f32⟩ : BufTy).Contents (Elt F)) (x1 : (⟨S1x512x64, .f32⟩ : BufTy).Contents (Elt F)) (i : S2048x1x64.Idx) :
    val_main_v10 (F := F) x0 x1 i = FloatOps.hostDivf (val_main_v8 (F := F) x0 x1 i) (val_main_v9 (F := F) i) := rfl

-- @argmin_0's %0 = stablehlo.iota dim = 2 : tensor<2048x1x64xi32>, in %11 = func.call @argmin_0(…) (record main_call2)
def val_main_call2_v0 : (⟨S2048x1x64, .i32⟩ : BufTy).Contents (Elt F) :=
  iotaInDim S2048x1x64 32 2
theorem val_main_call2_v0_apply (i : S2048x1x64.Idx) :
    val_main_call2_v0 (F := F) i = BitVec.ofNat 32 (i 2).val := rfl

-- @argmin_0's %cst = stablehlo.constant dense<0x7F800000> : tensor<f32>, in %11 = func.call @argmin_0(…) (record main_call2)
def val_main_call2_cst : (⟨S_, .f32⟩ : BufTy).Contents (Elt F) :=
  constant S_ .f32 0x7F800000#32
theorem val_main_call2_cst_apply (i : S_.Idx) :
    val_main_call2_cst (F := F) i = FloatOps.ofBits .f32 0x7F800000#32 := rfl

-- @argmin_0's %c = stablehlo.constant dense<0> : tensor<i32>, in %11 = func.call @argmin_0(…) (record main_call2)
def val_main_call2_c : (⟨S_, .i32⟩ : BufTy).Contents (Elt F) :=
  constantI S_ 32 0#32
theorem val_main_call2_c_apply (i : S_.Idx) :
    val_main_call2_c (F := F) i = 0#32 := rfl

-- @argmin_0's %1:2 = stablehlo.reduce(%arg0 init: %cst), (%0 init: %c) across dimensions = [2] : (tensor<2048x1x64xf32>, tensor<2048x1x64xi32>, tensor<f32>, tensor<i32>) -> (tensor<2048x1xf32>, tensor<2048x1xi32>) reducer(%arg1: tensor<f32>, %arg3: tensor<f32>) (%arg2: tensor<i32>, %arg4: tensor<i32>) {, in %11 = func.call @argmin_0(…) (record main_call2)
def val_main_call2_v1_0 (x0 : (⟨S4x512x1x64, .f32⟩ : BufTy).Contents (Elt F)) (x1 : (⟨S1x512x64, .f32⟩ : BufTy).Contents (Elt F)) : (⟨S2048x1, .f32⟩ : BufTy).Contents (Elt F) :=
  (fun j => (Host.argReduce reducer_argmin_f32_i32 (val_main_v10 (F := F) x0 x1) (val_main_call2_v0 (F := F)) (val_main_call2_cst (F := F)) (val_main_call2_c (F := F)) reducesTo_S2048x1x64_S2048x1_d2 h_S_ j).1)

-- %11 = func.call @argmin_0(…) (record main_call2) result 0: @argmin_0's %1:2 = stablehlo.reduce(%arg0 init: %cst), (%0 init: %c) across dimensions = [2] : (tensor<2048x1x64xf32>, tensor<2048x1x64xi32>, tensor<f32>, tensor<i32>) -> (tensor<2048x1xf32>, tensor<2048x1xi32>) reducer(%arg1: tensor<f32>, %arg3: tensor<f32>) (%arg2: tensor<i32>, %arg4: tensor<i32>) {
def val_main_v11 (x0 : (⟨S4x512x1x64, .f32⟩ : BufTy).Contents (Elt F)) (x1 : (⟨S1x512x64, .f32⟩ : BufTy).Contents (Elt F)) : (⟨S2048x1, .i32⟩ : BufTy).Contents (Elt F) :=
  (fun j => (Host.argReduce reducer_argmin_f32_i32 (val_main_v10 (F := F) x0 x1) (val_main_call2_v0 (F := F)) (val_main_call2_cst (F := F)) (val_main_call2_c (F := F)) reducesTo_S2048x1x64_S2048x1_d2 h_S_ j).2)

-- %c = stablehlo.constant dense<8> : tensor<i32>
def val_main_c : (⟨S_, .i32⟩ : BufTy).Contents (Elt F) :=
  constantI S_ 32 8#32
theorem val_main_c_apply (i : S_.Idx) :
    val_main_c (F := F) i = 8#32 := rfl

-- %12 = stablehlo.broadcast_in_dim %c, dims = [] : (tensor<i32>) -> tensor<2048x1xi32>
def val_main_v12 : (⟨S2048x1, .i32⟩ : BufTy).Contents (Elt F) :=
  broadcastInDim S2048x1 ![] bcast_S_S2048x1 (val_main_c (F := F))
abbrev idx_main_v12 (i : S2048x1.Idx) : S_.Idx := fun a => a.elim0
theorem val_main_v12_apply (i : S2048x1.Idx) :
    val_main_v12 (F := F) i = val_main_c (F := F) (idx_main_v12 i) := by
  unfold val_main_v12
  generalize val_main_c (F := F) = y
  exact broadcastInDim_apply _ bcast_S_S2048x1 y i (idx_main_v12 i) (fun a => a.elim0)

-- %13 = stablehlo.multiply %11, %12 : tensor<2048x1xi32>
def val_main_v13 (x0 : (⟨S4x512x1x64, .f32⟩ : BufTy).Contents (Elt F)) (x1 : (⟨S1x512x64, .f32⟩ : BufTy).Contents (Elt F)) : (⟨S2048x1, .i32⟩ : BufTy).Contents (Elt F) :=
  muli (val_main_v11 (F := F) x0 x1) (val_main_v12 (F := F))
theorem val_main_v13_apply (x0 : (⟨S4x512x1x64, .f32⟩ : BufTy).Contents (Elt F)) (x1 : (⟨S1x512x64, .f32⟩ : BufTy).Contents (Elt F)) (i : S2048x1.Idx) :
    val_main_v13 (F := F) x0 x1 i = IntOp.muli (val_main_v11 (F := F) x0 x1 i) (val_main_v12 (F := F) i) := rfl

-- %14 = stablehlo.iota dim = 0 : tensor<8xi32>
def val_main_v14 : (⟨S8, .i32⟩ : BufTy).Contents (Elt F) :=
  iotaInDim S8 32 0
theorem val_main_v14_apply (i : S8.Idx) :
    val_main_v14 (F := F) i = BitVec.ofNat 32 (i 0).val := rfl

-- %15 = stablehlo.broadcast_in_dim %14, dims = [1] : (tensor<8xi32>) -> tensor<1x8xi32>
def val_main_v15 : (⟨S1x8, .i32⟩ : BufTy).Contents (Elt F) :=
  broadcastInDim S1x8 ![1] bcast_S8_S1x8_1 (val_main_v14 (F := F))
abbrev idx_main_v15 (i : S1x8.Idx) : S8.Idx := fun a => match a with
  | ⟨0, _⟩ => ⟨(i 1).val, (i 1).isLt⟩
theorem val_main_v15_apply (i : S1x8.Idx) :
    val_main_v15 (F := F) i = val_main_v14 (F := F) (idx_main_v15 i) := by
  unfold val_main_v15
  generalize val_main_v14 (F := F) = y
  exact broadcastInDim_apply _ bcast_S8_S1x8_1 y i (idx_main_v15 i) (fun a => match a with
    | ⟨0, _⟩ => by show (i 1).val = if (8 : Nat) = 1 then 0 else (i 1).val; rw [if_neg (by decide)])

-- %16 = stablehlo.broadcast_in_dim %13, dims = [0, 1] : (tensor<2048x1xi32>) -> tensor<2048x8xi32>
def val_main_v16 (x0 : (⟨S4x512x1x64, .f32⟩ : BufTy).Contents (Elt F)) (x1 : (⟨S1x512x64, .f32⟩ : BufTy).Contents (Elt F)) : (⟨S2048x8, .i32⟩ : BufTy).Contents (Elt F) :=
  broadcastInDim S2048x8 ![0, 1] bcast_S2048x1_S2048x8_0_1 (val_main_v13 (F := F) x0 x1)
abbrev idx_main_v16 (i : S2048x8.Idx) : S2048x1.Idx := fun a => match a with
  | ⟨0, _⟩ => ⟨(i 0).val, (i 0).isLt⟩
  | ⟨1, _⟩ => ⟨0, Nat.one_pos⟩
theorem val_main_v16_apply (x0 : (⟨S4x512x1x64, .f32⟩ : BufTy).Contents (Elt F)) (x1 : (⟨S1x512x64, .f32⟩ : BufTy).Contents (Elt F)) (i : S2048x8.Idx) :
    val_main_v16 (F := F) x0 x1 i = val_main_v13 (F := F) x0 x1 (idx_main_v16 i) := by
  unfold val_main_v16
  generalize val_main_v13 (F := F) x0 x1 = y
  exact broadcastInDim_apply _ bcast_S2048x1_S2048x8_0_1 y i (idx_main_v16 i) (fun a => match a with
    | ⟨0, _⟩ => by show (i 0).val = if (2048 : Nat) = 1 then 0 else (i 0).val; rw [if_neg (by decide)]
    | ⟨1, _⟩ => by show 0 = if (1 : Nat) = 1 then 0 else (i 1).val; rw [if_pos rfl])

-- %17 = stablehlo.broadcast_in_dim %15, dims = [0, 1] : (tensor<1x8xi32>) -> tensor<2048x8xi32>
def val_main_v17 : (⟨S2048x8, .i32⟩ : BufTy).Contents (Elt F) :=
  broadcastInDim S2048x8 ![0, 1] bcast_S1x8_S2048x8_0_1 (val_main_v15 (F := F))
abbrev idx_main_v17 (i : S2048x8.Idx) : S1x8.Idx := fun a => match a with
  | ⟨0, _⟩ => ⟨0, Nat.one_pos⟩
  | ⟨1, _⟩ => ⟨(i 1).val, (i 1).isLt⟩
theorem val_main_v17_apply (i : S2048x8.Idx) :
    val_main_v17 (F := F) i = val_main_v15 (F := F) (idx_main_v17 i) := by
  unfold val_main_v17
  generalize val_main_v15 (F := F) = y
  exact broadcastInDim_apply _ bcast_S1x8_S2048x8_0_1 y i (idx_main_v17 i) (fun a => match a with
    | ⟨0, _⟩ => by show 0 = if (1 : Nat) = 1 then 0 else (i 0).val; rw [if_pos rfl]
    | ⟨1, _⟩ => by show (i 1).val = if (8 : Nat) = 1 then 0 else (i 1).val; rw [if_neg (by decide)])

-- %18 = stablehlo.add %16, %17 : tensor<2048x8xi32>
def val_main_v18 (x0 : (⟨S4x512x1x64, .f32⟩ : BufTy).Contents (Elt F)) (x1 : (⟨S1x512x64, .f32⟩ : BufTy).Contents (Elt F)) : (⟨S2048x8, .i32⟩ : BufTy).Contents (Elt F) :=
  addi (val_main_v16 (F := F) x0 x1) (val_main_v17 (F := F))
theorem val_main_v18_apply (x0 : (⟨S4x512x1x64, .f32⟩ : BufTy).Contents (Elt F)) (x1 : (⟨S1x512x64, .f32⟩ : BufTy).Contents (Elt F)) (i : S2048x8.Idx) :
    val_main_v18 (F := F) x0 x1 i = IntOp.addi (val_main_v16 (F := F) x0 x1 i) (val_main_v17 (F := F) i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %19 = stablehlo.broadcast_in_dim %cst_1, dims = [] : (tensor<f32>) -> tensor<2048x512xf32>
def val_main_v19 : (⟨S2048x512, .f32⟩ : BufTy).Contents (Elt F) :=
  broadcastInDim S2048x512 ![] bcast_S_S2048x512 (val_main_cst_1 (F := F))
abbrev idx_main_v19 (i : S2048x512.Idx) : S_.Idx := fun a => a.elim0
theorem val_main_v19_apply (i : S2048x512.Idx) :
    val_main_v19 (F := F) i = val_main_cst_1 (F := F) (idx_main_v19 i) := by
  unfold val_main_v19
  generalize val_main_cst_1 (F := F) = y
  exact broadcastInDim_apply _ bcast_S_S2048x512 y i (idx_main_v19 i) (fun a => a.elim0)

-- %20 = stablehlo.iota dim = 0 : tensor<2048xi32>
def val_main_v20 : (⟨S2048, .i32⟩ : BufTy).Contents (Elt F) :=
  iotaInDim S2048 32 0
theorem val_main_v20_apply (i : S2048.Idx) :
    val_main_v20 (F := F) i = BitVec.ofNat 32 (i 0).val := rfl

-- %21 = stablehlo.broadcast_in_dim %20, dims = [0] : (tensor<2048xi32>) -> tensor<2048x1xi32>
def val_main_v21 : (⟨S2048x1, .i32⟩ : BufTy).Contents (Elt F) :=
  broadcastInDim S2048x1 ![0] bcast_S2048_S2048x1_0 (val_main_v20 (F := F))
abbrev idx_main_v21 (i : S2048x1.Idx) : S2048.Idx := fun a => match a with
  | ⟨0, _⟩ => ⟨(i 0).val, (i 0).isLt⟩
theorem val_main_v21_apply (i : S2048x1.Idx) :
    val_main_v21 (F := F) i = val_main_v20 (F := F) (idx_main_v21 i) := by
  unfold val_main_v21
  generalize val_main_v20 (F := F) = y
  exact broadcastInDim_apply _ bcast_S2048_S2048x1_0 y i (idx_main_v21 i) (fun a => match a with
    | ⟨0, _⟩ => by show (i 0).val = if (2048 : Nat) = 1 then 0 else (i 0).val; rw [if_neg (by decide)])

-- %c_2 = stablehlo.constant dense<0> : tensor<i32>
def val_main_c_2 : (⟨S_, .i32⟩ : BufTy).Contents (Elt F) :=
  constantI S_ 32 0#32
theorem val_main_c_2_apply (i : S_.Idx) :
    val_main_c_2 (F := F) i = 0#32 := rfl

-- %22 = stablehlo.broadcast_in_dim %c_2, dims = [] : (tensor<i32>) -> tensor<2048x1xi32>
def val_main_v22 : (⟨S2048x1, .i32⟩ : BufTy).Contents (Elt F) :=
  broadcastInDim S2048x1 ![] bcast_S_S2048x1 (val_main_c_2 (F := F))
abbrev idx_main_v22 (i : S2048x1.Idx) : S_.Idx := fun a => a.elim0
theorem val_main_v22_apply (i : S2048x1.Idx) :
    val_main_v22 (F := F) i = val_main_c_2 (F := F) (idx_main_v22 i) := by
  unfold val_main_v22
  generalize val_main_c_2 (F := F) = y
  exact broadcastInDim_apply _ bcast_S_S2048x1 y i (idx_main_v22 i) (fun a => a.elim0)

-- %23 = stablehlo.compare LT, %21, %22, SIGNED : (tensor<2048x1xi32>, tensor<2048x1xi32>) -> tensor<2048x1xi1>
def val_main_v23 : (⟨S2048x1, .i1⟩ : BufTy).Contents (Elt F) :=
  cmpi .slt (val_main_v21 (F := F)) (val_main_v22 (F := F))
theorem val_main_v23_apply (i : S2048x1.Idx) :
    val_main_v23 (F := F) i = IntOp.cmpi .slt (val_main_v21 (F := F) i) (val_main_v22 (F := F) i) := rfl

-- %c_3 = stablehlo.constant dense<2048> : tensor<i32>
def val_main_c_3 : (⟨S_, .i32⟩ : BufTy).Contents (Elt F) :=
  constantI S_ 32 2048#32
theorem val_main_c_3_apply (i : S_.Idx) :
    val_main_c_3 (F := F) i = 2048#32 := rfl

-- %24 = stablehlo.broadcast_in_dim %c_3, dims = [] : (tensor<i32>) -> tensor<2048x1xi32>
def val_main_v24 : (⟨S2048x1, .i32⟩ : BufTy).Contents (Elt F) :=
  broadcastInDim S2048x1 ![] bcast_S_S2048x1 (val_main_c_3 (F := F))
abbrev idx_main_v24 (i : S2048x1.Idx) : S_.Idx := fun a => a.elim0
theorem val_main_v24_apply (i : S2048x1.Idx) :
    val_main_v24 (F := F) i = val_main_c_3 (F := F) (idx_main_v24 i) := by
  unfold val_main_v24
  generalize val_main_c_3 (F := F) = y
  exact broadcastInDim_apply _ bcast_S_S2048x1 y i (idx_main_v24 i) (fun a => a.elim0)

-- %25 = stablehlo.add %21, %24 : tensor<2048x1xi32>
def val_main_v25 : (⟨S2048x1, .i32⟩ : BufTy).Contents (Elt F) :=
  addi (val_main_v21 (F := F)) (val_main_v24 (F := F))
theorem val_main_v25_apply (i : S2048x1.Idx) :
    val_main_v25 (F := F) i = IntOp.addi (val_main_v21 (F := F) i) (val_main_v24 (F := F) i) := rfl

-- %26 = stablehlo.select %23, %25, %21 : tensor<2048x1xi1>, tensor<2048x1xi32>
def val_main_v26 : (⟨S2048x1, .i32⟩ : BufTy).Contents (Elt F) :=
  select (val_main_v23 (F := F)) (val_main_v25 (F := F)) (val_main_v21 (F := F))
theorem val_main_v26_apply (i : S2048x1.Idx) :
    val_main_v26 (F := F) i = Scalar.select (val_main_v23 (F := F) i) (val_main_v25 (F := F) i) (val_main_v21 (F := F) i) := rfl

-- %c_4 = stablehlo.constant dense<0> : tensor<i32>
def val_main_c_4 : (⟨S_, .i32⟩ : BufTy).Contents (Elt F) :=
  constantI S_ 32 0#32
theorem val_main_c_4_apply (i : S_.Idx) :
    val_main_c_4 (F := F) i = 0#32 := rfl

-- %27 = stablehlo.broadcast_in_dim %c_4, dims = [] : (tensor<i32>) -> tensor<2048x8xi32>
def val_main_v27 : (⟨S2048x8, .i32⟩ : BufTy).Contents (Elt F) :=
  broadcastInDim S2048x8 ![] bcast_S_S2048x8 (val_main_c_4 (F := F))
abbrev idx_main_v27 (i : S2048x8.Idx) : S_.Idx := fun a => a.elim0
theorem val_main_v27_apply (i : S2048x8.Idx) :
    val_main_v27 (F := F) i = val_main_c_4 (F := F) (idx_main_v27 i) := by
  unfold val_main_v27
  generalize val_main_c_4 (F := F) = y
  exact broadcastInDim_apply _ bcast_S_S2048x8 y i (idx_main_v27 i) (fun a => a.elim0)

-- %28 = stablehlo.compare LT, %18, %27, SIGNED : (tensor<2048x8xi32>, tensor<2048x8xi32>) -> tensor<2048x8xi1>
def val_main_v28 (x0 : (⟨S4x512x1x64, .f32⟩ : BufTy).Contents (Elt F)) (x1 : (⟨S1x512x64, .f32⟩ : BufTy).Contents (Elt F)) : (⟨S2048x8, .i1⟩ : BufTy).Contents (Elt F) :=
  cmpi .slt (val_main_v18 (F := F) x0 x1) (val_main_v27 (F := F))
theorem val_main_v28_apply (x0 : (⟨S4x512x1x64, .f32⟩ : BufTy).Contents (Elt F)) (x1 : (⟨S1x512x64, .f32⟩ : BufTy).Contents (Elt F)) (i : S2048x8.Idx) :
    val_main_v28 (F := F) x0 x1 i = IntOp.cmpi .slt (val_main_v18 (F := F) x0 x1 i) (val_main_v27 (F := F) i) := rfl

-- %c_5 = stablehlo.constant dense<512> : tensor<i32>
def val_main_c_5 : (⟨S_, .i32⟩ : BufTy).Contents (Elt F) :=
  constantI S_ 32 512#32
theorem val_main_c_5_apply (i : S_.Idx) :
    val_main_c_5 (F := F) i = 512#32 := rfl

-- %29 = stablehlo.broadcast_in_dim %c_5, dims = [] : (tensor<i32>) -> tensor<2048x8xi32>
def val_main_v29 : (⟨S2048x8, .i32⟩ : BufTy).Contents (Elt F) :=
  broadcastInDim S2048x8 ![] bcast_S_S2048x8 (val_main_c_5 (F := F))
abbrev idx_main_v29 (i : S2048x8.Idx) : S_.Idx := fun a => a.elim0
theorem val_main_v29_apply (i : S2048x8.Idx) :
    val_main_v29 (F := F) i = val_main_c_5 (F := F) (idx_main_v29 i) := by
  unfold val_main_v29
  generalize val_main_c_5 (F := F) = y
  exact broadcastInDim_apply _ bcast_S_S2048x8 y i (idx_main_v29 i) (fun a => a.elim0)

-- %30 = stablehlo.add %18, %29 : tensor<2048x8xi32>
def val_main_v30 (x0 : (⟨S4x512x1x64, .f32⟩ : BufTy).Contents (Elt F)) (x1 : (⟨S1x512x64, .f32⟩ : BufTy).Contents (Elt F)) : (⟨S2048x8, .i32⟩ : BufTy).Contents (Elt F) :=
  addi (val_main_v18 (F := F) x0 x1) (val_main_v29 (F := F))
theorem val_main_v30_apply (x0 : (⟨S4x512x1x64, .f32⟩ : BufTy).Contents (Elt F)) (x1 : (⟨S1x512x64, .f32⟩ : BufTy).Contents (Elt F)) (i : S2048x8.Idx) :
    val_main_v30 (F := F) x0 x1 i = IntOp.addi (val_main_v18 (F := F) x0 x1 i) (val_main_v29 (F := F) i) := rfl

-- %31 = stablehlo.select %28, %30, %18 : tensor<2048x8xi1>, tensor<2048x8xi32>
def val_main_v31 (x0 : (⟨S4x512x1x64, .f32⟩ : BufTy).Contents (Elt F)) (x1 : (⟨S1x512x64, .f32⟩ : BufTy).Contents (Elt F)) : (⟨S2048x8, .i32⟩ : BufTy).Contents (Elt F) :=
  select (val_main_v28 (F := F) x0 x1) (val_main_v30 (F := F) x0 x1) (val_main_v18 (F := F) x0 x1)
theorem val_main_v31_apply (x0 : (⟨S4x512x1x64, .f32⟩ : BufTy).Contents (Elt F)) (x1 : (⟨S1x512x64, .f32⟩ : BufTy).Contents (Elt F)) (i : S2048x8.Idx) :
    val_main_v31 (F := F) x0 x1 i = Scalar.select (val_main_v28 (F := F) x0 x1 i) (val_main_v30 (F := F) x0 x1 i) (val_main_v18 (F := F) x0 x1 i) := rfl

-- %32 = stablehlo.broadcast_in_dim %26, dims = [0, 1] : (tensor<2048x1xi32>) -> tensor<2048x8xi32>
def val_main_v32 : (⟨S2048x8, .i32⟩ : BufTy).Contents (Elt F) :=
  broadcastInDim S2048x8 ![0, 1] bcast_S2048x1_S2048x8_0_1 (val_main_v26 (F := F))
abbrev idx_main_v32 (i : S2048x8.Idx) : S2048x1.Idx := fun a => match a with
  | ⟨0, _⟩ => ⟨(i 0).val, (i 0).isLt⟩
  | ⟨1, _⟩ => ⟨0, Nat.one_pos⟩
theorem val_main_v32_apply (i : S2048x8.Idx) :
    val_main_v32 (F := F) i = val_main_v26 (F := F) (idx_main_v32 i) := by
  unfold val_main_v32
  generalize val_main_v26 (F := F) = y
  exact broadcastInDim_apply _ bcast_S2048x1_S2048x8_0_1 y i (idx_main_v32 i) (fun a => match a with
    | ⟨0, _⟩ => by show (i 0).val = if (2048 : Nat) = 1 then 0 else (i 0).val; rw [if_neg (by decide)]
    | ⟨1, _⟩ => by show 0 = if (1 : Nat) = 1 then 0 else (i 1).val; rw [if_pos rfl])

-- %33 = stablehlo.broadcast_in_dim %32, dims = [0, 1] : (tensor<2048x8xi32>) -> tensor<2048x8x1xi32>
def val_main_v33 : (⟨S2048x8x1, .i32⟩ : BufTy).Contents (Elt F) :=
  broadcastInDim S2048x8x1 ![0, 1] bcast_S2048x8_S2048x8x1_0_1 (val_main_v32 (F := F))
abbrev idx_main_v33 (i : S2048x8x1.Idx) : S2048x8.Idx := fun a => match a with
  | ⟨0, _⟩ => ⟨(i 0).val, (i 0).isLt⟩
  | ⟨1, _⟩ => ⟨(i 1).val, (i 1).isLt⟩
theorem val_main_v33_apply (i : S2048x8x1.Idx) :
    val_main_v33 (F := F) i = val_main_v32 (F := F) (idx_main_v33 i) := by
  unfold val_main_v33
  generalize val_main_v32 (F := F) = y
  exact broadcastInDim_apply _ bcast_S2048x8_S2048x8x1_0_1 y i (idx_main_v33 i) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)])

-- %34 = stablehlo.broadcast_in_dim %31, dims = [0, 1] : (tensor<2048x8xi32>) -> tensor<2048x8x1xi32>
def val_main_v34 (x0 : (⟨S4x512x1x64, .f32⟩ : BufTy).Contents (Elt F)) (x1 : (⟨S1x512x64, .f32⟩ : BufTy).Contents (Elt F)) : (⟨S2048x8x1, .i32⟩ : BufTy).Contents (Elt F) :=
  broadcastInDim S2048x8x1 ![0, 1] bcast_S2048x8_S2048x8x1_0_1 (val_main_v31 (F := F) x0 x1)
abbrev idx_main_v34 (i : S2048x8x1.Idx) : S2048x8.Idx := fun a => match a with
  | ⟨0, _⟩ => ⟨(i 0).val, (i 0).isLt⟩
  | ⟨1, _⟩ => ⟨(i 1).val, (i 1).isLt⟩
theorem val_main_v34_apply (x0 : (⟨S4x512x1x64, .f32⟩ : BufTy).Contents (Elt F)) (x1 : (⟨S1x512x64, .f32⟩ : BufTy).Contents (Elt F)) (i : S2048x8x1.Idx) :
    val_main_v34 (F := F) x0 x1 i = val_main_v31 (F := F) x0 x1 (idx_main_v34 i) := by
  unfold val_main_v34
  generalize val_main_v31 (F := F) x0 x1 = y
  exact broadcastInDim_apply _ bcast_S2048x8_S2048x8x1_0_1 y i (idx_main_v34 i) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)])

-- %35 = stablehlo.concatenate %33, %34, dim = 2 : (tensor<2048x8x1xi32>, tensor<2048x8x1xi32>) -> tensor<2048x8x2xi32>
def val_main_v35 (x0 : (⟨S4x512x1x64, .f32⟩ : BufTy).Contents (Elt F)) (x1 : (⟨S1x512x64, .f32⟩ : BufTy).Contents (Elt F)) : (⟨S2048x8x2, .i32⟩ : BufTy).Contents (Elt F) :=
  concatenate S2048x8x2 2 [⟨S2048x8x1, (val_main_v33 (F := F))⟩, ⟨S2048x8x1, (val_main_v34 (F := F) x0 x1)⟩] concatenates_S2048x8x1_S2048x8x1_S2048x8x2_d2

-- %cst_6 = stablehlo.constant dense<1.000000e+00> : tensor<f32>
def val_main_cst_6 : (⟨S_, .f32⟩ : BufTy).Contents (Elt F) :=
  constant S_ .f32 0x3F800000#32
theorem val_main_cst_6_apply (i : S_.Idx) :
    val_main_cst_6 (F := F) i = FloatOps.ofBits .f32 0x3F800000#32 := rfl

-- %36 = stablehlo.broadcast_in_dim %cst_6, dims = [] : (tensor<f32>) -> tensor<2048x8xf32>
def val_main_v36 : (⟨S2048x8, .f32⟩ : BufTy).Contents (Elt F) :=
  broadcastInDim S2048x8 ![] bcast_S_S2048x8 (val_main_cst_6 (F := F))
abbrev idx_main_v36 (i : S2048x8.Idx) : S_.Idx := fun a => a.elim0
theorem val_main_v36_apply (i : S2048x8.Idx) :
    val_main_v36 (F := F) i = val_main_cst_6 (F := F) (idx_main_v36 i) := by
  unfold val_main_v36
  generalize val_main_cst_6 (F := F) = y
  exact broadcastInDim_apply _ bcast_S_S2048x8 y i (idx_main_v36 i) (fun a => a.elim0)

-- %37 = "stablehlo.scatter"(%19, %35, %36) <{indices_are_sorted = false, scatter_dimension_numbers = #stablehlo.scatter<inserted_window_dims = [0, 1], scatter_dims_to_operand_dims = [0, 1], index_vector_dim = 2>, unique_indices = false}> ( {
def val_main_v37 (x0 : (⟨S4x512x1x64, .f32⟩ : BufTy).Contents (Elt F)) (x1 : (⟨S1x512x64, .f32⟩ : BufTy).Contents (Elt F)) : (⟨S2048x512, .f32⟩ : BufTy).Contents (Elt F) :=
  Host.scatter scatter_S2048x512_S2048x8x2_S2048x8_n_01_01_2 (fun _ b => b) (val_main_v19 (F := F)) (val_main_v35 (F := F) x0 x1) (val_main_v36 (F := F))

-- %38 = stablehlo.reshape %5 : (tensor<2048x1x512xf32>) -> tensor<2048x512xf32>
def val_main_v38 (x0 : (⟨S4x512x1x64, .f32⟩ : BufTy).Contents (Elt F)) (x1 : (⟨S1x512x64, .f32⟩ : BufTy).Contents (Elt F)) : (⟨S2048x512, .f32⟩ : BufTy).Contents (Elt F) :=
  shapeCast _ (val_main_v5 (F := F) x0 x1) shapeCasts_S2048x1x512_S2048x512
set_option backward.proofsInPublic true in
abbrev idx_main_v38 (i : S2048x512.Idx) : S2048x1x512.Idx := fun a => match a with
  | ⟨0, _⟩ => ⟨((i 0).val * 512 + (i 1).val) / 512, by have h0 : (i 0).val < 2048 := (i 0).isLt; have h1 : (i 1).val < 512 := (i 1).isLt; show ((i 0).val * 512 + (i 1).val) / 512 < 2048; omega⟩
  | ⟨1, _⟩ => ⟨0, Nat.one_pos⟩
  | ⟨2, _⟩ => ⟨((i 0).val * 512 + (i 1).val) % 512, by have h0 : (i 0).val < 2048 := (i 0).isLt; have h1 : (i 1).val < 512 := (i 1).isLt; show ((i 0).val * 512 + (i 1).val) % 512 < 512; omega⟩
theorem val_main_v38_apply (x0 : (⟨S4x512x1x64, .f32⟩ : BufTy).Contents (Elt F)) (x1 : (⟨S1x512x64, .f32⟩ : BufTy).Contents (Elt F)) (i : S2048x512.Idx) :
    val_main_v38 (F := F) x0 x1 i = val_main_v5 (F := F) x0 x1 (idx_main_v38 i) := by
  unfold val_main_v38
  generalize val_main_v5 (F := F) x0 x1 = y
  exact shapeCast_apply y shapeCasts_S2048x1x512_S2048x512 i (idx_main_v38 i)
    (by rewrite [Shape.rowMajor_val_three, Shape.rowMajor_val_two]; have h0 : (i 0).val < 2048 := (i 0).isLt; have h1 : (i 1).val < 512 := (i 1).isLt; show (((i 0).val * 512 + (i 1).val) / 512 * 1 + 0) * 512 + ((i 0).val * 512 + (i 1).val) % 512 = (i 0).val * 512 + (i 1).val; omega)

-- %cst_7 = stablehlo.constant dense<1.000000e+00> : tensor<f32>
def val_main_cst_7 : (⟨S_, .f32⟩ : BufTy).Contents (Elt F) :=
  constant S_ .f32 0x3F800000#32
theorem val_main_cst_7_apply (i : S_.Idx) :
    val_main_cst_7 (F := F) i = FloatOps.ofBits .f32 0x3F800000#32 := rfl

-- %39 = stablehlo.broadcast_in_dim %cst_7, dims = [] : (tensor<f32>) -> tensor<2048x512xf32>
def val_main_v39 : (⟨S2048x512, .f32⟩ : BufTy).Contents (Elt F) :=
  broadcastInDim S2048x512 ![] bcast_S_S2048x512 (val_main_cst_7 (F := F))
abbrev idx_main_v39 (i : S2048x512.Idx) : S_.Idx := fun a => a.elim0
theorem val_main_v39_apply (i : S2048x512.Idx) :
    val_main_v39 (F := F) i = val_main_cst_7 (F := F) (idx_main_v39 i) := by
  unfold val_main_v39
  generalize val_main_cst_7 (F := F) = y
  exact broadcastInDim_apply _ bcast_S_S2048x512 y i (idx_main_v39 i) (fun a => a.elim0)

-- %40 = stablehlo.divide %39, %38 : tensor<2048x512xf32>
def val_main_v40 (x0 : (⟨S4x512x1x64, .f32⟩ : BufTy).Contents (Elt F)) (x1 : (⟨S1x512x64, .f32⟩ : BufTy).Contents (Elt F)) : (⟨S2048x512, .f32⟩ : BufTy).Contents (Elt F) :=
  Host.divf (val_main_v39 (F := F)) (val_main_v38 (F := F) x0 x1)
theorem val_main_v40_apply (x0 : (⟨S4x512x1x64, .f32⟩ : BufTy).Contents (Elt F)) (x1 : (⟨S1x512x64, .f32⟩ : BufTy).Contents (Elt F)) (i : S2048x512.Idx) :
    val_main_v40 (F := F) x0 x1 i = FloatOps.hostDivf (val_main_v39 (F := F) i) (val_main_v38 (F := F) x0 x1 i) := rfl

-- %41 = stablehlo.multiply %37, %40 : tensor<2048x512xf32>
def val_main_v41 (x0 : (⟨S4x512x1x64, .f32⟩ : BufTy).Contents (Elt F)) (x1 : (⟨S1x512x64, .f32⟩ : BufTy).Contents (Elt F)) : (⟨S2048x512, .f32⟩ : BufTy).Contents (Elt F) :=
  mulf (val_main_v37 (F := F) x0 x1) (val_main_v40 (F := F) x0 x1)
theorem val_main_v41_apply (x0 : (⟨S4x512x1x64, .f32⟩ : BufTy).Contents (Elt F)) (x1 : (⟨S1x512x64, .f32⟩ : BufTy).Contents (Elt F)) (i : S2048x512.Idx) :
    val_main_v41 (F := F) x0 x1 i = FloatOps.mulf (val_main_v37 (F := F) x0 x1 i) (val_main_v40 (F := F) x0 x1 i) := rfl

-- %42 = stablehlo.negate %41 : tensor<2048x512xf32>
def val_main_v42 (x0 : (⟨S4x512x1x64, .f32⟩ : BufTy).Contents (Elt F)) (x1 : (⟨S1x512x64, .f32⟩ : BufTy).Contents (Elt F)) : (⟨S2048x512, .f32⟩ : BufTy).Contents (Elt F) :=
  Host.negf (val_main_v41 (F := F) x0 x1)
theorem val_main_v42_apply (x0 : (⟨S4x512x1x64, .f32⟩ : BufTy).Contents (Elt F)) (x1 : (⟨S1x512x64, .f32⟩ : BufTy).Contents (Elt F)) (i : S2048x512.Idx) :
    val_main_v42 (F := F) x0 x1 i = FloatOps.hostNegf (val_main_v41 (F := F) x0 x1 i) := rfl

-- @argsort's %0 = stablehlo.iota dim = 1 : tensor<2048x512xi32>, in %43 = func.call @argsort(…) (record main_call3)
def val_main_call3_v0 : (⟨S2048x512, .i32⟩ : BufTy).Contents (Elt F) :=
  iotaInDim S2048x512 32 1
theorem val_main_call3_v0_apply (i : S2048x512.Idx) :
    val_main_call3_v0 (F := F) i = BitVec.ofNat 32 (i 1).val := rfl

-- @argsort's %1:2 = "stablehlo.sort"(%arg0, %0) <{dimension = 1 : i64, is_stable = true}> ( {, in %43 = func.call @argsort(…) (record main_call3)
def val_main_call3_v1_0 (x0 : (⟨S4x512x1x64, .f32⟩ : BufTy).Contents (Elt F)) (x1 : (⟨S1x512x64, .f32⟩ : BufTy).Contents (Elt F)) : (⟨S2048x512, .f32⟩ : BufTy).Contents (Elt F) :=
  (Host.sort2 S2048x512 1 comparator_f32_i32_d1 (val_main_v42 (F := F) x0 x1) (val_main_call3_v0 (F := F))).1

-- %43 = func.call @argsort(…) (record main_call3) result 0: @argsort's %1:2 = "stablehlo.sort"(%arg0, %0) <{dimension = 1 : i64, is_stable = true}> ( {
def val_main_v43 (x0 : (⟨S4x512x1x64, .f32⟩ : BufTy).Contents (Elt F)) (x1 : (⟨S1x512x64, .f32⟩ : BufTy).Contents (Elt F)) : (⟨S2048x512, .i32⟩ : BufTy).Contents (Elt F) :=
  (Host.sort2 S2048x512 1 comparator_f32_i32_d1 (val_main_v42 (F := F) x0 x1) (val_main_call3_v0 (F := F))).2

-- @take_along_axis's %c = stablehlo.constant dense<0> : tensor<i32>, in %44 = func.call @take_along_axis(…) (record main_call4)
def val_main_call4_c : (⟨S_, .i32⟩ : BufTy).Contents (Elt F) :=
  constantI S_ 32 0#32
theorem val_main_call4_c_apply (i : S_.Idx) :
    val_main_call4_c (F := F) i = 0#32 := rfl

-- @take_along_axis's %0 = stablehlo.broadcast_in_dim %c, dims = [] : (tensor<i32>) -> tensor<2048x512xi32>, in %44 = func.call @take_along_axis(…) (record main_call4)
def val_main_call4_v0 : (⟨S2048x512, .i32⟩ : BufTy).Contents (Elt F) :=
  broadcastInDim S2048x512 ![] bcast_S_S2048x512 (val_main_call4_c (F := F))
abbrev idx_main_call4_v0 (i : S2048x512.Idx) : S_.Idx := fun a => a.elim0
theorem val_main_call4_v0_apply (i : S2048x512.Idx) :
    val_main_call4_v0 (F := F) i = val_main_call4_c (F := F) (idx_main_call4_v0 i) := by
  unfold val_main_call4_v0
  generalize val_main_call4_c (F := F) = y
  exact broadcastInDim_apply _ bcast_S_S2048x512 y i (idx_main_call4_v0 i) (fun a => a.elim0)

-- @take_along_axis's %1 = stablehlo.compare LT, %arg1, %0, SIGNED : (tensor<2048x512xi32>, tensor<2048x512xi32>) -> tensor<2048x512xi1>, in %44 = func.call @take_along_axis(…) (record main_call4)
def val_main_call4_v1 (x0 : (⟨S4x512x1x64, .f32⟩ : BufTy).Contents (Elt F)) (x1 : (⟨S1x512x64, .f32⟩ : BufTy).Contents (Elt F)) : (⟨S2048x512, .i1⟩ : BufTy).Contents (Elt F) :=
  cmpi .slt (val_main_v43 (F := F) x0 x1) (val_main_call4_v0 (F := F))
theorem val_main_call4_v1_apply (x0 : (⟨S4x512x1x64, .f32⟩ : BufTy).Contents (Elt F)) (x1 : (⟨S1x512x64, .f32⟩ : BufTy).Contents (Elt F)) (i : S2048x512.Idx) :
    val_main_call4_v1 (F := F) x0 x1 i = IntOp.cmpi .slt (val_main_v43 (F := F) x0 x1 i) (val_main_call4_v0 (F := F) i) := rfl

-- @take_along_axis's %c_0 = stablehlo.constant dense<512> : tensor<i32>, in %44 = func.call @take_along_axis(…) (record main_call4)
def val_main_call4_c_0 : (⟨S_, .i32⟩ : BufTy).Contents (Elt F) :=
  constantI S_ 32 512#32
theorem val_main_call4_c_0_apply (i : S_.Idx) :
    val_main_call4_c_0 (F := F) i = 512#32 := rfl

-- @take_along_axis's %2 = stablehlo.broadcast_in_dim %c_0, dims = [] : (tensor<i32>) -> tensor<2048x512xi32>, in %44 = func.call @take_along_axis(…) (record main_call4)
def val_main_call4_v2 : (⟨S2048x512, .i32⟩ : BufTy).Contents (Elt F) :=
  broadcastInDim S2048x512 ![] bcast_S_S2048x512 (val_main_call4_c_0 (F := F))
abbrev idx_main_call4_v2 (i : S2048x512.Idx) : S_.Idx := fun a => a.elim0
theorem val_main_call4_v2_apply (i : S2048x512.Idx) :
    val_main_call4_v2 (F := F) i = val_main_call4_c_0 (F := F) (idx_main_call4_v2 i) := by
  unfold val_main_call4_v2
  generalize val_main_call4_c_0 (F := F) = y
  exact broadcastInDim_apply _ bcast_S_S2048x512 y i (idx_main_call4_v2 i) (fun a => a.elim0)

-- @take_along_axis's %3 = stablehlo.add %arg1, %2 : tensor<2048x512xi32>, in %44 = func.call @take_along_axis(…) (record main_call4)
def val_main_call4_v3 (x0 : (⟨S4x512x1x64, .f32⟩ : BufTy).Contents (Elt F)) (x1 : (⟨S1x512x64, .f32⟩ : BufTy).Contents (Elt F)) : (⟨S2048x512, .i32⟩ : BufTy).Contents (Elt F) :=
  addi (val_main_v43 (F := F) x0 x1) (val_main_call4_v2 (F := F))
theorem val_main_call4_v3_apply (x0 : (⟨S4x512x1x64, .f32⟩ : BufTy).Contents (Elt F)) (x1 : (⟨S1x512x64, .f32⟩ : BufTy).Contents (Elt F)) (i : S2048x512.Idx) :
    val_main_call4_v3 (F := F) x0 x1 i = IntOp.addi (val_main_v43 (F := F) x0 x1 i) (val_main_call4_v2 (F := F) i) := rfl

-- @take_along_axis's %4 = stablehlo.select %1, %3, %arg1 : tensor<2048x512xi1>, tensor<2048x512xi32>, in %44 = func.call @take_along_axis(…) (record main_call4)
def val_main_call4_v4 (x0 : (⟨S4x512x1x64, .f32⟩ : BufTy).Contents (Elt F)) (x1 : (⟨S1x512x64, .f32⟩ : BufTy).Contents (Elt F)) : (⟨S2048x512, .i32⟩ : BufTy).Contents (Elt F) :=
  select (val_main_call4_v1 (F := F) x0 x1) (val_main_call4_v3 (F := F) x0 x1) (val_main_v43 (F := F) x0 x1)
theorem val_main_call4_v4_apply (x0 : (⟨S4x512x1x64, .f32⟩ : BufTy).Contents (Elt F)) (x1 : (⟨S1x512x64, .f32⟩ : BufTy).Contents (Elt F)) (i : S2048x512.Idx) :
    val_main_call4_v4 (F := F) x0 x1 i = Scalar.select (val_main_call4_v1 (F := F) x0 x1 i) (val_main_call4_v3 (F := F) x0 x1 i) (val_main_v43 (F := F) x0 x1 i) := rfl

-- @take_along_axis's %5 = stablehlo.reshape %4 : (tensor<2048x512xi32>) -> tensor<2048x512x1xi32>, in %44 = func.call @take_along_axis(…) (record main_call4)
def val_main_call4_v5 (x0 : (⟨S4x512x1x64, .f32⟩ : BufTy).Contents (Elt F)) (x1 : (⟨S1x512x64, .f32⟩ : BufTy).Contents (Elt F)) : (⟨S2048x512x1, .i32⟩ : BufTy).Contents (Elt F) :=
  shapeCast _ (val_main_call4_v4 (F := F) x0 x1) shapeCasts_S2048x512_S2048x512x1
set_option backward.proofsInPublic true in
abbrev idx_main_call4_v5 (i : S2048x512x1.Idx) : S2048x512.Idx := fun a => match a with
  | ⟨0, _⟩ => ⟨(((i 0).val * 512 + (i 1).val) * 1 + (i 2).val) / 512, by have h0 : (i 0).val < 2048 := (i 0).isLt; have h1 : (i 1).val < 512 := (i 1).isLt; have h2 : (i 2).val < 1 := (i 2).isLt; show (((i 0).val * 512 + (i 1).val) * 1 + (i 2).val) / 512 < 2048; omega⟩
  | ⟨1, _⟩ => ⟨(((i 0).val * 512 + (i 1).val) * 1 + (i 2).val) % 512, by have h0 : (i 0).val < 2048 := (i 0).isLt; have h1 : (i 1).val < 512 := (i 1).isLt; have h2 : (i 2).val < 1 := (i 2).isLt; show (((i 0).val * 512 + (i 1).val) * 1 + (i 2).val) % 512 < 512; omega⟩
theorem val_main_call4_v5_apply (x0 : (⟨S4x512x1x64, .f32⟩ : BufTy).Contents (Elt F)) (x1 : (⟨S1x512x64, .f32⟩ : BufTy).Contents (Elt F)) (i : S2048x512x1.Idx) :
    val_main_call4_v5 (F := F) x0 x1 i = val_main_call4_v4 (F := F) x0 x1 (idx_main_call4_v5 i) := by
  unfold val_main_call4_v5
  generalize val_main_call4_v4 (F := F) x0 x1 = y
  exact shapeCast_apply y shapeCasts_S2048x512_S2048x512x1 i (idx_main_call4_v5 i)
    (by rewrite [Shape.rowMajor_val_two, Shape.rowMajor_val_three]; have h0 : (i 0).val < 2048 := (i 0).isLt; have h1 : (i 1).val < 512 := (i 1).isLt; have h2 : (i 2).val < 1 := (i 2).isLt; show (((i 0).val * 512 + (i 1).val) * 1 + (i 2).val) / 512 * 512 + (((i 0).val * 512 + (i 1).val) * 1 + (i 2).val) % 512 = ((i 0).val * 512 + (i 1).val) * 1 + (i 2).val; omega)

-- @take_along_axis's %c_1 = stablehlo.constant dense<511> : tensor<1xi32>, in %44 = func.call @take_along_axis(…) (record main_call4)
def val_main_call4_c_1 : (⟨S1, .i32⟩ : BufTy).Contents (Elt F) :=
  constantI S1 32 511#32
theorem val_main_call4_c_1_apply (i : S1.Idx) :
    val_main_call4_c_1 (F := F) i = 511#32 := rfl

-- @take_along_axis's %c_2 = stablehlo.constant dense<0> : tensor<i32>, in %44 = func.call @take_along_axis(…) (record main_call4)
def val_main_call4_c_2 : (⟨S_, .i32⟩ : BufTy).Contents (Elt F) :=
  constantI S_ 32 0#32
theorem val_main_call4_c_2_apply (i : S_.Idx) :
    val_main_call4_c_2 (F := F) i = 0#32 := rfl

-- @take_along_axis's %6 = stablehlo.broadcast_in_dim %c_2, dims = [] : (tensor<i32>) -> tensor<2048x512x1xi32>, in %44 = func.call @take_along_axis(…) (record main_call4)
def val_main_call4_v6 : (⟨S2048x512x1, .i32⟩ : BufTy).Contents (Elt F) :=
  broadcastInDim S2048x512x1 ![] bcast_S_S2048x512x1 (val_main_call4_c_2 (F := F))
abbrev idx_main_call4_v6 (i : S2048x512x1.Idx) : S_.Idx := fun a => a.elim0
theorem val_main_call4_v6_apply (i : S2048x512x1.Idx) :
    val_main_call4_v6 (F := F) i = val_main_call4_c_2 (F := F) (idx_main_call4_v6 i) := by
  unfold val_main_call4_v6
  generalize val_main_call4_c_2 (F := F) = y
  exact broadcastInDim_apply _ bcast_S_S2048x512x1 y i (idx_main_call4_v6 i) (fun a => a.elim0)

-- @take_along_axis's %7 = stablehlo.compare GE, %5, %6, SIGNED : (tensor<2048x512x1xi32>, tensor<2048x512x1xi32>) -> tensor<2048x512x1xi1>, in %44 = func.call @take_along_axis(…) (record main_call4)
def val_main_call4_v7 (x0 : (⟨S4x512x1x64, .f32⟩ : BufTy).Contents (Elt F)) (x1 : (⟨S1x512x64, .f32⟩ : BufTy).Contents (Elt F)) : (⟨S2048x512x1, .i1⟩ : BufTy).Contents (Elt F) :=
  cmpi .sge (val_main_call4_v5 (F := F) x0 x1) (val_main_call4_v6 (F := F))
theorem val_main_call4_v7_apply (x0 : (⟨S4x512x1x64, .f32⟩ : BufTy).Contents (Elt F)) (x1 : (⟨S1x512x64, .f32⟩ : BufTy).Contents (Elt F)) (i : S2048x512x1.Idx) :
    val_main_call4_v7 (F := F) x0 x1 i = IntOp.cmpi .sge (val_main_call4_v5 (F := F) x0 x1 i) (val_main_call4_v6 (F := F) i) := rfl

-- @take_along_axis's %8 = stablehlo.broadcast_in_dim %c_1, dims = [2] : (tensor<1xi32>) -> tensor<1x1x1xi32>, in %44 = func.call @take_along_axis(…) (record main_call4)
def val_main_call4_v8 : (⟨S1x1x1, .i32⟩ : BufTy).Contents (Elt F) :=
  broadcastInDim S1x1x1 ![2] bcast_S1_S1x1x1_2 (val_main_call4_c_1 (F := F))
abbrev idx_main_call4_v8 (i : S1x1x1.Idx) : S1.Idx := fun a => match a with
  | ⟨0, _⟩ => ⟨0, Nat.one_pos⟩
theorem val_main_call4_v8_apply (i : S1x1x1.Idx) :
    val_main_call4_v8 (F := F) i = val_main_call4_c_1 (F := F) (idx_main_call4_v8 i) := by
  unfold val_main_call4_v8
  generalize val_main_call4_c_1 (F := F) = y
  exact broadcastInDim_apply _ bcast_S1_S1x1x1_2 y i (idx_main_call4_v8 i) (fun a => match a with
    | ⟨0, _⟩ => by show 0 = if (1 : Nat) = 1 then 0 else (i 2).val; rw [if_pos rfl])

-- @take_along_axis's %9 = stablehlo.broadcast_in_dim %8, dims = [0, 1, 2] : (tensor<1x1x1xi32>) -> tensor<2048x512x1xi32>, in %44 = func.call @take_along_axis(…) (record main_call4)
def val_main_call4_v9 : (⟨S2048x512x1, .i32⟩ : BufTy).Contents (Elt F) :=
  broadcastInDim S2048x512x1 ![0, 1, 2] bcast_S1x1x1_S2048x512x1_0_1_2 (val_main_call4_v8 (F := F))
abbrev idx_main_call4_v9 (i : S2048x512x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call4_v9_apply (i : S2048x512x1.Idx) :
    val_main_call4_v9 (F := F) i = val_main_call4_v8 (F := F) (idx_main_call4_v9 i) := by
  unfold val_main_call4_v9
  generalize val_main_call4_v8 (F := F) = y
  exact broadcastInDim_apply _ bcast_S1x1x1_S2048x512x1_0_1_2 y i (idx_main_call4_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @take_along_axis's %10 = stablehlo.compare LE, %5, %9, SIGNED : (tensor<2048x512x1xi32>, tensor<2048x512x1xi32>) -> tensor<2048x512x1xi1>, in %44 = func.call @take_along_axis(…) (record main_call4)
def val_main_call4_v10 (x0 : (⟨S4x512x1x64, .f32⟩ : BufTy).Contents (Elt F)) (x1 : (⟨S1x512x64, .f32⟩ : BufTy).Contents (Elt F)) : (⟨S2048x512x1, .i1⟩ : BufTy).Contents (Elt F) :=
  cmpi .sle (val_main_call4_v5 (F := F) x0 x1) (val_main_call4_v9 (F := F))
theorem val_main_call4_v10_apply (x0 : (⟨S4x512x1x64, .f32⟩ : BufTy).Contents (Elt F)) (x1 : (⟨S1x512x64, .f32⟩ : BufTy).Contents (Elt F)) (i : S2048x512x1.Idx) :
    val_main_call4_v10 (F := F) x0 x1 i = IntOp.cmpi .sle (val_main_call4_v5 (F := F) x0 x1 i) (val_main_call4_v9 (F := F) i) := rfl

-- @take_along_axis's %11 = stablehlo.and %7, %10 : tensor<2048x512x1xi1>, in %44 = func.call @take_along_axis(…) (record main_call4)
def val_main_call4_v11 (x0 : (⟨S4x512x1x64, .f32⟩ : BufTy).Contents (Elt F)) (x1 : (⟨S1x512x64, .f32⟩ : BufTy).Contents (Elt F)) : (⟨S2048x512x1, .i1⟩ : BufTy).Contents (Elt F) :=
  andi (val_main_call4_v7 (F := F) x0 x1) (val_main_call4_v10 (F := F) x0 x1)
theorem val_main_call4_v11_apply (x0 : (⟨S4x512x1x64, .f32⟩ : BufTy).Contents (Elt F)) (x1 : (⟨S1x512x64, .f32⟩ : BufTy).Contents (Elt F)) (i : S2048x512x1.Idx) :
    val_main_call4_v11 (F := F) x0 x1 i = IntOp.andi (val_main_call4_v7 (F := F) x0 x1 i) (val_main_call4_v10 (F := F) x0 x1 i) := rfl

-- @take_along_axis's %c_3 = stablehlo.constant dense<true> : tensor<i1>, in %44 = func.call @take_along_axis(…) (record main_call4)
def val_main_call4_c_3 : (⟨S_, .i1⟩ : BufTy).Contents (Elt F) :=
  constantI S_ 1 1#1
theorem val_main_call4_c_3_apply (i : S_.Idx) :
    val_main_call4_c_3 (F := F) i = 1#1 := rfl

-- @take_along_axis's %12 = stablehlo.reduce(%11 init: %c_3) applies stablehlo.and across dimensions = [2] : (tensor<2048x512x1xi1>, tensor<i1>) -> tensor<2048x512xi1> {, in %44 = func.call @take_along_axis(…) (record main_call4)
def val_main_call4_v12 (x0 : (⟨S4x512x1x64, .f32⟩ : BufTy).Contents (Elt F)) (x1 : (⟨S1x512x64, .f32⟩ : BufTy).Contents (Elt F)) : (⟨S2048x512, .i1⟩ : BufTy).Contents (Elt F) :=
  Host.reduce IntOp.andi (val_main_call4_v11 (F := F) x0 x1) (val_main_call4_c_3 (F := F)) reducesTo_S2048x512x1_S2048x512_d2 h_S_

-- @take_along_axis's %13 = "stablehlo.gather"(%arg0, %5) <{dimension_numbers = #stablehlo.gather<collapsed_slice_dims = [1], operand_batching_dims = [0], start_indices_batching_dims = [0], start_index_map = [1], index_vector_dim = 2>, indices_are_sorted = false, slice_sizes = array<i64: 1, 1>}> : (tensor<2048x512xf32>, tensor<2048x512x1xi32>) -> tensor<2048x512xf32>, in %44 = func.call @take_along_axis(…) (record main_call4)
def val_main_call4_v13 (x0 : (⟨S4x512x1x64, .f32⟩ : BufTy).Contents (Elt F)) (x1 : (⟨S1x512x64, .f32⟩ : BufTy).Contents (Elt F)) : (⟨S2048x512, .f32⟩ : BufTy).Contents (Elt F) :=
  Host.gather gather_S2048x512_S2048x512x1_S2048x512_n_1_0_0_1_2_11 (val_main_v41 (F := F) x0 x1) (val_main_call4_v5 (F := F) x0 x1)

-- @take_along_axis's %cst = stablehlo.constant dense<0x7FC00000> : tensor<f32>, in %44 = func.call @take_along_axis(…) (record main_call4)
def val_main_call4_cst : (⟨S_, .f32⟩ : BufTy).Contents (Elt F) :=
  constant S_ .f32 0x7FC00000#32
theorem val_main_call4_cst_apply (i : S_.Idx) :
    val_main_call4_cst (F := F) i = FloatOps.ofBits .f32 0x7FC00000#32 := rfl

-- @take_along_axis's %14 = stablehlo.broadcast_in_dim %cst, dims = [] : (tensor<f32>) -> tensor<2048x512xf32>, in %44 = func.call @take_along_axis(…) (record main_call4)
def val_main_call4_v14 : (⟨S2048x512, .f32⟩ : BufTy).Contents (Elt F) :=
  broadcastInDim S2048x512 ![] bcast_S_S2048x512 (val_main_call4_cst (F := F))
abbrev idx_main_call4_v14 (i : S2048x512.Idx) : S_.Idx := fun a => a.elim0
theorem val_main_call4_v14_apply (i : S2048x512.Idx) :
    val_main_call4_v14 (F := F) i = val_main_call4_cst (F := F) (idx_main_call4_v14 i) := by
  unfold val_main_call4_v14
  generalize val_main_call4_cst (F := F) = y
  exact broadcastInDim_apply _ bcast_S_S2048x512 y i (idx_main_call4_v14 i) (fun a => a.elim0)

-- %44 = func.call @take_along_axis(…) (record main_call4) result 0: @take_along_axis's %15 = stablehlo.select %12, %13, %14 : tensor<2048x512xi1>, tensor<2048x512xf32>
def val_main_v44 (x0 : (⟨S4x512x1x64, .f32⟩ : BufTy).Contents (Elt F)) (x1 : (⟨S1x512x64, .f32⟩ : BufTy).Contents (Elt F)) : (⟨S2048x512, .f32⟩ : BufTy).Contents (Elt F) :=
  select (val_main_call4_v12 (F := F) x0 x1) (val_main_call4_v13 (F := F) x0 x1) (val_main_call4_v14 (F := F))
theorem val_main_v44_apply (x0 : (⟨S4x512x1x64, .f32⟩ : BufTy).Contents (Elt F)) (x1 : (⟨S1x512x64, .f32⟩ : BufTy).Contents (Elt F)) (i : S2048x512.Idx) :
    val_main_v44 (F := F) x0 x1 i = Scalar.select (val_main_call4_v12 (F := F) x0 x1 i) (val_main_call4_v13 (F := F) x0 x1 i) (val_main_call4_v14 (F := F) i) := rfl

-- %45 = stablehlo.slice %44 [0:2048, 0:8] : (tensor<2048x512xf32>) -> tensor<2048x8xf32>
def val_main_v45 (x0 : (⟨S4x512x1x64, .f32⟩ : BufTy).Contents (Elt F)) (x1 : (⟨S1x512x64, .f32⟩ : BufTy).Contents (Elt F)) : (⟨S2048x8, .f32⟩ : BufTy).Contents (Elt F) :=
  extractStridedSlice S2048x8 ![0, 0] (val_main_v44 (F := F) x0 x1) slices_S2048x512_S2048x8_0_0
set_option backward.proofsInPublic true in
abbrev idx_main_v45 (i : S2048x8.Idx) : S2048x512.Idx := fun a => match a with
  | ⟨0, _⟩ => ⟨(i 0).val, (i 0).isLt⟩
  | ⟨1, _⟩ => ⟨(i 1).val, by have h1 : (i 1).val < 8 := (i 1).isLt; show (i 1).val < 512; omega⟩
theorem val_main_v45_apply (x0 : (⟨S4x512x1x64, .f32⟩ : BufTy).Contents (Elt F)) (x1 : (⟨S1x512x64, .f32⟩ : BufTy).Contents (Elt F)) (i : S2048x8.Idx) :
    val_main_v45 (F := F) x0 x1 i = val_main_v44 (F := F) x0 x1 (idx_main_v45 i) := by
  unfold val_main_v45
  generalize val_main_v44 (F := F) x0 x1 = y
  exact extractStridedSlice_apply ![0, 0] y slices_S2048x512_S2048x8_0_0 i (idx_main_v45 i) (fun a => match a with
    | ⟨0, _⟩ => by show (i 0).val = 0 + (i 0).val; omega
    | ⟨1, _⟩ => by show (i 1).val = 0 + (i 1).val; omega)

-- %46 = stablehlo.slice %43 [0:2048, 0:8] : (tensor<2048x512xi32>) -> tensor<2048x8xi32>
def val_main_v46 (x0 : (⟨S4x512x1x64, .f32⟩ : BufTy).Contents (Elt F)) (x1 : (⟨S1x512x64, .f32⟩ : BufTy).Contents (Elt F)) : (⟨S2048x8, .i32⟩ : BufTy).Contents (Elt F) :=
  extractStridedSlice S2048x8 ![0, 0] (val_main_v43 (F := F) x0 x1) slices_S2048x512_S2048x8_0_0
set_option backward.proofsInPublic true in
abbrev idx_main_v46 (i : S2048x8.Idx) : S2048x512.Idx := fun a => match a with
  | ⟨0, _⟩ => ⟨(i 0).val, (i 0).isLt⟩
  | ⟨1, _⟩ => ⟨(i 1).val, by have h1 : (i 1).val < 8 := (i 1).isLt; show (i 1).val < 512; omega⟩
theorem val_main_v46_apply (x0 : (⟨S4x512x1x64, .f32⟩ : BufTy).Contents (Elt F)) (x1 : (⟨S1x512x64, .f32⟩ : BufTy).Contents (Elt F)) (i : S2048x8.Idx) :
    val_main_v46 (F := F) x0 x1 i = val_main_v43 (F := F) x0 x1 (idx_main_v46 i) := by
  unfold val_main_v46
  generalize val_main_v43 (F := F) x0 x1 = y
  exact extractStridedSlice_apply ![0, 0] y slices_S2048x512_S2048x8_0_0 i (idx_main_v46 i) (fun a => match a with
    | ⟨0, _⟩ => by show (i 0).val = 0 + (i 0).val; omega
    | ⟨1, _⟩ => by show (i 1).val = 0 + (i 1).val; omega)

-- %47 = stablehlo.abs %45 : tensor<2048x8xf32>
def val_main_v47 (x0 : (⟨S4x512x1x64, .f32⟩ : BufTy).Contents (Elt F)) (x1 : (⟨S1x512x64, .f32⟩ : BufTy).Contents (Elt F)) : (⟨S2048x8, .f32⟩ : BufTy).Contents (Elt F) :=
  Host.absf (val_main_v45 (F := F) x0 x1)
theorem val_main_v47_apply (x0 : (⟨S4x512x1x64, .f32⟩ : BufTy).Contents (Elt F)) (x1 : (⟨S1x512x64, .f32⟩ : BufTy).Contents (Elt F)) (i : S2048x8.Idx) :
    val_main_v47 (F := F) x0 x1 i = FloatOps.hostAbsf (val_main_v45 (F := F) x0 x1 i) := rfl

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %48 = stablehlo.reduce(%47 init: %cst_8) applies stablehlo.add across dimensions = [1] : (tensor<2048x8xf32>, tensor<f32>) -> tensor<2048xf32> {
def val_main_v48 (x0 : (⟨S4x512x1x64, .f32⟩ : BufTy).Contents (Elt F)) (x1 : (⟨S1x512x64, .f32⟩ : BufTy).Contents (Elt F)) : (⟨S2048, .f32⟩ : BufTy).Contents (Elt F) :=
  Host.reduceAdd (val_main_v47 (F := F) x0 x1) (val_main_cst_8 (F := F)) reducesTo_S2048x8_S2048_d1 h_S_
abbrev idx_main_v48 (i : S2048.Idx) (k : Fin 8) : S2048x8.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v48_apply (x0 : (⟨S4x512x1x64, .f32⟩ : BufTy).Contents (Elt Ideal)) (x1 : (⟨S1x512x64, .f32⟩ : BufTy).Contents (Elt Ideal)) (i : S2048.Idx) :
    val_main_v48 (F := Ideal) x0 x1 i = (val_main_cst_8 (F := Ideal)) (Shape.Idx.first h_S_) + ∑ k : Fin 8, (val_main_v47 (F := Ideal) x0 x1) (idx_main_v48 i k) := by
  unfold val_main_v48
  generalize val_main_v47 (F := Ideal) x0 x1 = y0
  simp only [Host.reduceAdd, Ideal.hostReduceAdd_def]
  rw [Ideal.hostReduceAdd_single reducesTo_S2048x8_S2048_d1 (by decide)]
  refine congrArg (_ + ·) (Finset.sum_congr rfl fun k _ => ?_)
  exact congrArg y0 (funext fun a => Fin.ext (by match a with | ⟨0, _⟩ => rfl | ⟨1, _⟩ => rfl))

-- %49 = stablehlo.broadcast_in_dim %48, dims = [0] : (tensor<2048xf32>) -> tensor<2048x1xf32>
def val_main_v49 (x0 : (⟨S4x512x1x64, .f32⟩ : BufTy).Contents (Elt F)) (x1 : (⟨S1x512x64, .f32⟩ : BufTy).Contents (Elt F)) : (⟨S2048x1, .f32⟩ : BufTy).Contents (Elt F) :=
  broadcastInDim S2048x1 ![0] bcast_S2048_S2048x1_0 (val_main_v48 (F := F) x0 x1)
abbrev idx_main_v49 (i : S2048x1.Idx) : S2048.Idx := fun a => match a with
  | ⟨0, _⟩ => ⟨(i 0).val, (i 0).isLt⟩
theorem val_main_v49_apply (x0 : (⟨S4x512x1x64, .f32⟩ : BufTy).Contents (Elt F)) (x1 : (⟨S1x512x64, .f32⟩ : BufTy).Contents (Elt F)) (i : S2048x1.Idx) :
    val_main_v49 (F := F) x0 x1 i = val_main_v48 (F := F) x0 x1 (idx_main_v49 i) := by
  unfold val_main_v49
  generalize val_main_v48 (F := F) x0 x1 = y
  exact broadcastInDim_apply _ bcast_S2048_S2048x1_0 y i (idx_main_v49 i) (fun a => match a with
    | ⟨0, _⟩ => by show (i 0).val = if (2048 : Nat) = 1 then 0 else (i 0).val; rw [if_neg (by decide)])

-- %cst_9 = stablehlo.constant dense<9.99999996E-13> : tensor<f32>
def val_main_cst_9 : (⟨S_, .f32⟩ : BufTy).Contents (Elt F) :=
  constant S_ .f32 0x2B8CBCCC#32
theorem val_main_cst_9_apply (i : S_.Idx) :
    val_main_cst_9 (F := F) i = FloatOps.ofBits .f32 0x2B8CBCCC#32 := rfl

-- %50 = stablehlo.broadcast_in_dim %cst_9, dims = [] : (tensor<f32>) -> tensor<2048x1xf32>
def val_main_v50 : (⟨S2048x1, .f32⟩ : BufTy).Contents (Elt F) :=
  broadcastInDim S2048x1 ![] bcast_S_S2048x1 (val_main_cst_9 (F := F))
abbrev idx_main_v50 (i : S2048x1.Idx) : S_.Idx := fun a => a.elim0
theorem val_main_v50_apply (i : S2048x1.Idx) :
    val_main_v50 (F := F) i = val_main_cst_9 (F := F) (idx_main_v50 i) := by
  unfold val_main_v50
  generalize val_main_cst_9 (F := F) = y
  exact broadcastInDim_apply _ bcast_S_S2048x1 y i (idx_main_v50 i) (fun a => a.elim0)

-- %51 = stablehlo.maximum %49, %50 : tensor<2048x1xf32>
def val_main_v51 (x0 : (⟨S4x512x1x64, .f32⟩ : BufTy).Contents (Elt F)) (x1 : (⟨S1x512x64, .f32⟩ : BufTy).Contents (Elt F)) : (⟨S2048x1, .f32⟩ : BufTy).Contents (Elt F) :=
  maximumf (val_main_v49 (F := F) x0 x1) (val_main_v50 (F := F))
theorem val_main_v51_apply (x0 : (⟨S4x512x1x64, .f32⟩ : BufTy).Contents (Elt F)) (x1 : (⟨S1x512x64, .f32⟩ : BufTy).Contents (Elt F)) (i : S2048x1.Idx) :
    val_main_v51 (F := F) x0 x1 i = FloatOps.maximumf (val_main_v49 (F := F) x0 x1 i) (val_main_v50 (F := F) i) := rfl

-- %52 = stablehlo.broadcast_in_dim %51, dims = [0, 1] : (tensor<2048x1xf32>) -> tensor<2048x8xf32>
def val_main_v52 (x0 : (⟨S4x512x1x64, .f32⟩ : BufTy).Contents (Elt F)) (x1 : (⟨S1x512x64, .f32⟩ : BufTy).Contents (Elt F)) : (⟨S2048x8, .f32⟩ : BufTy).Contents (Elt F) :=
  broadcastInDim S2048x8 ![0, 1] bcast_S2048x1_S2048x8_0_1 (val_main_v51 (F := F) x0 x1)
abbrev idx_main_v52 (i : S2048x8.Idx) : S2048x1.Idx := fun a => match a with
  | ⟨0, _⟩ => ⟨(i 0).val, (i 0).isLt⟩
  | ⟨1, _⟩ => ⟨0, Nat.one_pos⟩
theorem val_main_v52_apply (x0 : (⟨S4x512x1x64, .f32⟩ : BufTy).Contents (Elt F)) (x1 : (⟨S1x512x64, .f32⟩ : BufTy).Contents (Elt F)) (i : S2048x8.Idx) :
    val_main_v52 (F := F) x0 x1 i = val_main_v51 (F := F) x0 x1 (idx_main_v52 i) := by
  unfold val_main_v52
  generalize val_main_v51 (F := F) x0 x1 = y
  exact broadcastInDim_apply _ bcast_S2048x1_S2048x8_0_1 y i (idx_main_v52 i) (fun a => match a with
    | ⟨0, _⟩ => by show (i 0).val = if (2048 : Nat) = 1 then 0 else (i 0).val; rw [if_neg (by decide)]
    | ⟨1, _⟩ => by show 0 = if (1 : Nat) = 1 then 0 else (i 1).val; rw [if_pos rfl])

-- %53 = stablehlo.divide %45, %52 : tensor<2048x8xf32>
def val_main_v53 (x0 : (⟨S4x512x1x64, .f32⟩ : BufTy).Contents (Elt F)) (x1 : (⟨S1x512x64, .f32⟩ : BufTy).Contents (Elt F)) : (⟨S2048x8, .f32⟩ : BufTy).Contents (Elt F) :=
  Host.divf (val_main_v45 (F := F) x0 x1) (val_main_v52 (F := F) x0 x1)
theorem val_main_v53_apply (x0 : (⟨S4x512x1x64, .f32⟩ : BufTy).Contents (Elt F)) (x1 : (⟨S1x512x64, .f32⟩ : BufTy).Contents (Elt F)) (i : S2048x8.Idx) :
    val_main_v53 (F := F) x0 x1 i = FloatOps.hostDivf (val_main_v45 (F := F) x0 x1 i) (val_main_v52 (F := F) x0 x1 i) := rfl

-- %54 = stablehlo.reshape %6 : (tensor<2048x1xi32>) -> tensor<4x512x1xi32>
def val_main_v54 (x0 : (⟨S4x512x1x64, .f32⟩ : BufTy).Contents (Elt F)) (x1 : (⟨S1x512x64, .f32⟩ : BufTy).Contents (Elt F)) : (⟨S4x512x1, .i32⟩ : BufTy).Contents (Elt F) :=
  shapeCast _ (val_main_v6 (F := F) x0 x1) shapeCasts_S2048x1_S4x512x1
set_option backward.proofsInPublic true in
abbrev idx_main_v54 (i : S4x512x1.Idx) : S2048x1.Idx := fun a => match a with
  | ⟨0, _⟩ => ⟨(((i 0).val * 512 + (i 1).val) * 1 + (i 2).val) / 1, by have h0 : (i 0).val < 4 := (i 0).isLt; have h1 : (i 1).val < 512 := (i 1).isLt; have h2 : (i 2).val < 1 := (i 2).isLt; show (((i 0).val * 512 + (i 1).val) * 1 + (i 2).val) / 1 < 2048; omega⟩
  | ⟨1, _⟩ => ⟨0, Nat.one_pos⟩
theorem val_main_v54_apply (x0 : (⟨S4x512x1x64, .f32⟩ : BufTy).Contents (Elt F)) (x1 : (⟨S1x512x64, .f32⟩ : BufTy).Contents (Elt F)) (i : S4x512x1.Idx) :
    val_main_v54 (F := F) x0 x1 i = val_main_v6 (F := F) x0 x1 (idx_main_v54 i) := by
  unfold val_main_v54
  generalize val_main_v6 (F := F) x0 x1 = y
  exact shapeCast_apply y shapeCasts_S2048x1_S4x512x1 i (idx_main_v54 i)
    (by rewrite [Shape.rowMajor_val_two, Shape.rowMajor_val_three]; have h0 : (i 0).val < 4 := (i 0).isLt; have h1 : (i 1).val < 512 := (i 1).isLt; have h2 : (i 2).val < 1 := (i 2).isLt; show (((i 0).val * 512 + (i 1).val) * 1 + (i 2).val) / 1 * 1 + 0 = ((i 0).val * 512 + (i 1).val) * 1 + (i 2).val; omega)

-- %55 = stablehlo.reshape %11 : (tensor<2048x1xi32>) -> tensor<4x512x1xi32>
def val_main_v55 (x0 : (⟨S4x512x1x64, .f32⟩ : BufTy).Contents (Elt F)) (x1 : (⟨S1x512x64, .f32⟩ : BufTy).Contents (Elt F)) : (⟨S4x512x1, .i32⟩ : BufTy).Contents (Elt F) :=
  shapeCast _ (val_main_v11 (F := F) x0 x1) shapeCasts_S2048x1_S4x512x1
set_option backward.proofsInPublic true in
abbrev idx_main_v55 (i : S4x512x1.Idx) : S2048x1.Idx := fun a => match a with
  | ⟨0, _⟩ => ⟨(((i 0).val * 512 + (i 1).val) * 1 + (i 2).val) / 1, by have h0 : (i 0).val < 4 := (i 0).isLt; have h1 : (i 1).val < 512 := (i 1).isLt; have h2 : (i 2).val < 1 := (i 2).isLt; show (((i 0).val * 512 + (i 1).val) * 1 + (i 2).val) / 1 < 2048; omega⟩
  | ⟨1, _⟩ => ⟨0, Nat.one_pos⟩
theorem val_main_v55_apply (x0 : (⟨S4x512x1x64, .f32⟩ : BufTy).Contents (Elt F)) (x1 : (⟨S1x512x64, .f32⟩ : BufTy).Contents (Elt F)) (i : S4x512x1.Idx) :
    val_main_v55 (F := F) x0 x1 i = val_main_v11 (F := F) x0 x1 (idx_main_v55 i) := by
  unfold val_main_v55
  generalize val_main_v11 (F := F) x0 x1 = y
  exact shapeCast_apply y shapeCasts_S2048x1_S4x512x1 i (idx_main_v55 i)
    (by rewrite [Shape.rowMajor_val_two, Shape.rowMajor_val_three]; have h0 : (i 0).val < 4 := (i 0).isLt; have h1 : (i 1).val < 512 := (i 1).isLt; have h2 : (i 2).val < 1 := (i 2).isLt; show (((i 0).val * 512 + (i 1).val) * 1 + (i 2).val) / 1 * 1 + 0 = ((i 0).val * 512 + (i 1).val) * 1 + (i 2).val; omega)

-- %56 = stablehlo.slice %46 [0:2048, 0:1] : (tensor<2048x8xi32>) -> tensor<2048x1xi32>
def val_main_v56 (x0 : (⟨S4x512x1x64, .f32⟩ : BufTy).Contents (Elt F)) (x1 : (⟨S1x512x64, .f32⟩ : BufTy).Contents (Elt F)) : (⟨S2048x1, .i32⟩ : BufTy).Contents (Elt F) :=
  extractStridedSlice S2048x1 ![0, 0] (val_main_v46 (F := F) x0 x1) slices_S2048x8_S2048x1_0_0
set_option backward.proofsInPublic true in
abbrev idx_main_v56 (i : S2048x1.Idx) : S2048x8.Idx := fun a => match a with
  | ⟨0, _⟩ => ⟨(i 0).val, (i 0).isLt⟩
  | ⟨1, _⟩ => ⟨(i 1).val, by have h1 : (i 1).val < 1 := (i 1).isLt; show (i 1).val < 8; omega⟩
theorem val_main_v56_apply (x0 : (⟨S4x512x1x64, .f32⟩ : BufTy).Contents (Elt F)) (x1 : (⟨S1x512x64, .f32⟩ : BufTy).Contents (Elt F)) (i : S2048x1.Idx) :
    val_main_v56 (F := F) x0 x1 i = val_main_v46 (F := F) x0 x1 (idx_main_v56 i) := by
  unfold val_main_v56
  generalize val_main_v46 (F := F) x0 x1 = y
  exact extractStridedSlice_apply ![0, 0] y slices_S2048x8_S2048x1_0_0 i (idx_main_v56 i) (fun a => match a with
    | ⟨0, _⟩ => by show (i 0).val = 0 + (i 0).val; omega
    | ⟨1, _⟩ => by show (i 1).val = 0 + (i 1).val; omega)

-- %57 = stablehlo.reshape %56 : (tensor<2048x1xi32>) -> tensor<2048xi32>
def val_main_v57 (x0 : (⟨S4x512x1x64, .f32⟩ : BufTy).Contents (Elt F)) (x1 : (⟨S1x512x64, .f32⟩ : BufTy).Contents (Elt F)) : (⟨S2048, .i32⟩ : BufTy).Contents (Elt F) :=
  shapeCast _ (val_main_v56 (F := F) x0 x1) shapeCasts_S2048x1_S2048
set_option backward.proofsInPublic true in
abbrev idx_main_v57 (i : S2048.Idx) : S2048x1.Idx := fun a => match a with
  | ⟨0, _⟩ => ⟨((i 0).val) / 1, by have h0 : (i 0).val < 2048 := (i 0).isLt; show ((i 0).val) / 1 < 2048; omega⟩
  | ⟨1, _⟩ => ⟨0, Nat.one_pos⟩
theorem val_main_v57_apply (x0 : (⟨S4x512x1x64, .f32⟩ : BufTy).Contents (Elt F)) (x1 : (⟨S1x512x64, .f32⟩ : BufTy).Contents (Elt F)) (i : S2048.Idx) :
    val_main_v57 (F := F) x0 x1 i = val_main_v56 (F := F) x0 x1 (idx_main_v57 i) := by
  unfold val_main_v57
  generalize val_main_v56 (F := F) x0 x1 = y
  exact shapeCast_apply y shapeCasts_S2048x1_S2048 i (idx_main_v57 i)
    (by rewrite [Shape.rowMajor_val_two, Shape.rowMajor_val_one]; have h0 : (i 0).val < 2048 := (i 0).isLt; show ((i 0).val) / 1 * 1 + 0 = (i 0).val; omega)

-- %c_10 = stablehlo.constant dense<0> : tensor<i32>
def val_main_c_10 : (⟨S_, .i32⟩ : BufTy).Contents (Elt F) :=
  constantI S_ 32 0#32
theorem val_main_c_10_apply (i : S_.Idx) :
    val_main_c_10 (F := F) i = 0#32 := rfl

-- %58 = stablehlo.broadcast_in_dim %c_10, dims = [] : (tensor<i32>) -> tensor<512xi32>
def val_main_v58 : (⟨S512, .i32⟩ : BufTy).Contents (Elt F) :=
  broadcastInDim S512 ![] bcast_S_S512 (val_main_c_10 (F := F))
abbrev idx_main_v58 (i : S512.Idx) : S_.Idx := fun a => a.elim0
theorem val_main_v58_apply (i : S512.Idx) :
    val_main_v58 (F := F) i = val_main_c_10 (F := F) (idx_main_v58 i) := by
  unfold val_main_v58
  generalize val_main_c_10 (F := F) = y
  exact broadcastInDim_apply _ bcast_S_S512 y i (idx_main_v58 i) (fun a => a.elim0)

-- %c_11 = stablehlo.constant dense<0> : tensor<i32>
def val_main_c_11 : (⟨S_, .i32⟩ : BufTy).Contents (Elt F) :=
  constantI S_ 32 0#32
theorem val_main_c_11_apply (i : S_.Idx) :
    val_main_c_11 (F := F) i = 0#32 := rfl

-- @clip's %0 = stablehlo.convert %arg1 : tensor<i32>, in %59 = func.call @clip(…) (record main_call5)
def val_main_call5_v0 : (⟨S_, .i32⟩ : BufTy).Contents (Elt F) :=
  id (val_main_c_11 (F := F))
theorem val_main_call5_v0_apply (i : S_.Idx) :
    val_main_call5_v0 (F := F) i = (val_main_c_11 (F := F) i) := rfl

-- @clip's %1 = stablehlo.broadcast_in_dim %0, dims = [] : (tensor<i32>) -> tensor<2048xi32>, in %59 = func.call @clip(…) (record main_call5)
def val_main_call5_v1 : (⟨S2048, .i32⟩ : BufTy).Contents (Elt F) :=
  broadcastInDim S2048 ![] bcast_S_S2048 (val_main_call5_v0 (F := F))
abbrev idx_main_call5_v1 (i : S2048.Idx) : S_.Idx := fun a => a.elim0
theorem val_main_call5_v1_apply (i : S2048.Idx) :
    val_main_call5_v1 (F := F) i = val_main_call5_v0 (F := F) (idx_main_call5_v1 i) := by
  unfold val_main_call5_v1
  generalize val_main_call5_v0 (F := F) = y
  exact broadcastInDim_apply _ bcast_S_S2048 y i (idx_main_call5_v1 i) (fun a => a.elim0)

-- %59 = func.call @clip(…) (record main_call5) result 0: @clip's %2 = stablehlo.maximum %1, %arg0 : tensor<2048xi32>
def val_main_v59 (x0 : (⟨S4x512x1x64, .f32⟩ : BufTy).Contents (Elt F)) (x1 : (⟨S1x512x64, .f32⟩ : BufTy).Contents (Elt F)) : (⟨S2048, .i32⟩ : BufTy).Contents (Elt F) :=
  maxsi (val_main_call5_v1 (F := F)) (val_main_v57 (F := F) x0 x1)
theorem val_main_v59_apply (x0 : (⟨S4x512x1x64, .f32⟩ : BufTy).Contents (Elt F)) (x1 : (⟨S1x512x64, .f32⟩ : BufTy).Contents (Elt F)) (i : S2048.Idx) :
    val_main_v59 (F := F) x0 x1 i = IntOp.maxsi (val_main_call5_v1 (F := F) i) (val_main_v57 (F := F) x0 x1 i) := rfl

-- %c_12 = stablehlo.constant dense<0> : tensor<i32>
def val_main_c_12 : (⟨S_, .i32⟩ : BufTy).Contents (Elt F) :=
  constantI S_ 32 0#32
theorem val_main_c_12_apply (i : S_.Idx) :
    val_main_c_12 (F := F) i = 0#32 := rfl

-- %60 = stablehlo.broadcast_in_dim %c_12, dims = [] : (tensor<i32>) -> tensor<2048xi32>
def val_main_v60 : (⟨S2048, .i32⟩ : BufTy).Contents (Elt F) :=
  broadcastInDim S2048 ![] bcast_S_S2048 (val_main_c_12 (F := F))
abbrev idx_main_v60 (i : S2048.Idx) : S_.Idx := fun a => a.elim0
theorem val_main_v60_apply (i : S2048.Idx) :
    val_main_v60 (F := F) i = val_main_c_12 (F := F) (idx_main_v60 i) := by
  unfold val_main_v60
  generalize val_main_c_12 (F := F) = y
  exact broadcastInDim_apply _ bcast_S_S2048 y i (idx_main_v60 i) (fun a => a.elim0)

-- %61 = stablehlo.compare LT, %59, %60, SIGNED : (tensor<2048xi32>, tensor<2048xi32>) -> tensor<2048xi1>
def val_main_v61 (x0 : (⟨S4x512x1x64, .f32⟩ : BufTy).Contents (Elt F)) (x1 : (⟨S1x512x64, .f32⟩ : BufTy).Contents (Elt F)) : (⟨S2048, .i1⟩ : BufTy).Contents (Elt F) :=
  cmpi .slt (val_main_v59 (F := F) x0 x1) (val_main_v60 (F := F))
theorem val_main_v61_apply (x0 : (⟨S4x512x1x64, .f32⟩ : BufTy).Contents (Elt F)) (x1 : (⟨S1x512x64, .f32⟩ : BufTy).Contents (Elt F)) (i : S2048.Idx) :
    val_main_v61 (F := F) x0 x1 i = IntOp.cmpi .slt (val_main_v59 (F := F) x0 x1 i) (val_main_v60 (F := F) i) := rfl

-- %c_13 = stablehlo.constant dense<512> : tensor<i32>
def val_main_c_13 : (⟨S_, .i32⟩ : BufTy).Contents (Elt F) :=
  constantI S_ 32 512#32
theorem val_main_c_13_apply (i : S_.Idx) :
    val_main_c_13 (F := F) i = 512#32 := rfl

-- %62 = stablehlo.broadcast_in_dim %c_13, dims = [] : (tensor<i32>) -> tensor<2048xi32>
def val_main_v62 : (⟨S2048, .i32⟩ : BufTy).Contents (Elt F) :=
  broadcastInDim S2048 ![] bcast_S_S2048 (val_main_c_13 (F := F))
abbrev idx_main_v62 (i : S2048.Idx) : S_.Idx := fun a => a.elim0
theorem val_main_v62_apply (i : S2048.Idx) :
    val_main_v62 (F := F) i = val_main_c_13 (F := F) (idx_main_v62 i) := by
  unfold val_main_v62
  generalize val_main_c_13 (F := F) = y
  exact broadcastInDim_apply _ bcast_S_S2048 y i (idx_main_v62 i) (fun a => a.elim0)

-- %63 = stablehlo.add %59, %62 : tensor<2048xi32>
def val_main_v63 (x0 : (⟨S4x512x1x64, .f32⟩ : BufTy).Contents (Elt F)) (x1 : (⟨S1x512x64, .f32⟩ : BufTy).Contents (Elt F)) : (⟨S2048, .i32⟩ : BufTy).Contents (Elt F) :=
  addi (val_main_v59 (F := F) x0 x1) (val_main_v62 (F := F))
theorem val_main_v63_apply (x0 : (⟨S4x512x1x64, .f32⟩ : BufTy).Contents (Elt F)) (x1 : (⟨S1x512x64, .f32⟩ : BufTy).Contents (Elt F)) (i : S2048.Idx) :
    val_main_v63 (F := F) x0 x1 i = IntOp.addi (val_main_v59 (F := F) x0 x1 i) (val_main_v62 (F := F) i) := rfl

-- %64 = stablehlo.select %61, %63, %59 : tensor<2048xi1>, tensor<2048xi32>
def val_main_v64 (x0 : (⟨S4x512x1x64, .f32⟩ : BufTy).Contents (Elt F)) (x1 : (⟨S1x512x64, .f32⟩ : BufTy).Contents (Elt F)) : (⟨S2048, .i32⟩ : BufTy).Contents (Elt F) :=
  select (val_main_v61 (F := F) x0 x1) (val_main_v63 (F := F) x0 x1) (val_main_v59 (F := F) x0 x1)
theorem val_main_v64_apply (x0 : (⟨S4x512x1x64, .f32⟩ : BufTy).Contents (Elt F)) (x1 : (⟨S1x512x64, .f32⟩ : BufTy).Contents (Elt F)) (i : S2048.Idx) :
    val_main_v64 (F := F) x0 x1 i = Scalar.select (val_main_v61 (F := F) x0 x1 i) (val_main_v63 (F := F) x0 x1 i) (val_main_v59 (F := F) x0 x1 i) := rfl

-- %65 = stablehlo.broadcast_in_dim %64, dims = [0] : (tensor<2048xi32>) -> tensor<2048x1xi32>
def val_main_v65 (x0 : (⟨S4x512x1x64, .f32⟩ : BufTy).Contents (Elt F)) (x1 : (⟨S1x512x64, .f32⟩ : BufTy).Contents (Elt F)) : (⟨S2048x1, .i32⟩ : BufTy).Contents (Elt F) :=
  broadcastInDim S2048x1 ![0] bcast_S2048_S2048x1_0 (val_main_v64 (F := F) x0 x1)
abbrev idx_main_v65 (i : S2048x1.Idx) : S2048.Idx := fun a => match a with
  | ⟨0, _⟩ => ⟨(i 0).val, (i 0).isLt⟩
theorem val_main_v65_apply (x0 : (⟨S4x512x1x64, .f32⟩ : BufTy).Contents (Elt F)) (x1 : (⟨S1x512x64, .f32⟩ : BufTy).Contents (Elt F)) (i : S2048x1.Idx) :
    val_main_v65 (F := F) x0 x1 i = val_main_v64 (F := F) x0 x1 (idx_main_v65 i) := by
  unfold val_main_v65
  generalize val_main_v64 (F := F) x0 x1 = y
  exact broadcastInDim_apply _ bcast_S2048_S2048x1_0 y i (idx_main_v65 i) (fun a => match a with
    | ⟨0, _⟩ => by show (i 0).val = if (2048 : Nat) = 1 then 0 else (i 0).val; rw [if_neg (by decide)])

-- %c_14 = stablehlo.constant dense<1> : tensor<i32>
def val_main_c_14 : (⟨S_, .i32⟩ : BufTy).Contents (Elt F) :=
  constantI S_ 32 1#32
theorem val_main_c_14_apply (i : S_.Idx) :
    val_main_c_14 (F := F) i = 1#32 := rfl

-- %66 = stablehlo.broadcast_in_dim %c_14, dims = [] : (tensor<i32>) -> tensor<2048xi32>
def val_main_v66 : (⟨S2048, .i32⟩ : BufTy).Contents (Elt F) :=
  broadcastInDim S2048 ![] bcast_S_S2048 (val_main_c_14 (F := F))
abbrev idx_main_v66 (i : S2048.Idx) : S_.Idx := fun a => a.elim0
theorem val_main_v66_apply (i : S2048.Idx) :
    val_main_v66 (F := F) i = val_main_c_14 (F := F) (idx_main_v66 i) := by
  unfold val_main_v66
  generalize val_main_c_14 (F := F) = y
  exact broadcastInDim_apply _ bcast_S_S2048 y i (idx_main_v66 i) (fun a => a.elim0)

-- %67 = "stablehlo.scatter"(%58, %65, %66) <{indices_are_sorted = false, scatter_dimension_numbers = #stablehlo.scatter<inserted_window_dims = [0], scatter_dims_to_operand_dims = [0], index_vector_dim = 1>, unique_indices = false}> ( {
def val_main_v67 (x0 : (⟨S4x512x1x64, .f32⟩ : BufTy).Contents (Elt F)) (x1 : (⟨S1x512x64, .f32⟩ : BufTy).Contents (Elt F)) : (⟨S512, .i32⟩ : BufTy).Contents (Elt F) :=
  Host.scatter scatter_S512_S2048x1_S2048_n_0_0_1 IntOp.addi (val_main_v58 (F := F)) (val_main_v65 (F := F) x0 x1) (val_main_v66 (F := F))

-- %68 = stablehlo.convert %67 : (tensor<512xi32>) -> tensor<512xf32>
def val_main_v68 (x0 : (⟨S4x512x1x64, .f32⟩ : BufTy).Contents (Elt F)) (x1 : (⟨S1x512x64, .f32⟩ : BufTy).Contents (Elt F)) : (⟨S512, .f32⟩ : BufTy).Contents (Elt F) :=
  sitofp .f32 (val_main_v67 (F := F) x0 x1)
theorem val_main_v68_apply (x0 : (⟨S4x512x1x64, .f32⟩ : BufTy).Contents (Elt F)) (x1 : (⟨S1x512x64, .f32⟩ : BufTy).Contents (Elt F)) (i : S512.Idx) :
    val_main_v68 (F := F) x0 x1 i = FloatOps.sitofp .f32 (val_main_v67 (F := F) x0 x1 i) := rfl

-- %cst_15 = stablehlo.constant dense<2.048000e+03> : tensor<f32>
def val_main_cst_15 : (⟨S_, .f32⟩ : BufTy).Contents (Elt F) :=
  constant S_ .f32 0x45000000#32
theorem val_main_cst_15_apply (i : S_.Idx) :
    val_main_cst_15 (F := F) i = FloatOps.ofBits .f32 0x45000000#32 := rfl

-- %69 = stablehlo.broadcast_in_dim %cst_15, dims = [] : (tensor<f32>) -> tensor<512xf32>
def val_main_v69 : (⟨S512, .f32⟩ : BufTy).Contents (Elt F) :=
  broadcastInDim S512 ![] bcast_S_S512 (val_main_cst_15 (F := F))
abbrev idx_main_v69 (i : S512.Idx) : S_.Idx := fun a => a.elim0
theorem val_main_v69_apply (i : S512.Idx) :
    val_main_v69 (F := F) i = val_main_cst_15 (F := F) (idx_main_v69 i) := by
  unfold val_main_v69
  generalize val_main_cst_15 (F := F) = y
  exact broadcastInDim_apply _ bcast_S_S512 y i (idx_main_v69 i) (fun a => a.elim0)

-- %70 = stablehlo.divide %68, %69 : tensor<512xf32>
def val_main_v70 (x0 : (⟨S4x512x1x64, .f32⟩ : BufTy).Contents (Elt F)) (x1 : (⟨S1x512x64, .f32⟩ : BufTy).Contents (Elt F)) : (⟨S512, .f32⟩ : BufTy).Contents (Elt F) :=
  Host.divf (val_main_v68 (F := F) x0 x1) (val_main_v69 (F := F))
theorem val_main_v70_apply (x0 : (⟨S4x512x1x64, .f32⟩ : BufTy).Contents (Elt F)) (x1 : (⟨S1x512x64, .f32⟩ : BufTy).Contents (Elt F)) (i : S512.Idx) :
    val_main_v70 (F := F) x0 x1 i = FloatOps.hostDivf (val_main_v68 (F := F) x0 x1 i) (val_main_v69 (F := F) i) := rfl

-- %cst_16 = stablehlo.constant dense<0.000000e+00> : tensor<f32>
def val_main_cst_16 : (⟨S_, .f32⟩ : BufTy).Contents (Elt F) :=
  constant S_ .f32 0x00000000#32
theorem val_main_cst_16_apply (i : S_.Idx) :
    val_main_cst_16 (F := F) i = FloatOps.ofBits .f32 0x00000000#32 := rfl

-- %71 = stablehlo.broadcast_in_dim %cst_16, dims = [] : (tensor<f32>) -> tensor<512xf32>
def val_main_v71 : (⟨S512, .f32⟩ : BufTy).Contents (Elt F) :=
  broadcastInDim S512 ![] bcast_S_S512 (val_main_cst_16 (F := F))
abbrev idx_main_v71 (i : S512.Idx) : S_.Idx := fun a => a.elim0
theorem val_main_v71_apply (i : S512.Idx) :
    val_main_v71 (F := F) i = val_main_cst_16 (F := F) (idx_main_v71 i) := by
  unfold val_main_v71
  generalize val_main_cst_16 (F := F) = y
  exact broadcastInDim_apply _ bcast_S_S512 y i (idx_main_v71 i) (fun a => a.elim0)

-- %72 = stablehlo.compare GT, %68, %71, FLOAT : (tensor<512xf32>, tensor<512xf32>) -> tensor<512xi1>
def val_main_v72 (x0 : (⟨S4x512x1x64, .f32⟩ : BufTy).Contents (Elt F)) (x1 : (⟨S1x512x64, .f32⟩ : BufTy).Contents (Elt F)) : (⟨S512, .i1⟩ : BufTy).Contents (Elt F) :=
  cmpf .ogt (val_main_v68 (F := F) x0 x1) (val_main_v71 (F := F))
theorem val_main_v72_apply (x0 : (⟨S4x512x1x64, .f32⟩ : BufTy).Contents (Elt F)) (x1 : (⟨S1x512x64, .f32⟩ : BufTy).Contents (Elt F)) (i : S512.Idx) :
    val_main_v72 (F := F) x0 x1 i = FloatOps.cmpf .ogt (val_main_v68 (F := F) x0 x1 i) (val_main_v71 (F := F) i) := rfl

-- %cst_17 = stablehlo.constant dense<0.000000e+00> : tensor<f32>
def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

-- %73 = stablehlo.broadcast_in_dim %cst_17, dims = [] : (tensor<f32>) -> tensor<512xf32>
def val_main_v73 : (⟨S512, .f32⟩ : BufTy).Contents (Elt F) :=
  broadcastInDim S512 ![] bcast_S_S512 (val_main_cst_17 (F := F))
abbrev idx_main_v73 (i : S512.Idx) : S_.Idx := fun a => a.elim0
theorem val_main_v73_apply (i : S512.Idx) :
    val_main_v73 (F := F) i = val_main_cst_17 (F := F) (idx_main_v73 i) := by
  unfold val_main_v73
  generalize val_main_cst_17 (F := F) = y
  exact broadcastInDim_apply _ bcast_S_S512 y i (idx_main_v73 i) (fun a => a.elim0)

-- %74 = stablehlo.compare GT, %68, %73, FLOAT : (tensor<512xf32>, tensor<512xf32>) -> tensor<512xi1>
def val_main_v74 (x0 : (⟨S4x512x1x64, .f32⟩ : BufTy).Contents (Elt F)) (x1 : (⟨S1x512x64, .f32⟩ : BufTy).Contents (Elt F)) : (⟨S512, .i1⟩ : BufTy).Contents (Elt F) :=
  cmpf .ogt (val_main_v68 (F := F) x0 x1) (val_main_v73 (F := F))
theorem val_main_v74_apply (x0 : (⟨S4x512x1x64, .f32⟩ : BufTy).Contents (Elt F)) (x1 : (⟨S1x512x64, .f32⟩ : BufTy).Contents (Elt F)) (i : S512.Idx) :
    val_main_v74 (F := F) x0 x1 i = FloatOps.cmpf .ogt (val_main_v68 (F := F) x0 x1 i) (val_main_v73 (F := F) i) := rfl

-- %cst_18 = stablehlo.constant dense<1.000000e+00> : tensor<f32>
def val_main_cst_18 : (⟨S_, .f32⟩ : BufTy).Contents (Elt F) :=
  constant S_ .f32 0x3F800000#32
theorem val_main_cst_18_apply (i : S_.Idx) :
    val_main_cst_18 (F := F) i = FloatOps.ofBits .f32 0x3F800000#32 := rfl

-- @_where's %0 = stablehlo.convert %arg2 : tensor<f32>, in %75 = func.call @_where(…) (record main_call6)
def val_main_call6_v0 : (⟨S_, .f32⟩ : BufTy).Contents (Elt F) :=
  id (val_main_cst_18 (F := F))
theorem val_main_call6_v0_apply (i : S_.Idx) :
    val_main_call6_v0 (F := F) i = (val_main_cst_18 (F := F) i) := rfl

-- @_where's %1 = stablehlo.broadcast_in_dim %0, dims = [] : (tensor<f32>) -> tensor<512xf32>, in %75 = func.call @_where(…) (record main_call6)
def val_main_call6_v1 : (⟨S512, .f32⟩ : BufTy).Contents (Elt F) :=
  broadcastInDim S512 ![] bcast_S_S512 (val_main_call6_v0 (F := F))
abbrev idx_main_call6_v1 (i : S512.Idx) : S_.Idx := fun a => a.elim0
theorem val_main_call6_v1_apply (i : S512.Idx) :
    val_main_call6_v1 (F := F) i = val_main_call6_v0 (F := F) (idx_main_call6_v1 i) := by
  unfold val_main_call6_v1
  generalize val_main_call6_v0 (F := F) = y
  exact broadcastInDim_apply _ bcast_S_S512 y i (idx_main_call6_v1 i) (fun a => a.elim0)

-- %75 = func.call @_where(…) (record main_call6) result 0: @_where's %2 = stablehlo.select %arg0, %arg1, %1 : tensor<512xi1>, tensor<512xf32>
def val_main_v75 (x0 : (⟨S4x512x1x64, .f32⟩ : BufTy).Contents (Elt F)) (x1 : (⟨S1x512x64, .f32⟩ : BufTy).Contents (Elt F)) : (⟨S512, .f32⟩ : BufTy).Contents (Elt F) :=
  select (val_main_v74 (F := F) x0 x1) (val_main_v70 (F := F) x0 x1) (val_main_call6_v1 (F := F))
theorem val_main_v75_apply (x0 : (⟨S4x512x1x64, .f32⟩ : BufTy).Contents (Elt F)) (x1 : (⟨S1x512x64, .f32⟩ : BufTy).Contents (Elt F)) (i : S512.Idx) :
    val_main_v75 (F := F) x0 x1 i = Scalar.select (val_main_v74 (F := F) x0 x1 i) (val_main_v70 (F := F) x0 x1 i) (val_main_call6_v1 (F := F) i) := rfl

-- %76 = stablehlo.log %75 : tensor<512xf32>
def val_main_v76 (x0 : (⟨S4x512x1x64, .f32⟩ : BufTy).Contents (Elt F)) (x1 : (⟨S1x512x64, .f32⟩ : BufTy).Contents (Elt F)) : (⟨S512, .f32⟩ : BufTy).Contents (Elt F) :=
  Host.log (val_main_v75 (F := F) x0 x1)
theorem val_main_v76_apply (x0 : (⟨S4x512x1x64, .f32⟩ : BufTy).Contents (Elt F)) (x1 : (⟨S1x512x64, .f32⟩ : BufTy).Contents (Elt F)) (i : S512.Idx) :
    val_main_v76 (F := F) x0 x1 i = FloatOps.hostUnary .log (val_main_v75 (F := F) x0 x1 i) := rfl

-- %77 = stablehlo.multiply %70, %76 : tensor<512xf32>
def val_main_v77 (x0 : (⟨S4x512x1x64, .f32⟩ : BufTy).Contents (Elt F)) (x1 : (⟨S1x512x64, .f32⟩ : BufTy).Contents (Elt F)) : (⟨S512, .f32⟩ : BufTy).Contents (Elt F) :=
  mulf (val_main_v70 (F := F) x0 x1) (val_main_v76 (F := F) x0 x1)
theorem val_main_v77_apply (x0 : (⟨S4x512x1x64, .f32⟩ : BufTy).Contents (Elt F)) (x1 : (⟨S1x512x64, .f32⟩ : BufTy).Contents (Elt F)) (i : S512.Idx) :
    val_main_v77 (F := F) x0 x1 i = FloatOps.mulf (val_main_v70 (F := F) x0 x1 i) (val_main_v76 (F := F) x0 x1 i) := rfl

-- %cst_19 = stablehlo.constant dense<0.000000e+00> : tensor<f32>
def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

-- @_where's %0 = stablehlo.convert %arg2 : tensor<f32>, in %78 = func.call @_where(…) (record main_call7)
def val_main_call7_v0 : (⟨S_, .f32⟩ : BufTy).Contents (Elt F) :=
  id (val_main_cst_19 (F := F))
theorem val_main_call7_v0_apply (i : S_.Idx) :
    val_main_call7_v0 (F := F) i = (val_main_cst_19 (F := F) i) := rfl

-- @_where's %1 = stablehlo.broadcast_in_dim %0, dims = [] : (tensor<f32>) -> tensor<512xf32>, in %78 = func.call @_where(…) (record main_call7)
def val_main_call7_v1 : (⟨S512, .f32⟩ : BufTy).Contents (Elt F) :=
  broadcastInDim S512 ![] bcast_S_S512 (val_main_call7_v0 (F := F))
abbrev idx_main_call7_v1 (i : S512.Idx) : S_.Idx := fun a => a.elim0
theorem val_main_call7_v1_apply (i : S512.Idx) :
    val_main_call7_v1 (F := F) i = val_main_call7_v0 (F := F) (idx_main_call7_v1 i) := by
  unfold val_main_call7_v1
  generalize val_main_call7_v0 (F := F) = y
  exact broadcastInDim_apply _ bcast_S_S512 y i (idx_main_call7_v1 i) (fun a => a.elim0)

-- %78 = func.call @_where(…) (record main_call7) result 0: @_where's %2 = stablehlo.select %arg0, %arg1, %1 : tensor<512xi1>, tensor<512xf32>
def val_main_v78 (x0 : (⟨S4x512x1x64, .f32⟩ : BufTy).Contents (Elt F)) (x1 : (⟨S1x512x64, .f32⟩ : BufTy).Contents (Elt F)) : (⟨S512, .f32⟩ : BufTy).Contents (Elt F) :=
  select (val_main_v72 (F := F) x0 x1) (val_main_v77 (F := F) x0 x1) (val_main_call7_v1 (F := F))
theorem val_main_v78_apply (x0 : (⟨S4x512x1x64, .f32⟩ : BufTy).Contents (Elt F)) (x1 : (⟨S1x512x64, .f32⟩ : BufTy).Contents (Elt F)) (i : S512.Idx) :
    val_main_v78 (F := F) x0 x1 i = Scalar.select (val_main_v72 (F := F) x0 x1 i) (val_main_v77 (F := F) x0 x1 i) (val_main_call7_v1 (F := F) i) := rfl

-- %cst_20 = stablehlo.constant dense<0.000000e+00> : tensor<f32>
def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

-- %79 = stablehlo.reduce(%78 init: %cst_20) applies stablehlo.add across dimensions = [0] : (tensor<512xf32>, tensor<f32>) -> tensor<f32> {
def val_main_v79 (x0 : (⟨S4x512x1x64, .f32⟩ : BufTy).Contents (Elt F)) (x1 : (⟨S1x512x64, .f32⟩ : BufTy).Contents (Elt F)) : (⟨S_, .f32⟩ : BufTy).Contents (Elt F) :=
  Host.reduceAdd (val_main_v78 (F := F) x0 x1) (val_main_cst_20 (F := F)) reducesTo_S512_S_d0 h_S_
/-- Stated at `F := Ideal`, where the host's float sum is this sum; at a bit-exact instance it is an opaque function of its operand. -/
theorem val_main_v79_apply (x0 : (⟨S4x512x1x64, .f32⟩ : BufTy).Contents (Elt Ideal)) (x1 : (⟨S1x512x64, .f32⟩ : BufTy).Contents (Elt Ideal)) (i : S_.Idx) :
    val_main_v79 (F := Ideal) x0 x1 i = (val_main_cst_20 (F := Ideal)) (Shape.Idx.first h_S_) + ∑ j : S512.Idx, (val_main_v78 (F := Ideal) x0 x1) j := by
  unfold val_main_v79
  generalize val_main_v78 (F := Ideal) x0 x1 = y0
  simp only [Host.reduceAdd, Ideal.hostReduceAdd_def]
  exact Ideal.hostReduceAdd_total reducesTo_S512_S_d0 (fun b => b.elim0) y0 _ i

-- %80 = stablehlo.negate %79 : tensor<f32>
def val_main_v80 (x0 : (⟨S4x512x1x64, .f32⟩ : BufTy).Contents (Elt F)) (x1 : (⟨S1x512x64, .f32⟩ : BufTy).Contents (Elt F)) : (⟨S_, .f32⟩ : BufTy).Contents (Elt F) :=
  Host.negf (val_main_v79 (F := F) x0 x1)
theorem val_main_v80_apply (x0 : (⟨S4x512x1x64, .f32⟩ : BufTy).Contents (Elt F)) (x1 : (⟨S1x512x64, .f32⟩ : BufTy).Contents (Elt F)) (i : S_.Idx) :
    val_main_v80 (F := F) x0 x1 i = FloatOps.hostNegf (val_main_v79 (F := F) x0 x1 i) := rfl

-- %81 = stablehlo.iota dim = 0 : tensor<1xi32>
def val_main_v81 : (⟨S1, .i32⟩ : BufTy).Contents (Elt F) :=
  iotaInDim S1 32 0
theorem val_main_v81_apply (i : S1.Idx) :
    val_main_v81 (F := F) i = BitVec.ofNat 32 (i 0).val := rfl

-- %c_21 = stablehlo.constant dense<512> : tensor<i32>
def val_main_c_21 : (⟨S_, .i32⟩ : BufTy).Contents (Elt F) :=
  constantI S_ 32 512#32
theorem val_main_c_21_apply (i : S_.Idx) :
    val_main_c_21 (F := F) i = 512#32 := rfl

-- %82 = stablehlo.broadcast_in_dim %c_21, dims = [] : (tensor<i32>) -> tensor<1xi32>
def val_main_v82 : (⟨S1, .i32⟩ : BufTy).Contents (Elt F) :=
  broadcastInDim S1 ![] bcast_S_S1 (val_main_c_21 (F := F))
abbrev idx_main_v82 (i : S1.Idx) : S_.Idx := fun a => a.elim0
theorem val_main_v82_apply (i : S1.Idx) :
    val_main_v82 (F := F) i = val_main_c_21 (F := F) (idx_main_v82 i) := by
  unfold val_main_v82
  generalize val_main_c_21 (F := F) = y
  exact broadcastInDim_apply _ bcast_S_S1 y i (idx_main_v82 i) (fun a => a.elim0)

-- %83 = stablehlo.multiply %81, %82 : tensor<1xi32>
def val_main_v83 : (⟨S1, .i32⟩ : BufTy).Contents (Elt F) :=
  muli (val_main_v81 (F := F)) (val_main_v82 (F := F))
theorem val_main_v83_apply (i : S1.Idx) :
    val_main_v83 (F := F) i = IntOp.muli (val_main_v81 (F := F) i) (val_main_v82 (F := F) i) := rfl

-- %84 = stablehlo.broadcast_in_dim %83, dims = [1] : (tensor<1xi32>) -> tensor<1x1xi32>
def val_main_v84 : (⟨S1x1, .i32⟩ : BufTy).Contents (Elt F) :=
  broadcastInDim S1x1 ![1] bcast_S1_S1x1_1 (val_main_v83 (F := F))
abbrev idx_main_v84 (i : S1x1.Idx) : S1.Idx := fun a => match a with
  | ⟨0, _⟩ => ⟨0, Nat.one_pos⟩
theorem val_main_v84_apply (i : S1x1.Idx) :
    val_main_v84 (F := F) i = val_main_v83 (F := F) (idx_main_v84 i) := by
  unfold val_main_v84
  generalize val_main_v83 (F := F) = y
  exact broadcastInDim_apply _ bcast_S1_S1x1_1 y i (idx_main_v84 i) (fun a => match a with
    | ⟨0, _⟩ => by show 0 = if (1 : Nat) = 1 then 0 else (i 1).val; rw [if_pos rfl])

-- %85 = stablehlo.broadcast_in_dim %84, dims = [0, 1] : (tensor<1x1xi32>) -> tensor<2048x8xi32>
def val_main_v85 : (⟨S2048x8, .i32⟩ : BufTy).Contents (Elt F) :=
  broadcastInDim S2048x8 ![0, 1] bcast_S1x1_S2048x8_0_1 (val_main_v84 (F := F))
abbrev idx_main_v85 (i : S2048x8.Idx) : S1x1.Idx := fun a => match a with
  | ⟨0, _⟩ => ⟨0, Nat.one_pos⟩
  | ⟨1, _⟩ => ⟨0, Nat.one_pos⟩
theorem val_main_v85_apply (i : S2048x8.Idx) :
    val_main_v85 (F := F) i = val_main_v84 (F := F) (idx_main_v85 i) := by
  unfold val_main_v85
  generalize val_main_v84 (F := F) = y
  exact broadcastInDim_apply _ bcast_S1x1_S2048x8_0_1 y i (idx_main_v85 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

-- %86 = stablehlo.add %46, %85 : tensor<2048x8xi32>
def val_main_v86 (x0 : (⟨S4x512x1x64, .f32⟩ : BufTy).Contents (Elt F)) (x1 : (⟨S1x512x64, .f32⟩ : BufTy).Contents (Elt F)) : (⟨S2048x8, .i32⟩ : BufTy).Contents (Elt F) :=
  addi (val_main_v46 (F := F) x0 x1) (val_main_v85 (F := F))
theorem val_main_v86_apply (x0 : (⟨S4x512x1x64, .f32⟩ : BufTy).Contents (Elt F)) (x1 : (⟨S1x512x64, .f32⟩ : BufTy).Contents (Elt F)) (i : S2048x8.Idx) :
    val_main_v86 (F := F) x0 x1 i = IntOp.addi (val_main_v46 (F := F) x0 x1 i) (val_main_v85 (F := F) i) := rfl

-- %87 = stablehlo.reshape %arg1 : (tensor<1x512x64xf32>) -> tensor<512x64xf32>
def val_main_v87 (x1 : (⟨S1x512x64, .f32⟩ : BufTy).Contents (Elt F)) : (⟨S512x64, .f32⟩ : BufTy).Contents (Elt F) :=
  shapeCast _ (x1) shapeCasts_S1x512x64_S512x64
set_option backward.proofsInPublic true in
abbrev idx_main_v87 (i : S512x64.Idx) : S1x512x64.Idx := fun a => match a with
  | ⟨0, _⟩ => ⟨0, Nat.one_pos⟩
  | ⟨1, _⟩ => ⟨((i 0).val * 64 + (i 1).val) / 64 % 512, by have h0 : (i 0).val < 512 := (i 0).isLt; have h1 : (i 1).val < 64 := (i 1).isLt; show ((i 0).val * 64 + (i 1).val) / 64 % 512 < 512; omega⟩
  | ⟨2, _⟩ => ⟨((i 0).val * 64 + (i 1).val) % 64, by have h0 : (i 0).val < 512 := (i 0).isLt; have h1 : (i 1).val < 64 := (i 1).isLt; show ((i 0).val * 64 + (i 1).val) % 64 < 64; omega⟩
theorem val_main_v87_apply (x1 : (⟨S1x512x64, .f32⟩ : BufTy).Contents (Elt F)) (i : S512x64.Idx) :
    val_main_v87 (F := F) x1 i = x1 (idx_main_v87 i) := by
  unfold val_main_v87
  exact shapeCast_apply x1 shapeCasts_S1x512x64_S512x64 i (idx_main_v87 i)
    (by rewrite [Shape.rowMajor_val_three, Shape.rowMajor_val_two]; have h0 : (i 0).val < 512 := (i 0).isLt; have h1 : (i 1).val < 64 := (i 1).isLt; show (0 * 512 + ((i 0).val * 64 + (i 1).val) / 64 % 512) * 64 + ((i 0).val * 64 + (i 1).val) % 64 = (i 0).val * 64 + (i 1).val; omega)

-- @_take's %c = stablehlo.constant dense<0> : tensor<i32>, in %88 = func.call @_take(…) (record main_call8)
def val_main_call8_c : (⟨S_, .i32⟩ : BufTy).Contents (Elt F) :=
  constantI S_ 32 0#32
theorem val_main_call8_c_apply (i : S_.Idx) :
    val_main_call8_c (F := F) i = 0#32 := rfl

-- @_take's %0 = stablehlo.broadcast_in_dim %c, dims = [] : (tensor<i32>) -> tensor<2048x8xi32>, in %88 = func.call @_take(…) (record main_call8)
def val_main_call8_v0 : (⟨S2048x8, .i32⟩ : BufTy).Contents (Elt F) :=
  broadcastInDim S2048x8 ![] bcast_S_S2048x8 (val_main_call8_c (F := F))
abbrev idx_main_call8_v0 (i : S2048x8.Idx) : S_.Idx := fun a => a.elim0
theorem val_main_call8_v0_apply (i : S2048x8.Idx) :
    val_main_call8_v0 (F := F) i = val_main_call8_c (F := F) (idx_main_call8_v0 i) := by
  unfold val_main_call8_v0
  generalize val_main_call8_c (F := F) = y
  exact broadcastInDim_apply _ bcast_S_S2048x8 y i (idx_main_call8_v0 i) (fun a => a.elim0)

-- @_take's %1 = stablehlo.compare LT, %arg1, %0, SIGNED : (tensor<2048x8xi32>, tensor<2048x8xi32>) -> tensor<2048x8xi1>, in %88 = func.call @_take(…) (record main_call8)
def val_main_call8_v1 (x0 : (⟨S4x512x1x64, .f32⟩ : BufTy).Contents (Elt F)) (x1 : (⟨S1x512x64, .f32⟩ : BufTy).Contents (Elt F)) : (⟨S2048x8, .i1⟩ : BufTy).Contents (Elt F) :=
  cmpi .slt (val_main_v86 (F := F) x0 x1) (val_main_call8_v0 (F := F))
theorem val_main_call8_v1_apply (x0 : (⟨S4x512x1x64, .f32⟩ : BufTy).Contents (Elt F)) (x1 : (⟨S1x512x64, .f32⟩ : BufTy).Contents (Elt F)) (i : S2048x8.Idx) :
    val_main_call8_v1 (F := F) x0 x1 i = IntOp.cmpi .slt (val_main_v86 (F := F) x0 x1 i) (val_main_call8_v0 (F := F) i) := rfl

-- @_take's %c_0 = stablehlo.constant dense<512> : tensor<i32>, in %88 = func.call @_take(…) (record main_call8)
def val_main_call8_c_0 : (⟨S_, .i32⟩ : BufTy).Contents (Elt F) :=
  constantI S_ 32 512#32
theorem val_main_call8_c_0_apply (i : S_.Idx) :
    val_main_call8_c_0 (F := F) i = 512#32 := rfl

-- @_take's %2 = stablehlo.broadcast_in_dim %c_0, dims = [] : (tensor<i32>) -> tensor<2048x8xi32>, in %88 = func.call @_take(…) (record main_call8)
def val_main_call8_v2 : (⟨S2048x8, .i32⟩ : BufTy).Contents (Elt F) :=
  broadcastInDim S2048x8 ![] bcast_S_S2048x8 (val_main_call8_c_0 (F := F))
abbrev idx_main_call8_v2 (i : S2048x8.Idx) : S_.Idx := fun a => a.elim0
theorem val_main_call8_v2_apply (i : S2048x8.Idx) :
    val_main_call8_v2 (F := F) i = val_main_call8_c_0 (F := F) (idx_main_call8_v2 i) := by
  unfold val_main_call8_v2
  generalize val_main_call8_c_0 (F := F) = y
  exact broadcastInDim_apply _ bcast_S_S2048x8 y i (idx_main_call8_v2 i) (fun a => a.elim0)

-- @_take's %3 = stablehlo.add %arg1, %2 : tensor<2048x8xi32>, in %88 = func.call @_take(…) (record main_call8)
def val_main_call8_v3 (x0 : (⟨S4x512x1x64, .f32⟩ : BufTy).Contents (Elt F)) (x1 : (⟨S1x512x64, .f32⟩ : BufTy).Contents (Elt F)) : (⟨S2048x8, .i32⟩ : BufTy).Contents (Elt F) :=
  addi (val_main_v86 (F := F) x0 x1) (val_main_call8_v2 (F := F))
theorem val_main_call8_v3_apply (x0 : (⟨S4x512x1x64, .f32⟩ : BufTy).Contents (Elt F)) (x1 : (⟨S1x512x64, .f32⟩ : BufTy).Contents (Elt F)) (i : S2048x8.Idx) :
    val_main_call8_v3 (F := F) x0 x1 i = IntOp.addi (val_main_v86 (F := F) x0 x1 i) (val_main_call8_v2 (F := F) i) := rfl

-- @_take's %4 = func.call @_where_1(…) (record main_call8_call0) result 0: @_where_1's %0 = stablehlo.select %arg0, %arg1, %arg2 : tensor<2048x8xi1>, tensor<2048x8xi32>
def val_main_call8_v4 (x0 : (⟨S4x512x1x64, .f32⟩ : BufTy).Contents (Elt F)) (x1 : (⟨S1x512x64, .f32⟩ : BufTy).Contents (Elt F)) : (⟨S2048x8, .i32⟩ : BufTy).Contents (Elt F) :=
  select (val_main_call8_v1 (F := F) x0 x1) (val_main_call8_v3 (F := F) x0 x1) (val_main_v86 (F := F) x0 x1)
theorem val_main_call8_v4_apply (x0 : (⟨S4x512x1x64, .f32⟩ : BufTy).Contents (Elt F)) (x1 : (⟨S1x512x64, .f32⟩ : BufTy).Contents (Elt F)) (i : S2048x8.Idx) :
    val_main_call8_v4 (F := F) x0 x1 i = Scalar.select (val_main_call8_v1 (F := F) x0 x1 i) (val_main_call8_v3 (F := F) x0 x1 i) (val_main_v86 (F := F) x0 x1 i) := rfl

-- @_take's %5 = stablehlo.broadcast_in_dim %4, dims = [0, 1] : (tensor<2048x8xi32>) -> tensor<2048x8x1xi32>, in %88 = func.call @_take(…) (record main_call8)
def val_main_call8_v5 (x0 : (⟨S4x512x1x64, .f32⟩ : BufTy).Contents (Elt F)) (x1 : (⟨S1x512x64, .f32⟩ : BufTy).Contents (Elt F)) : (⟨S2048x8x1, .i32⟩ : BufTy).Contents (Elt F) :=
  broadcastInDim S2048x8x1 ![0, 1] bcast_S2048x8_S2048x8x1_0_1 (val_main_call8_v4 (F := F) x0 x1)
abbrev idx_main_call8_v5 (i : S2048x8x1.Idx) : S2048x8.Idx := fun a => match a with
  | ⟨0, _⟩ => ⟨(i 0).val, (i 0).isLt⟩
  | ⟨1, _⟩ => ⟨(i 1).val, (i 1).isLt⟩
theorem val_main_call8_v5_apply (x0 : (⟨S4x512x1x64, .f32⟩ : BufTy).Contents (Elt F)) (x1 : (⟨S1x512x64, .f32⟩ : BufTy).Contents (Elt F)) (i : S2048x8x1.Idx) :
    val_main_call8_v5 (F := F) x0 x1 i = val_main_call8_v4 (F := F) x0 x1 (idx_main_call8_v5 i) := by
  unfold val_main_call8_v5
  generalize val_main_call8_v4 (F := F) x0 x1 = y
  exact broadcastInDim_apply _ bcast_S2048x8_S2048x8x1_0_1 y i (idx_main_call8_v5 i) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)])

-- @_take's %c_1 = stablehlo.constant dense<511> : tensor<1xi32>, in %88 = func.call @_take(…) (record main_call8)
def val_main_call8_c_1 : (⟨S1, .i32⟩ : BufTy).Contents (Elt F) :=
  constantI S1 32 511#32
theorem val_main_call8_c_1_apply (i : S1.Idx) :
    val_main_call8_c_1 (F := F) i = 511#32 := rfl

-- @_take's %c_2 = stablehlo.constant dense<0> : tensor<i32>, in %88 = func.call @_take(…) (record main_call8)
def val_main_call8_c_2 : (⟨S_, .i32⟩ : BufTy).Contents (Elt F) :=
  constantI S_ 32 0#32
theorem val_main_call8_c_2_apply (i : S_.Idx) :
    val_main_call8_c_2 (F := F) i = 0#32 := rfl

-- @_take's %6 = stablehlo.broadcast_in_dim %c_2, dims = [] : (tensor<i32>) -> tensor<2048x8x1xi32>, in %88 = func.call @_take(…) (record main_call8)
def val_main_call8_v6 : (⟨S2048x8x1, .i32⟩ : BufTy).Contents (Elt F) :=
  broadcastInDim S2048x8x1 ![] bcast_S_S2048x8x1 (val_main_call8_c_2 (F := F))
abbrev idx_main_call8_v6 (i : S2048x8x1.Idx) : S_.Idx := fun a => a.elim0
theorem val_main_call8_v6_apply (i : S2048x8x1.Idx) :
    val_main_call8_v6 (F := F) i = val_main_call8_c_2 (F := F) (idx_main_call8_v6 i) := by
  unfold val_main_call8_v6
  generalize val_main_call8_c_2 (F := F) = y
  exact broadcastInDim_apply _ bcast_S_S2048x8x1 y i (idx_main_call8_v6 i) (fun a => a.elim0)

-- @_take's %7 = stablehlo.compare GE, %5, %6, SIGNED : (tensor<2048x8x1xi32>, tensor<2048x8x1xi32>) -> tensor<2048x8x1xi1>, in %88 = func.call @_take(…) (record main_call8)
def val_main_call8_v7 (x0 : (⟨S4x512x1x64, .f32⟩ : BufTy).Contents (Elt F)) (x1 : (⟨S1x512x64, .f32⟩ : BufTy).Contents (Elt F)) : (⟨S2048x8x1, .i1⟩ : BufTy).Contents (Elt F) :=
  cmpi .sge (val_main_call8_v5 (F := F) x0 x1) (val_main_call8_v6 (F := F))
theorem val_main_call8_v7_apply (x0 : (⟨S4x512x1x64, .f32⟩ : BufTy).Contents (Elt F)) (x1 : (⟨S1x512x64, .f32⟩ : BufTy).Contents (Elt F)) (i : S2048x8x1.Idx) :
    val_main_call8_v7 (F := F) x0 x1 i = IntOp.cmpi .sge (val_main_call8_v5 (F := F) x0 x1 i) (val_main_call8_v6 (F := F) i) := rfl

-- @_take's %8 = stablehlo.broadcast_in_dim %c_1, dims = [2] : (tensor<1xi32>) -> tensor<1x1x1xi32>, in %88 = func.call @_take(…) (record main_call8)
def val_main_call8_v8 : (⟨S1x1x1, .i32⟩ : BufTy).Contents (Elt F) :=
  broadcastInDim S1x1x1 ![2] bcast_S1_S1x1x1_2 (val_main_call8_c_1 (F := F))
abbrev idx_main_call8_v8 (i : S1x1x1.Idx) : S1.Idx := fun a => match a with
  | ⟨0, _⟩ => ⟨0, Nat.one_pos⟩
theorem val_main_call8_v8_apply (i : S1x1x1.Idx) :
    val_main_call8_v8 (F := F) i = val_main_call8_c_1 (F := F) (idx_main_call8_v8 i) := by
  unfold val_main_call8_v8
  generalize val_main_call8_c_1 (F := F) = y
  exact broadcastInDim_apply _ bcast_S1_S1x1x1_2 y i (idx_main_call8_v8 i) (fun a => match a with
    | ⟨0, _⟩ => by show 0 = if (1 : Nat) = 1 then 0 else (i 2).val; rw [if_pos rfl])

-- @_take's %9 = stablehlo.broadcast_in_dim %8, dims = [0, 1, 2] : (tensor<1x1x1xi32>) -> tensor<2048x8x1xi32>, in %88 = func.call @_take(…) (record main_call8)
def val_main_call8_v9 : (⟨S2048x8x1, .i32⟩ : BufTy).Contents (Elt F) :=
  broadcastInDim S2048x8x1 ![0, 1, 2] bcast_S1x1x1_S2048x8x1_0_1_2 (val_main_call8_v8 (F := F))
abbrev idx_main_call8_v9 (i : S2048x8x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call8_v9_apply (i : S2048x8x1.Idx) :
    val_main_call8_v9 (F := F) i = val_main_call8_v8 (F := F) (idx_main_call8_v9 i) := by
  unfold val_main_call8_v9
  generalize val_main_call8_v8 (F := F) = y
  exact broadcastInDim_apply _ bcast_S1x1x1_S2048x8x1_0_1_2 y i (idx_main_call8_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @_take's %10 = stablehlo.compare LE, %5, %9, SIGNED : (tensor<2048x8x1xi32>, tensor<2048x8x1xi32>) -> tensor<2048x8x1xi1>, in %88 = func.call @_take(…) (record main_call8)
def val_main_call8_v10 (x0 : (⟨S4x512x1x64, .f32⟩ : BufTy).Contents (Elt F)) (x1 : (⟨S1x512x64, .f32⟩ : BufTy).Contents (Elt F)) : (⟨S2048x8x1, .i1⟩ : BufTy).Contents (Elt F) :=
  cmpi .sle (val_main_call8_v5 (F := F) x0 x1) (val_main_call8_v9 (F := F))
theorem val_main_call8_v10_apply (x0 : (⟨S4x512x1x64, .f32⟩ : BufTy).Contents (Elt F)) (x1 : (⟨S1x512x64, .f32⟩ : BufTy).Contents (Elt F)) (i : S2048x8x1.Idx) :
    val_main_call8_v10 (F := F) x0 x1 i = IntOp.cmpi .sle (val_main_call8_v5 (F := F) x0 x1 i) (val_main_call8_v9 (F := F) i) := rfl

-- @_take's %11 = stablehlo.and %7, %10 : tensor<2048x8x1xi1>, in %88 = func.call @_take(…) (record main_call8)
def val_main_call8_v11 (x0 : (⟨S4x512x1x64, .f32⟩ : BufTy).Contents (Elt F)) (x1 : (⟨S1x512x64, .f32⟩ : BufTy).Contents (Elt F)) : (⟨S2048x8x1, .i1⟩ : BufTy).Contents (Elt F) :=
  andi (val_main_call8_v7 (F := F) x0 x1) (val_main_call8_v10 (F := F) x0 x1)
theorem val_main_call8_v11_apply (x0 : (⟨S4x512x1x64, .f32⟩ : BufTy).Contents (Elt F)) (x1 : (⟨S1x512x64, .f32⟩ : BufTy).Contents (Elt F)) (i : S2048x8x1.Idx) :
    val_main_call8_v11 (F := F) x0 x1 i = IntOp.andi (val_main_call8_v7 (F := F) x0 x1 i) (val_main_call8_v10 (F := F) x0 x1 i) := rfl

-- @_take's %c_3 = stablehlo.constant dense<true> : tensor<i1>, in %88 = func.call @_take(…) (record main_call8)
def val_main_call8_c_3 : (⟨S_, .i1⟩ : BufTy).Contents (Elt F) :=
  constantI S_ 1 1#1
theorem val_main_call8_c_3_apply (i : S_.Idx) :
    val_main_call8_c_3 (F := F) i = 1#1 := rfl

-- @_take's %12 = stablehlo.reduce(%11 init: %c_3) applies stablehlo.and across dimensions = [2] : (tensor<2048x8x1xi1>, tensor<i1>) -> tensor<2048x8xi1> {, in %88 = func.call @_take(…) (record main_call8)
def val_main_call8_v12 (x0 : (⟨S4x512x1x64, .f32⟩ : BufTy).Contents (Elt F)) (x1 : (⟨S1x512x64, .f32⟩ : BufTy).Contents (Elt F)) : (⟨S2048x8, .i1⟩ : BufTy).Contents (Elt F) :=
  Host.reduce IntOp.andi (val_main_call8_v11 (F := F) x0 x1) (val_main_call8_c_3 (F := F)) reducesTo_S2048x8x1_S2048x8_d2 h_S_

-- @_take's %13 = "stablehlo.gather"(%arg0, %5) <{dimension_numbers = #stablehlo.gather<offset_dims = [2], collapsed_slice_dims = [0], start_index_map = [0], index_vector_dim = 2>, indices_are_sorted = false, slice_sizes = array<i64: 1, 64>}> : (tensor<512x64xf32>, tensor<2048x8x1xi32>) -> tensor<2048x8x64xf32>, in %88 = func.call @_take(…) (record main_call8)
def val_main_call8_v13 (x0 : (⟨S4x512x1x64, .f32⟩ : BufTy).Contents (Elt F)) (x1 : (⟨S1x512x64, .f32⟩ : BufTy).Contents (Elt F)) : (⟨S2048x8x64, .f32⟩ : BufTy).Contents (Elt F) :=
  Host.gather gather_S512x64_S2048x8x1_S2048x8x64_2_0_n_n_0_2_164 (val_main_v87 (F := F) x1) (val_main_call8_v5 (F := F) x0 x1)

-- @_take's %14 = stablehlo.broadcast_in_dim %12, dims = [0, 1] : (tensor<2048x8xi1>) -> tensor<2048x8x64xi1>, in %88 = func.call @_take(…) (record main_call8)
def val_main_call8_v14 (x0 : (⟨S4x512x1x64, .f32⟩ : BufTy).Contents (Elt F)) (x1 : (⟨S1x512x64, .f32⟩ : BufTy).Contents (Elt F)) : (⟨S2048x8x64, .i1⟩ : BufTy).Contents (Elt F) :=
  broadcastInDim S2048x8x64 ![0, 1] bcast_S2048x8_S2048x8x64_0_1 (val_main_call8_v12 (F := F) x0 x1)
abbrev idx_main_call8_v14 (i : S2048x8x64.Idx) : S2048x8.Idx := fun a => match a with
  | ⟨0, _⟩ => ⟨(i 0).val, (i 0).isLt⟩
  | ⟨1, _⟩ => ⟨(i 1).val, (i 1).isLt⟩
theorem val_main_call8_v14_apply (x0 : (⟨S4x512x1x64, .f32⟩ : BufTy).Contents (Elt F)) (x1 : (⟨S1x512x64, .f32⟩ : BufTy).Contents (Elt F)) (i : S2048x8x64.Idx) :
    val_main_call8_v14 (F := F) x0 x1 i = val_main_call8_v12 (F := F) x0 x1 (idx_main_call8_v14 i) := by
  unfold val_main_call8_v14
  generalize val_main_call8_v12 (F := F) x0 x1 = y
  exact broadcastInDim_apply _ bcast_S2048x8_S2048x8x64_0_1 y i (idx_main_call8_v14 i) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)])

-- @_take's %cst = stablehlo.constant dense<0x7FC00000> : tensor<f32>, in %88 = func.call @_take(…) (record main_call8)
def val_main_call8_cst : (⟨S_, .f32⟩ : BufTy).Contents (Elt F) :=
  constant S_ .f32 0x7FC00000#32
theorem val_main_call8_cst_apply (i : S_.Idx) :
    val_main_call8_cst (F := F) i = FloatOps.ofBits .f32 0x7FC00000#32 := rfl

-- @_take's %15 = stablehlo.broadcast_in_dim %cst, dims = [] : (tensor<f32>) -> tensor<2048x8x64xf32>, in %88 = func.call @_take(…) (record main_call8)
def val_main_call8_v15 : (⟨S2048x8x64, .f32⟩ : BufTy).Contents (Elt F) :=
  broadcastInDim S2048x8x64 ![] bcast_S_S2048x8x64 (val_main_call8_cst (F := F))
abbrev idx_main_call8_v15 (i : S2048x8x64.Idx) : S_.Idx := fun a => a.elim0
theorem val_main_call8_v15_apply (i : S2048x8x64.Idx) :
    val_main_call8_v15 (F := F) i = val_main_call8_cst (F := F) (idx_main_call8_v15 i) := by
  unfold val_main_call8_v15
  generalize val_main_call8_cst (F := F) = y
  exact broadcastInDim_apply _ bcast_S_S2048x8x64 y i (idx_main_call8_v15 i) (fun a => a.elim0)

-- %88 = func.call @_take(…) (record main_call8) result 0: @_take's %16 = stablehlo.select %14, %13, %15 : tensor<2048x8x64xi1>, tensor<2048x8x64xf32>
def val_main_v88 (x0 : (⟨S4x512x1x64, .f32⟩ : BufTy).Contents (Elt F)) (x1 : (⟨S1x512x64, .f32⟩ : BufTy).Contents (Elt F)) : (⟨S2048x8x64, .f32⟩ : BufTy).Contents (Elt F) :=
  select (val_main_call8_v14 (F := F) x0 x1) (val_main_call8_v13 (F := F) x0 x1) (val_main_call8_v15 (F := F))
theorem val_main_v88_apply (x0 : (⟨S4x512x1x64, .f32⟩ : BufTy).Contents (Elt F)) (x1 : (⟨S1x512x64, .f32⟩ : BufTy).Contents (Elt F)) (i : S2048x8x64.Idx) :
    val_main_v88 (F := F) x0 x1 i = Scalar.select (val_main_call8_v14 (F := F) x0 x1 i) (val_main_call8_v13 (F := F) x0 x1 i) (val_main_call8_v15 (F := F) i) := rfl

-- %89 = stablehlo.broadcast_in_dim %53, dims = [0, 1] : (tensor<2048x8xf32>) -> tensor<2048x8x1xf32>
def val_main_v89 (x0 : (⟨S4x512x1x64, .f32⟩ : BufTy).Contents (Elt F)) (x1 : (⟨S1x512x64, .f32⟩ : BufTy).Contents (Elt F)) : (⟨S2048x8x1, .f32⟩ : BufTy).Contents (Elt F) :=
  broadcastInDim S2048x8x1 ![0, 1] bcast_S2048x8_S2048x8x1_0_1 (val_main_v53 (F := F) x0 x1)
abbrev idx_main_v89 (i : S2048x8x1.Idx) : S2048x8.Idx := fun a => match a with
  | ⟨0, _⟩ => ⟨(i 0).val, (i 0).isLt⟩
  | ⟨1, _⟩ => ⟨(i 1).val, (i 1).isLt⟩
theorem val_main_v89_apply (x0 : (⟨S4x512x1x64, .f32⟩ : BufTy).Contents (Elt F)) (x1 : (⟨S1x512x64, .f32⟩ : BufTy).Contents (Elt F)) (i : S2048x8x1.Idx) :
    val_main_v89 (F := F) x0 x1 i = val_main_v53 (F := F) x0 x1 (idx_main_v89 i) := by
  unfold val_main_v89
  generalize val_main_v53 (F := F) x0 x1 = y
  exact broadcastInDim_apply _ bcast_S2048x8_S2048x8x1_0_1 y i (idx_main_v89 i) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)])

-- %90 = stablehlo.broadcast_in_dim %89, dims = [0, 1, 2] : (tensor<2048x8x1xf32>) -> tensor<2048x8x64xf32>
def val_main_v90 (x0 : (⟨S4x512x1x64, .f32⟩ : BufTy).Contents (Elt F)) (x1 : (⟨S1x512x64, .f32⟩ : BufTy).Contents (Elt F)) : (⟨S2048x8x64, .f32⟩ : BufTy).Contents (Elt F) :=
  broadcastInDim S2048x8x64 ![0, 1, 2] bcast_S2048x8x1_S2048x8x64_0_1_2 (val_main_v89 (F := F) x0 x1)
abbrev idx_main_v90 (i : S2048x8x64.Idx) : S2048x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v90_apply (x0 : (⟨S4x512x1x64, .f32⟩ : BufTy).Contents (Elt F)) (x1 : (⟨S1x512x64, .f32⟩ : BufTy).Contents (Elt F)) (i : S2048x8x64.Idx) :
    val_main_v90 (F := F) x0 x1 i = val_main_v89 (F := F) x0 x1 (idx_main_v90 i) := by
  unfold val_main_v90
  generalize val_main_v89 (F := F) x0 x1 = y
  exact broadcastInDim_apply _ bcast_S2048x8x1_S2048x8x64_0_1_2 y i (idx_main_v90 i) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %91 = stablehlo.multiply %88, %90 : tensor<2048x8x64xf32>
def val_main_v91 (x0 : (⟨S4x512x1x64, .f32⟩ : BufTy).Contents (Elt F)) (x1 : (⟨S1x512x64, .f32⟩ : BufTy).Contents (Elt F)) : (⟨S2048x8x64, .f32⟩ : BufTy).Contents (Elt F) :=
  mulf (val_main_v88 (F := F) x0 x1) (val_main_v90 (F := F) x0 x1)
theorem val_main_v91_apply (x0 : (⟨S4x512x1x64, .f32⟩ : BufTy).Contents (Elt F)) (x1 : (⟨S1x512x64, .f32⟩ : BufTy).Contents (Elt F)) (i : S2048x8x64.Idx) :
    val_main_v91 (F := F) x0 x1 i = FloatOps.mulf (val_main_v88 (F := F) x0 x1 i) (val_main_v90 (F := F) x0 x1 i) := rfl

-- %cst_22 = stablehlo.constant dense<0.000000e+00> : tensor<f32>
def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

-- %92 = stablehlo.reduce(%91 init: %cst_22) applies stablehlo.add across dimensions = [1] : (tensor<2048x8x64xf32>, tensor<f32>) -> tensor<2048x64xf32> {
def val_main_v92 (x0 : (⟨S4x512x1x64, .f32⟩ : BufTy).Contents (Elt F)) (x1 : (⟨S1x512x64, .f32⟩ : BufTy).Contents (Elt F)) : (⟨S2048x64, .f32⟩ : BufTy).Contents (Elt F) :=
  Host.reduceAdd (val_main_v91 (F := F) x0 x1) (val_main_cst_22 (F := F)) reducesTo_S2048x8x64_S2048x64_d1 h_S_
abbrev idx_main_v92 (i : S2048x64.Idx) (k : Fin 8) : S2048x8x64.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v92_apply (x0 : (⟨S4x512x1x64, .f32⟩ : BufTy).Contents (Elt Ideal)) (x1 : (⟨S1x512x64, .f32⟩ : BufTy).Contents (Elt Ideal)) (i : S2048x64.Idx) :
    val_main_v92 (F := Ideal) x0 x1 i = (val_main_cst_22 (F := Ideal)) (Shape.Idx.first h_S_) + ∑ k : Fin 8, (val_main_v91 (F := Ideal) x0 x1) (idx_main_v92 i k) := by
  unfold val_main_v92
  generalize val_main_v91 (F := Ideal) x0 x1 = y0
  simp only [Host.reduceAdd, Ideal.hostReduceAdd_def]
  rw [Ideal.hostReduceAdd_single reducesTo_S2048x8x64_S2048x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %93 = stablehlo.reshape %92 : (tensor<2048x64xf32>) -> tensor<4x512x1x64xf32>
def val_main_v93 (x0 : (⟨S4x512x1x64, .f32⟩ : BufTy).Contents (Elt F)) (x1 : (⟨S1x512x64, .f32⟩ : BufTy).Contents (Elt F)) : (⟨S4x512x1x64, .f32⟩ : BufTy).Contents (Elt F) :=
  shapeCast _ (val_main_v92 (F := F) x0 x1) shapeCasts_S2048x64_S4x512x1x64
set_option backward.proofsInPublic true in
abbrev idx_main_v93 (i : S4x512x1x64.Idx) : S2048x64.Idx := fun a => match a with
  | ⟨0, _⟩ => ⟨((((i 0).val * 512 + (i 1).val) * 1 + (i 2).val) * 64 + (i 3).val) / 64, by have h0 : (i 0).val < 4 := (i 0).isLt; have h1 : (i 1).val < 512 := (i 1).isLt; have h2 : (i 2).val < 1 := (i 2).isLt; have h3 : (i 3).val < 64 := (i 3).isLt; show ((((i 0).val * 512 + (i 1).val) * 1 + (i 2).val) * 64 + (i 3).val) / 64 < 2048; omega⟩
  | ⟨1, _⟩ => ⟨((((i 0).val * 512 + (i 1).val) * 1 + (i 2).val) * 64 + (i 3).val) % 64, by have h0 : (i 0).val < 4 := (i 0).isLt; have h1 : (i 1).val < 512 := (i 1).isLt; have h2 : (i 2).val < 1 := (i 2).isLt; have h3 : (i 3).val < 64 := (i 3).isLt; show ((((i 0).val * 512 + (i 1).val) * 1 + (i 2).val) * 64 + (i 3).val) % 64 < 64; omega⟩
theorem val_main_v93_apply (x0 : (⟨S4x512x1x64, .f32⟩ : BufTy).Contents (Elt F)) (x1 : (⟨S1x512x64, .f32⟩ : BufTy).Contents (Elt F)) (i : S4x512x1x64.Idx) :
    val_main_v93 (F := F) x0 x1 i = val_main_v92 (F := F) x0 x1 (idx_main_v93 i) := by
  unfold val_main_v93
  generalize val_main_v92 (F := F) x0 x1 = y
  exact shapeCast_apply y shapeCasts_S2048x64_S4x512x1x64 i (idx_main_v93 i)
    (by rewrite [Shape.rowMajor_val_two, Shape.rowMajor_val_four]; have h0 : (i 0).val < 4 := (i 0).isLt; have h1 : (i 1).val < 512 := (i 1).isLt; have h2 : (i 2).val < 1 := (i 2).isLt; have h3 : (i 3).val < 64 := (i 3).isLt; show ((((i 0).val * 512 + (i 1).val) * 1 + (i 2).val) * 64 + (i 3).val) / 64 * 64 + ((((i 0).val * 512 + (i 1).val) * 1 + (i 2).val) * 64 + (i 3).val) % 64 = (((i 0).val * 512 + (i 1).val) * 1 + (i 2).val) * 64 + (i 3).val; omega)

-- %94 = stablehlo.subtract %93, %arg0 : tensor<4x512x1x64xf32>
def val_main_v94 (x0 : (⟨S4x512x1x64, .f32⟩ : BufTy).Contents (Elt F)) (x1 : (⟨S1x512x64, .f32⟩ : BufTy).Contents (Elt F)) : (⟨S4x512x1x64, .f32⟩ : BufTy).Contents (Elt F) :=
  subf (val_main_v93 (F := F) x0 x1) (x0)
theorem val_main_v94_apply (x0 : (⟨S4x512x1x64, .f32⟩ : BufTy).Contents (Elt F)) (x1 : (⟨S1x512x64, .f32⟩ : BufTy).Contents (Elt F)) (i : S4x512x1x64.Idx) :
    val_main_v94 (F := F) x0 x1 i = FloatOps.subf (val_main_v93 (F := F) x0 x1 i) (x0 i) := rfl

-- %95 = stablehlo.add %94, %arg0 : tensor<4x512x1x64xf32>
def val_main_v95 (x0 : (⟨S4x512x1x64, .f32⟩ : BufTy).Contents (Elt F)) (x1 : (⟨S1x512x64, .f32⟩ : BufTy).Contents (Elt F)) : (⟨S4x512x1x64, .f32⟩ : BufTy).Contents (Elt F) :=
  addf (val_main_v94 (F := F) x0 x1) (x0)
theorem val_main_v95_apply (x0 : (⟨S4x512x1x64, .f32⟩ : BufTy).Contents (Elt F)) (x1 : (⟨S1x512x64, .f32⟩ : BufTy).Contents (Elt F)) (i : S4x512x1x64.Idx) :
    val_main_v95 (F := F) x0 x1 i = FloatOps.addf (val_main_v94 (F := F) x0 x1 i) (x0 i) := rfl

-- %96 = stablehlo.subtract %arg0, %93 : tensor<4x512x1x64xf32>
def val_main_v96 (x0 : (⟨S4x512x1x64, .f32⟩ : BufTy).Contents (Elt F)) (x1 : (⟨S1x512x64, .f32⟩ : BufTy).Contents (Elt F)) : (⟨S4x512x1x64, .f32⟩ : BufTy).Contents (Elt F) :=
  subf (x0) (val_main_v93 (F := F) x0 x1)
theorem val_main_v96_apply (x0 : (⟨S4x512x1x64, .f32⟩ : BufTy).Contents (Elt F)) (x1 : (⟨S1x512x64, .f32⟩ : BufTy).Contents (Elt F)) (i : S4x512x1x64.Idx) :
    val_main_v96 (F := F) x0 x1 i = FloatOps.subf (x0 i) (val_main_v93 (F := F) x0 x1 i) := rfl

-- @norm_2's %0 = stablehlo.multiply %arg0, %arg0 : tensor<4x512x1x64xf32>, in %97 = func.call @norm_2(…) (record main_call9)
def val_main_call9_v0 (x0 : (⟨S4x512x1x64, .f32⟩ : BufTy).Contents (Elt F)) (x1 : (⟨S1x512x64, .f32⟩ : BufTy).Contents (Elt F)) : (⟨S4x512x1x64, .f32⟩ : BufTy).Contents (Elt F) :=
  mulf (val_main_v96 (F := F) x0 x1) (val_main_v96 (F := F) x0 x1)
theorem val_main_call9_v0_apply (x0 : (⟨S4x512x1x64, .f32⟩ : BufTy).Contents (Elt F)) (x1 : (⟨S1x512x64, .f32⟩ : BufTy).Contents (Elt F)) (i : S4x512x1x64.Idx) :
    val_main_call9_v0 (F := F) x0 x1 i = FloatOps.mulf (val_main_v96 (F := F) x0 x1 i) (val_main_v96 (F := F) x0 x1 i) := rfl

-- @norm_2's %cst = stablehlo.constant dense<0.000000e+00> : tensor<f32>, in %97 = func.call @norm_2(…) (record main_call9)
def val_main_call9_cst : (⟨S_, .f32⟩ : BufTy).Contents (Elt F) :=
  constant S_ .f32 0x00000000#32
theorem val_main_call9_cst_apply (i : S_.Idx) :
    val_main_call9_cst (F := F) i = FloatOps.ofBits .f32 0x00000000#32 := rfl

-- @norm_2's %1 = stablehlo.reduce(%0 init: %cst) applies stablehlo.add across dimensions = [3] : (tensor<4x512x1x64xf32>, tensor<f32>) -> tensor<4x512x1xf32> {, in %97 = func.call @norm_2(…) (record main_call9)
def val_main_call9_v1 (x0 : (⟨S4x512x1x64, .f32⟩ : BufTy).Contents (Elt F)) (x1 : (⟨S1x512x64, .f32⟩ : BufTy).Contents (Elt F)) : (⟨S4x512x1, .f32⟩ : BufTy).Contents (Elt F) :=
  Host.reduceAdd (val_main_call9_v0 (F := F) x0 x1) (val_main_call9_cst (F := F)) reducesTo_S4x512x1x64_S4x512x1_d3 h_S_
abbrev idx_main_call9_v1 (i : S4x512x1.Idx) (k : Fin 64) : S4x512x1x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_call9_v1_apply (x0 : (⟨S4x512x1x64, .f32⟩ : BufTy).Contents (Elt Ideal)) (x1 : (⟨S1x512x64, .f32⟩ : BufTy).Contents (Elt Ideal)) (i : S4x512x1.Idx) :
    val_main_call9_v1 (F := Ideal) x0 x1 i = (val_main_call9_cst (F := Ideal)) (Shape.Idx.first h_S_) + ∑ k : Fin 64, (val_main_call9_v0 (F := Ideal) x0 x1) (idx_main_call9_v1 i k) := by
  unfold val_main_call9_v1
  generalize val_main_call9_v0 (F := Ideal) x0 x1 = y0
  simp only [Host.reduceAdd, Ideal.hostReduceAdd_def]
  rw [Ideal.hostReduceAdd_single reducesTo_S4x512x1x64_S4x512x1_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %97 = func.call @norm_2(…) (record main_call9) result 0: @norm_2's %2 = stablehlo.sqrt %1 : tensor<4x512x1xf32>
def val_main_v97 (x0 : (⟨S4x512x1x64, .f32⟩ : BufTy).Contents (Elt F)) (x1 : (⟨S1x512x64, .f32⟩ : BufTy).Contents (Elt F)) : (⟨S4x512x1, .f32⟩ : BufTy).Contents (Elt F) :=
  Host.sqrt (val_main_call9_v1 (F := F) x0 x1)
theorem val_main_v97_apply (x0 : (⟨S4x512x1x64, .f32⟩ : BufTy).Contents (Elt F)) (x1 : (⟨S1x512x64, .f32⟩ : BufTy).Contents (Elt F)) (i : S4x512x1.Idx) :
    val_main_v97 (F := F) x0 x1 i = FloatOps.hostUnary .sqrt (val_main_call9_v1 (F := F) x0 x1 i) := rfl

-- %98 = stablehlo.multiply %97, %97 : tensor<4x512x1xf32>
def val_main_v98 (x0 : (⟨S4x512x1x64, .f32⟩ : BufTy).Contents (Elt F)) (x1 : (⟨S1x512x64, .f32⟩ : BufTy).Contents (Elt F)) : (⟨S4x512x1, .f32⟩ : BufTy).Contents (Elt F) :=
  mulf (val_main_v97 (F := F) x0 x1) (val_main_v97 (F := F) x0 x1)
theorem val_main_v98_apply (x0 : (⟨S4x512x1x64, .f32⟩ : BufTy).Contents (Elt F)) (x1 : (⟨S1x512x64, .f32⟩ : BufTy).Contents (Elt F)) (i : S4x512x1.Idx) :
    val_main_v98 (F := F) x0 x1 i = FloatOps.mulf (val_main_v97 (F := F) x0 x1 i) (val_main_v97 (F := F) x0 x1 i) := rfl

-- %99 = stablehlo.subtract %arg0, %93 : tensor<4x512x1x64xf32>
def val_main_v99 (x0 : (⟨S4x512x1x64, .f32⟩ : BufTy).Contents (Elt F)) (x1 : (⟨S1x512x64, .f32⟩ : BufTy).Contents (Elt F)) : (⟨S4x512x1x64, .f32⟩ : BufTy).Contents (Elt F) :=
  subf (x0) (val_main_v93 (F := F) x0 x1)
theorem val_main_v99_apply (x0 : (⟨S4x512x1x64, .f32⟩ : BufTy).Contents (Elt F)) (x1 : (⟨S1x512x64, .f32⟩ : BufTy).Contents (Elt F)) (i : S4x512x1x64.Idx) :
    val_main_v99 (F := F) x0 x1 i = FloatOps.subf (x0 i) (val_main_v93 (F := F) x0 x1 i) := rfl

-- @norm_2's %0 = stablehlo.multiply %arg0, %arg0 : tensor<4x512x1x64xf32>, in %100 = func.call @norm_2(…) (record main_call10)
def val_main_call10_v0 (x0 : (⟨S4x512x1x64, .f32⟩ : BufTy).Contents (Elt F)) (x1 : (⟨S1x512x64, .f32⟩ : BufTy).Contents (Elt F)) : (⟨S4x512x1x64, .f32⟩ : BufTy).Contents (Elt F) :=
  mulf (val_main_v99 (F := F) x0 x1) (val_main_v99 (F := F) x0 x1)
theorem val_main_call10_v0_apply (x0 : (⟨S4x512x1x64, .f32⟩ : BufTy).Contents (Elt F)) (x1 : (⟨S1x512x64, .f32⟩ : BufTy).Contents (Elt F)) (i : S4x512x1x64.Idx) :
    val_main_call10_v0 (F := F) x0 x1 i = FloatOps.mulf (val_main_v99 (F := F) x0 x1 i) (val_main_v99 (F := F) x0 x1 i) := rfl

-- @norm_2's %cst = stablehlo.constant dense<0.000000e+00> : tensor<f32>, in %100 = func.call @norm_2(…) (record main_call10)
def val_main_call10_cst : (⟨S_, .f32⟩ : BufTy).Contents (Elt F) :=
  constant S_ .f32 0x00000000#32
theorem val_main_call10_cst_apply (i : S_.Idx) :
    val_main_call10_cst (F := F) i = FloatOps.ofBits .f32 0x00000000#32 := rfl

-- @norm_2's %1 = stablehlo.reduce(%0 init: %cst) applies stablehlo.add across dimensions = [3] : (tensor<4x512x1x64xf32>, tensor<f32>) -> tensor<4x512x1xf32> {, in %100 = func.call @norm_2(…) (record main_call10)
def val_main_call10_v1 (x0 : (⟨S4x512x1x64, .f32⟩ : BufTy).Contents (Elt F)) (x1 : (⟨S1x512x64, .f32⟩ : BufTy).Contents (Elt F)) : (⟨S4x512x1, .f32⟩ : BufTy).Contents (Elt F) :=
  Host.reduceAdd (val_main_call10_v0 (F := F) x0 x1) (val_main_call10_cst (F := F)) reducesTo_S4x512x1x64_S4x512x1_d3 h_S_
abbrev idx_main_call10_v1 (i : S4x512x1.Idx) (k : Fin 64) : S4x512x1x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_call10_v1_apply (x0 : (⟨S4x512x1x64, .f32⟩ : BufTy).Contents (Elt Ideal)) (x1 : (⟨S1x512x64, .f32⟩ : BufTy).Contents (Elt Ideal)) (i : S4x512x1.Idx) :
    val_main_call10_v1 (F := Ideal) x0 x1 i = (val_main_call10_cst (F := Ideal)) (Shape.Idx.first h_S_) + ∑ k : Fin 64, (val_main_call10_v0 (F := Ideal) x0 x1) (idx_main_call10_v1 i k) := by
  unfold val_main_call10_v1
  generalize val_main_call10_v0 (F := Ideal) x0 x1 = y0
  simp only [Host.reduceAdd, Ideal.hostReduceAdd_def]
  rw [Ideal.hostReduceAdd_single reducesTo_S4x512x1x64_S4x512x1_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %100 = func.call @norm_2(…) (record main_call10) result 0: @norm_2's %2 = stablehlo.sqrt %1 : tensor<4x512x1xf32>
def val_main_v100 (x0 : (⟨S4x512x1x64, .f32⟩ : BufTy).Contents (Elt F)) (x1 : (⟨S1x512x64, .f32⟩ : BufTy).Contents (Elt F)) : (⟨S4x512x1, .f32⟩ : BufTy).Contents (Elt F) :=
  Host.sqrt (val_main_call10_v1 (F := F) x0 x1)
theorem val_main_v100_apply (x0 : (⟨S4x512x1x64, .f32⟩ : BufTy).Contents (Elt F)) (x1 : (⟨S1x512x64, .f32⟩ : BufTy).Contents (Elt F)) (i : S4x512x1.Idx) :
    val_main_v100 (F := F) x0 x1 i = FloatOps.hostUnary .sqrt (val_main_call10_v1 (F := F) x0 x1 i) := rfl

-- %101 = stablehlo.multiply %100, %100 : tensor<4x512x1xf32>
def val_main_v101 (x0 : (⟨S4x512x1x64, .f32⟩ : BufTy).Contents (Elt F)) (x1 : (⟨S1x512x64, .f32⟩ : BufTy).Contents (Elt F)) : (⟨S4x512x1, .f32⟩ : BufTy).Contents (Elt F) :=
  mulf (val_main_v100 (F := F) x0 x1) (val_main_v100 (F := F) x0 x1)
theorem val_main_v101_apply (x0 : (⟨S4x512x1x64, .f32⟩ : BufTy).Contents (Elt F)) (x1 : (⟨S1x512x64, .f32⟩ : BufTy).Contents (Elt F)) (i : S4x512x1.Idx) :
    val_main_v101 (F := F) x0 x1 i = FloatOps.mulf (val_main_v100 (F := F) x0 x1 i) (val_main_v100 (F := F) x0 x1 i) := rfl

-- %102 = stablehlo.subtract %arg0, %arg0 : tensor<4x512x1x64xf32>
def val_main_v102 (x0 : (⟨S4x512x1x64, .f32⟩ : BufTy).Contents (Elt F)) : (⟨S4x512x1x64, .f32⟩ : BufTy).Contents (Elt F) :=
  subf (x0) (x0)
theorem val_main_v102_apply (x0 : (⟨S4x512x1x64, .f32⟩ : BufTy).Contents (Elt F)) (i : S4x512x1x64.Idx) :
    val_main_v102 (F := F) x0 i = FloatOps.subf (x0 i) (x0 i) := rfl

-- @norm_2's %0 = stablehlo.multiply %arg0, %arg0 : tensor<4x512x1x64xf32>, in %103 = func.call @norm_2(…) (record main_call11)
def val_main_call11_v0 (x0 : (⟨S4x512x1x64, .f32⟩ : BufTy).Contents (Elt F)) : (⟨S4x512x1x64, .f32⟩ : BufTy).Contents (Elt F) :=
  mulf (val_main_v102 (F := F) x0) (val_main_v102 (F := F) x0)
theorem val_main_call11_v0_apply (x0 : (⟨S4x512x1x64, .f32⟩ : BufTy).Contents (Elt F)) (i : S4x512x1x64.Idx) :
    val_main_call11_v0 (F := F) x0 i = FloatOps.mulf (val_main_v102 (F := F) x0 i) (val_main_v102 (F := F) x0 i) := rfl

-- @norm_2's %cst = stablehlo.constant dense<0.000000e+00> : tensor<f32>, in %103 = func.call @norm_2(…) (record main_call11)
def val_main_call11_cst : (⟨S_, .f32⟩ : BufTy).Contents (Elt F) :=
  constant S_ .f32 0x00000000#32
theorem val_main_call11_cst_apply (i : S_.Idx) :
    val_main_call11_cst (F := F) i = FloatOps.ofBits .f32 0x00000000#32 := rfl

-- @norm_2's %1 = stablehlo.reduce(%0 init: %cst) applies stablehlo.add across dimensions = [3] : (tensor<4x512x1x64xf32>, tensor<f32>) -> tensor<4x512x1xf32> {, in %103 = func.call @norm_2(…) (record main_call11)
def val_main_call11_v1 (x0 : (⟨S4x512x1x64, .f32⟩ : BufTy).Contents (Elt F)) : (⟨S4x512x1, .f32⟩ : BufTy).Contents (Elt F) :=
  Host.reduceAdd (val_main_call11_v0 (F := F) x0) (val_main_call11_cst (F := F)) reducesTo_S4x512x1x64_S4x512x1_d3 h_S_
abbrev idx_main_call11_v1 (i : S4x512x1.Idx) (k : Fin 64) : S4x512x1x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_call11_v1_apply (x0 : (⟨S4x512x1x64, .f32⟩ : BufTy).Contents (Elt Ideal)) (i : S4x512x1.Idx) :
    val_main_call11_v1 (F := Ideal) x0 i = (val_main_call11_cst (F := Ideal)) (Shape.Idx.first h_S_) + ∑ k : Fin 64, (val_main_call11_v0 (F := Ideal) x0) (idx_main_call11_v1 i k) := by
  unfold val_main_call11_v1
  generalize val_main_call11_v0 (F := Ideal) x0 = y0
  simp only [Host.reduceAdd, Ideal.hostReduceAdd_def]
  rw [Ideal.hostReduceAdd_single reducesTo_S4x512x1x64_S4x512x1_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %103 = func.call @norm_2(…) (record main_call11) result 0: @norm_2's %2 = stablehlo.sqrt %1 : tensor<4x512x1xf32>
def val_main_v103 (x0 : (⟨S4x512x1x64, .f32⟩ : BufTy).Contents (Elt F)) : (⟨S4x512x1, .f32⟩ : BufTy).Contents (Elt F) :=
  Host.sqrt (val_main_call11_v1 (F := F) x0)
theorem val_main_v103_apply (x0 : (⟨S4x512x1x64, .f32⟩ : BufTy).Contents (Elt F)) (i : S4x512x1.Idx) :
    val_main_v103 (F := F) x0 i = FloatOps.hostUnary .sqrt (val_main_call11_v1 (F := F) x0 i) := rfl

-- %104 = stablehlo.multiply %103, %103 : tensor<4x512x1xf32>
def val_main_v104 (x0 : (⟨S4x512x1x64, .f32⟩ : BufTy).Contents (Elt F)) : (⟨S4x512x1, .f32⟩ : BufTy).Contents (Elt F) :=
  mulf (val_main_v103 (F := F) x0) (val_main_v103 (F := F) x0)
theorem val_main_v104_apply (x0 : (⟨S4x512x1x64, .f32⟩ : BufTy).Contents (Elt F)) (i : S4x512x1.Idx) :
    val_main_v104 (F := F) x0 i = FloatOps.mulf (val_main_v103 (F := F) x0 i) (val_main_v103 (F := F) x0 i) := rfl

-- %105 = stablehlo.add %101, %104 : tensor<4x512x1xf32>
def val_main_v105 (x0 : (⟨S4x512x1x64, .f32⟩ : BufTy).Contents (Elt F)) (x1 : (⟨S1x512x64, .f32⟩ : BufTy).Contents (Elt F)) : (⟨S4x512x1, .f32⟩ : BufTy).Contents (Elt F) :=
  addf (val_main_v101 (F := F) x0 x1) (val_main_v104 (F := F) x0)
theorem val_main_v105_apply (x0 : (⟨S4x512x1x64, .f32⟩ : BufTy).Contents (Elt F)) (x1 : (⟨S1x512x64, .f32⟩ : BufTy).Contents (Elt F)) (i : S4x512x1.Idx) :
    val_main_v105 (F := F) x0 x1 i = FloatOps.addf (val_main_v101 (F := F) x0 x1 i) (val_main_v104 (F := F) x0 i) := rfl

/-- The term the Run module states for `main_v95` over any contents `V0` is the stage. -/
theorem val_main_v95_eq (V0 : Valuation τ sig (Elt F)) :
    addf (subf (Cert.ReferenceIdeal.Value.res_main_v93 V0) (V0 (Proc.devRef .tc main_arg0))) (V0 (Proc.devRef .tc main_arg0))
      = val_main_v95 (F := F) (V0 (Proc.devRef .tc main_arg0)) (V0 (Proc.devRef .tc main_arg1)) := rfl

/-- The term the Run module states for `main_v98` over any contents `V0` is the stage. -/
theorem val_main_v98_eq (V0 : Valuation τ sig (Elt F)) :
    mulf (Cert.ReferenceIdeal.Value.res_main_v97 V0) (Cert.ReferenceIdeal.Value.res_main_v97 V0)
      = val_main_v98 (F := F) (V0 (Proc.devRef .tc main_arg0)) (V0 (Proc.devRef .tc main_arg1)) := rfl

/-- The term the Run module states for `main_v105` over any contents `V0` is the stage. -/
theorem val_main_v105_eq (V0 : Valuation τ sig (Elt F)) :
    addf (mulf (Cert.ReferenceIdeal.Value.res_main_v100 V0) (Cert.ReferenceIdeal.Value.res_main_v100 V0)) (mulf (Cert.ReferenceIdeal.Value.res_main_v103 V0) (Cert.ReferenceIdeal.Value.res_main_v103 V0))
      = val_main_v105 (F := F) (V0 (Proc.devRef .tc main_arg0)) (V0 (Proc.devRef .tc main_arg1)) := rfl

/-- The term the Run module states for `main_v80` over any contents `V0` is the stage. -/
theorem val_main_v80_eq (V0 : Valuation τ sig (Elt F)) :
    Host.negf (Host.reduceAdd (select (cmpf .ogt (Cert.ReferenceIdeal.Value.res_main_v68 V0) (broadcastInDim S512 ![] bcast_S_S512 (constant S_ .f32 0x00000000#32))) (mulf (Cert.ReferenceIdeal.Value.res_main_v70 V0) (Host.log (select (cmpf .ogt (Cert.ReferenceIdeal.Value.res_main_v68 V0) (broadcastInDim S512 ![] bcast_S_S512 (constant S_ .f32 0x00000000#32))) (Cert.ReferenceIdeal.Value.res_main_v70 V0) (broadcastInDim S512 ![] bcast_S_S512 (id (constant S_ .f32 0x3F800000#32)))))) (broadcastInDim S512 ![] bcast_S_S512 (id (constant S_ .f32 0x00000000#32)))) (constant S_ .f32 0x00000000#32) reducesTo_S512_S_d0 h_S_)
      = val_main_v80 (F := F) (V0 (Proc.devRef .tc main_arg0)) (V0 (Proc.devRef .tc main_arg1)) := rfl

/-- The term the Run module states for `main_v54` over any contents `V0` is the stage. -/
theorem val_main_v54_eq (V0 : Valuation τ sig (Elt F)) :
    shapeCast _ ((fun j => (Host.argReduce reducer_argmin_f32_i32 (Cert.ReferenceIdeal.Value.res_main_v5 V0) (Cert.ReferenceIdeal.Value.res_main_call1_v0 V0) (Cert.ReferenceIdeal.Value.res_main_call1_cst V0) (Cert.ReferenceIdeal.Value.res_main_call1_c V0) reducesTo_S2048x1x512_S2048x1_d2 h_S_ j).2)) shapeCasts_S2048x1_S4x512x1
      = val_main_v54 (F := F) (V0 (Proc.devRef .tc main_arg0)) (V0 (Proc.devRef .tc main_arg1)) := rfl

/-- The term the Run module states for `main_v55` over any contents `V0` is the stage. -/
theorem val_main_v55_eq (V0 : Valuation τ sig (Elt F)) :
    shapeCast _ (Cert.ReferenceIdeal.Value.res_main_v11 V0) shapeCasts_S2048x1_S4x512x1
      = val_main_v55 (F := F) (V0 (Proc.devRef .tc main_arg0)) (V0 (Proc.devRef .tc main_arg1)) := rfl

end Cert.ReferenceIdeal.Read

end
-- ==== Proof.RefOrder.lean ====
/- Choosing and sorting positions: the least pair of a fold, the head of a stable sort by decreasing weight, and a sum
   over all positions as a sum over the first eight sorted ones. Nothing here mentions a program. -/
module

public import proofs.«01_k».proof.Proof.Spec
public import Idealize.ShloMosaic.Lib.SortFacts

@[expose] public section

noncomputable section

namespace Cert.Vq

open Idealize.ShloMosaic
open scoped BigOperators

/-! ## The least pair of a fold -/

/-- Pairs of a value and an index word, ordered by the value and then by the signed index. -/
def LexLe (a b : EReal × BitVec 32) : Prop := a.1 < b.1 ∨ (a.1 = b.1 ∧ a.2.toInt ≤ b.2.toInt)

/-- The order is reflexive. -/
theorem LexLe.refl (a : EReal × BitVec 32) : LexLe a a := Or.inr ⟨rfl, le_rfl⟩

/-- The order is transitive. -/
theorem LexLe.trans {a b c : EReal × BitVec 32} (h : LexLe a b) (h' : LexLe b c) : LexLe a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A fold that keeps the lesser of two pairs ends at a least pair of its list and its start. -/
theorem fold_least (f : EReal × BitVec 32 → EReal × BitVec 32 → EReal × BitVec 32)
    (hf : ∀ a b, (f a b = a ∧ LexLe a b) ∨ (f a b = b ∧ LexLe b a)) (L : List (EReal × BitVec 32)) (z : EReal × BitVec 32) :
    (L.foldl f z = z ∨ L.foldl f z ∈ L) ∧ LexLe (L.foldl f z) z ∧ ∀ p ∈ L, LexLe (L.foldl f z) p := by
  induction L generalizing z with
  | nil => exact ⟨Or.inl rfl, LexLe.refl z, fun p hp => absurd hp List.not_mem_nil⟩
  | cons b L ih =>
    obtain ⟨h1, h2, h3⟩ := ih (f z b)
    rw [List.foldl_cons]
    have hz : LexLe (f z b) z ∧ LexLe (f z b) b ∧ (f z b = z ∨ f z b = b) := by
      rcases hf z b with ⟨e, h⟩ | ⟨e, h⟩
      · rw [e]; exact ⟨LexLe.refl z, h, Or.inl rfl⟩
      · rw [e]; exact ⟨h, LexLe.refl b, Or.inr rfl⟩
    refine ⟨?_, h2.trans hz.1, fun p hp => ?_⟩
    · rcases h1 with h1 | h1
      · rcases hz.2.2 with e | e
        · exact Or.inl (h1.trans e)
        · exact Or.inr (by rw [h1, e]; exact List.mem_cons_self)
      · exact Or.inr (List.mem_cons_of_mem b h1)
    · rcases List.mem_cons.mp hp with rfl | hp
      · exact h2.trans hz.2.1
      · exact h3 p hp

/-- The signed value of a small word. -/
theorem toInt_word (n : ℕ) (h : n < 2 ^ 31) : (BitVec.ofNat 32 n).toInt = n := by
  rw [BitVec.toInt_ofNat']
  unfold Int.bmod
  have : ((n : ℤ) % (2 ^ 32 : ℕ)) = n := Int.emod_eq_of_lt (by omega) (by omega)
  simp only [this]
  rw [if_pos (by omega)]

/-- From infinity and index zero, such a fold over a row's pairs, in any order, ends at the first position of the minimum. -/
theorem fold_firstMin {n : ℕ} [NeZero n] (hn : n < 2 ^ 31) (f : EReal × BitVec 32 → EReal × BitVec 32 → EReal × BitVec 32)
    (hf : ∀ a b, (f a b = a ∧ LexLe a b) ∨ (f a b = b ∧ LexLe b a)) (d : Fin n → EReal) (L : List (EReal × BitVec 32))
    (hL : ∀ p, p ∈ L ↔ ∃ k : Fin n, p = (d k, BitVec.ofNat 32 k.val)) :
    (L.foldl f (⊤, 0#32)).2 = BitVec.ofNat 32 (firstMin d).val := by
  obtain ⟨h1, -, h3⟩ := fold_least f hf L (⊤, 0#32)
  rcases h1 with h1 | h1
  · have hd : ∀ k, d k = ⊤ := fun k => by
      have := h3 _ ((hL _).mpr ⟨k, rfl⟩)
      rw [h1] at this
      rcases this with h | ⟨h, -⟩
      · exact absurd h not_top_lt
      · exact h.symm
    have : IsFirstMin d 0 := ⟨fun j => by rw [hd, hd], fun j hj => absurd hj (by simp)⟩
    rw [h1, ← this.eq]
    rfl
  · obtain ⟨k, hk⟩ := (hL _).mp h1
    have : IsFirstMin d k := by
      constructor
      · intro j
        have := h3 _ ((hL _).mpr ⟨j, rfl⟩)
        rw [hk] at this
        rcases this with h | ⟨h, -⟩
        · exact le_of_lt h
        · exact le_of_eq h
      · intro j hj
        have := h3 _ ((hL _).mpr ⟨j, rfl⟩)
        rw [hk] at this
        rcases this with h | ⟨-, h⟩
        · exact h
        · simp only [toInt_word _ (lt_trans k.isLt hn), toInt_word _ (lt_trans j.isLt hn)] at h
          have hj' : j.val < k.val := hj
          omega
    rw [hk, ← this.eq]

/-! ## The sort by decreasing weight -/

/-- Position `a` sorts before position `b`: its weight is greater. -/
def heavier {n : ℕ} (w : Fin n → EReal) (a b : Fin n) : Bool := decide (w b < w a)

/-- The stable order by decreasing weight: the position at place `j`. -/
def order {n : ℕ} (w : Fin n → EReal) (j : Fin n) : Fin n := sortedFrom (heavier w) j

/-- It names each position once. -/
theorem order_bijective {n : ℕ} (w : Fin n → EReal) : Function.Bijective (order w) :=
  ⟨sortedFrom_injective _, sortedFrom_surjective _⟩

/-- The weights decrease along it. -/
theorem order_anti {n : ℕ} (w : Fin n → EReal) (i j : Fin n) (h : i ≤ j) : w (order w j) ≤ w (order w i) := by
  rcases eq_or_lt_of_le h with rfl | h
  · exact le_rfl
  · have := sortedFrom_noInversion (heavier w) (heavier w)
      (fun a b hab => by simp only [heavier, decide_eq_true_eq, decide_eq_false_iff_not, not_lt] at *; exact hab.le)
      (fun a b hab => hab)
      (fun a b c hab hbc => by simp only [heavier, decide_eq_false_iff_not, not_lt] at *; exact hab.trans hbc) i j h
    exact not_lt.mp (of_decide_eq_false this)

/-- The head of a stable sort of an increasing list is the first of its greatest weights. -/
theorem stableSort_head {n : ℕ} (w : Fin n → EReal) (l : List (Fin n)) (hl : l.Pairwise (· < ·)) (hne : l ≠ []) :
    ∃ a t, stableSort (heavier w) l = a :: t ∧ a ∈ l ∧ (∀ j ∈ l, w j ≤ w a) ∧ ∀ j ∈ l, j < a → w j < w a := by
  induction l with
  | nil => exact absurd rfl hne
  | cons b l ih =>
    rw [List.pairwise_cons] at hl
    unfold stableSort
    by_cases hl0 : l = []
    · subst hl0
      refine ⟨b, [], rfl, List.mem_cons_self, fun j hj => ?_, fun j hj hjb => ?_⟩ <;>
        obtain rfl : j = b := by simpa using hj
      · exact le_rfl
      · exact absurd hjb (lt_irrefl _)
    · obtain ⟨a, t, e, ha, hmax, hfirst⟩ := ih hl.2 hl0
      rw [e]
      unfold insertBefore
      by_cases hab : w b < w a
      · refine ⟨a, insertBefore (heavier w) b t, if_pos (by simpa [heavier] using hab), List.mem_cons_of_mem b ha, ?_, ?_⟩
        · intro j hj
          rcases List.mem_cons.mp hj with rfl | hj
          · exact hab.le
          · exact hmax j hj
        · intro j hj hja
          rcases List.mem_cons.mp hj with rfl | hj
          · exact hab
          · exact hfirst j hj hja
      · refine ⟨b, a :: t, if_neg (by simpa [heavier] using hab), List.mem_cons_self, ?_, ?_⟩
        · intro j hj
          rcases List.mem_cons.mp hj with rfl | hj
          · exact le_rfl
          · exact (hmax j hj).trans (not_lt.mp hab)
        · intro j hj hjb
          rcases List.mem_cons.mp hj with rfl | hj
          · exact absurd hjb (lt_irrefl _)
          · exact absurd hjb (not_lt.mpr (hl.1 j hj).le)

/-- The first place holds the first position of the greatest weight. -/
theorem order_first {n : ℕ} [NeZero n] (w : Fin n → EReal) (h : 0 < n) : order w ⟨0, h⟩ = firstMax w := by
  have hp : (List.finRange n).Pairwise (· < ·) := List.pairwise_lt_finRange n
  have hne : List.finRange n ≠ [] := fun e => by
    have := congrArg List.length e
    rw [List.length_finRange] at this
    exact absurd this h.ne'
  obtain ⟨a, t, e, -, hmax, hfirst⟩ := stableSort_head w _ hp hne
  have ho : order w ⟨0, h⟩ = a := by
    unfold order sortedFrom
    have e' : sortPositions n (heavier w) = a :: t := e
    rw [List.get_of_eq e']
    rfl
  rw [ho]
  exact IsFirstMax.eq ⟨fun j => hmax j (List.mem_finRange j), fun j => hfirst j (List.mem_finRange j)⟩

/-! ## The eight heaviest -/

/-- No nine positions are of one group. -/
theorem nine_in_eight (s : Fin 9 → Fin 512) (hs : Function.Injective s) (g : Fin 64) (h : ∀ i, grp (s i) = g) : False := by
  have hinj : Function.Injective fun i : Fin 9 => (⟨(s i).val % 8, Nat.mod_lt _ (by decide)⟩ : Fin 8) := by
    intro a b hab
    have hm : (s a).val % 8 = (s b).val % 8 := congrArg Fin.val hab
    have hd : (s a).val / 8 = (s b).val / 8 := congrArg Fin.val ((h a).trans (h b).symm)
    exact hs (Fin.ext (by omega))
  have := Fintype.card_le_of_injective _ hinj
  simp at this

/-- A sum over 512 is the sum of its first eight and of the rest. -/
theorem sum_split (F : Fin 512 → EReal) :
    ∑ j, F j = ∑ j : Fin 8, F (j.castLE (by decide)) + ∑ i : Fin 504, F ⟨8 + i.val, by omega⟩ :=
  Fin.sum_univ_add (a := 8) (b := 504) F

/-- Nonnegative weights that vanish outside one group vanish from the ninth place on. -/
theorem order_tail (w : Fin 512 → EReal) (g : Fin 64) (h0 : ∀ k, 0 ≤ w k) (hg : ∀ k, grp k ≠ g → w k = 0) (j : Fin 512)
    (hj : 8 ≤ j.val) : w (order w j) = 0 := by
  by_contra hne
  have hpos : 0 < w (order w j) := lt_of_le_of_ne (h0 _) (Ne.symm hne)
  have hin : ∀ i : Fin 9, grp (order w (i.castLE (by decide))) = g := fun i => by
    by_contra h
    have h' : w (order w j) ≤ w (order w (i.castLE (by decide))) := order_anti w _ _ (by
      show i.val ≤ j.val
      omega)
    rw [hg _ h] at h'
    exact absurd hpos (not_lt.mpr h')
  exact nine_in_eight (fun i => order w (i.castLE (by decide))) (fun a b hab => Fin.ext (by
    have h := (order_bijective w).1 hab
    exact congrArg (fun q : Fin 512 => q.val) h)) g hin

/-- Place `j` of the first eight. -/
def first8 (w : Fin 512 → EReal) (j : Fin 8) : Fin 512 := order w (j.castLE (by decide))

/-- A sum over all positions of terms that vanish with the weight is the sum over the first eight places. -/
theorem sum_first8 (w : Fin 512 → EReal) (g : Fin 64) (h0 : ∀ k, 0 ≤ w k) (hg : ∀ k, grp k ≠ g → w k = 0) (f : Fin 512 → EReal)
    (hf : ∀ k, w k = 0 → f k = 0) : ∑ j, f (first8 w j) = ∑ k, f k := by
  rw [← (Equiv.ofBijective (order w) (order_bijective w)).sum_comp f]
  simp only [Equiv.ofBijective_apply]
  rw [sum_split fun j => f (order w j)]
  have h8 : ∑ i : Fin 504, f (order w ⟨8 + i.val, by omega⟩) = 0 :=
    Finset.sum_eq_zero fun i _ => hf (order w ⟨8 + i.val, by omega⟩)
      (order_tail w g h0 hg ⟨8 + i.val, by omega⟩ (Nat.le_add_right 8 i.val))
  rw [h8, add_zero]
  rfl

end Cert.Vq

end
-- ==== Proof.RefMath.lean ====
/- Facts of the vector-quantisation mathematics that the sorted form of the computation needs: the weights are not
   negative, the eight heaviest carry the whole mixture, a self-difference adds nothing to the penalty, and the counts as
   numbers of rows. Nothing here mentions a program. -/
module

public import proofs.«01_k».proof.Proof.RefOrder

@[expose] public section

noncomputable section

namespace Cert.Vq

open Idealize.ShloMosaic
open scoped BigOperators

/-- A square is not negative. -/
theorem sq_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The root of a nonnegative number is not negative. -/
theorem sqrt_nonneg {a : EReal} (h : 0 ≤ a) : 0 ≤ Ideal.sqrt a := by
  induction a with
  | bot => exact absurd h (by simp)
  | top => exact le_top
  | coe r =>
    have hr : ¬ r < 0 := not_lt.mpr (by exact_mod_cast h)
    show (0 : EReal) ≤ if r < 0 then ⊥ else (Real.sqrt r : EReal)
    rw [if_neg hr]
    exact_mod_cast Real.sqrt_nonneg r

/-- A quotient of nonnegative numbers is not negative. -/
theorem div_nonneg' {a b : EReal} (ha : 0 ≤ a) (hb : 0 ≤ b) (h : b = 0 → 0 < a) : 0 ≤ Ideal.div a b := by
  unfold Ideal.div
  split
  · next e => rw [if_pos (h e)]; exact le_top
  · exact mul_nonneg ha (EReal.inv_nonneg_of_nonneg hb)

/-- A distance is not negative. -/
theorem vdist_nonneg (x : Fin 64 → EReal) (e : Fin 512 → Fin 64 → EReal) (k : Fin 512) : 0 ≤ vdist x e k :=
  sqrt_nonneg (Finset.sum_nonneg fun v _ => sq_nonneg _)

/-- A weight is not negative. -/
theorem weight_nonneg {d : Fin 512 → EReal} (hd : ∀ k, 0 ≤ d k) (k : Fin 512) : 0 ≤ weight d k := by
  unfold weight
  split
  · exact div_nonneg' zero_le_one (hd k) fun _ => zero_lt_one
  · exact le_rfl

/-- A weight outside the nearest group is zero. -/
theorem weight_out (d : Fin 512 → EReal) (k : Fin 512) (h : grp k ≠ idxGroup d) : weight d k = 0 := if_neg h

/-- The least divisor is positive. -/
theorem eps_pos : (0 : EReal) < Ideal.ofBits .f32 0x2B8CBCCC#32 := by
  simp only [Ideal.ofBits, Ideal.ieee]
  simp
  rw [← EReal.coe_mul]
  exact EReal.coe_pos.mpr (by positivity)

/-- The divisor is positive. -/
theorem denom_pos (w : Fin 512 → EReal) : 0 < denom w := lt_max_of_lt_right eps_pos

/-- Zero over a nonzero number is zero. -/
theorem zero_div' {b : EReal} (h : b ≠ 0) : Ideal.div 0 b = 0 := by
  unfold Ideal.div
  rw [if_neg h, zero_mul]

/-- The divisor from the eight heaviest. -/
theorem denom_first8 {d : Fin 512 → EReal} (hd : ∀ k, 0 ≤ d k) :
    max (∑ j, max (weight d (first8 (weight d) j)) (-weight d (first8 (weight d) j))) (Ideal.ofBits .f32 0x2B8CBCCC#32)
      = denom (weight d) := by
  unfold denom
  rw [sum_first8 (weight d) (idxGroup d) (weight_nonneg hd) (weight_out d) (fun k => max (weight d k) (-weight d k))
    (fun k h => by simp only [h, neg_zero, max_self])]

/-- The mixture from the eight heaviest. -/
theorem mix_first8 {d : Fin 512 → EReal} (hd : ∀ k, 0 ≤ d k) (e : Fin 512 → Fin 64 → EReal) (v : Fin 64) :
    ∑ j, e (first8 (weight d) j) v * Ideal.div (weight d (first8 (weight d) j)) (denom (weight d)) = mix (weight d) e v := by
  unfold mix
  rw [← sum_first8 (weight d) (idxGroup d) (weight_nonneg hd) (weight_out d)
    (fun k => Ideal.div (weight d k) (denom (weight d)) * e k v)
    (fun k h => by simp only [h, zero_div' (denom_pos _).ne', zero_mul])]
  exact Finset.sum_congr rfl fun j _ => mul_comm _ _

/-- The square of a root that is not finite, of a sum of squares one of which is infinite. -/
theorem root_top {f : Fin 64 → EReal} (v : Fin 64) (h : f v * f v = ⊤) :
    Ideal.sqrt (∑ v, f v * f v) * Ideal.sqrt (∑ v, f v * f v) = ⊤ := by
  have hs : ∑ v, f v * f v = ⊤ :=
    top_le_iff.mp (h ▸ Finset.single_le_sum (f := fun v => f v * f v) (fun v _ => sq_nonneg (f v)) (Finset.mem_univ v))
  rw [hs]
  show (⊤ : EReal) * ⊤ = ⊤
  exact EReal.top_mul_top

/-- The square of an infinity is infinite. -/
theorem sq_top {a : EReal} (h : a = ⊤ ∨ a = ⊥) : a * a = ⊤ := by
  rcases h with rfl | rfl
  · exact EReal.top_mul_top
  · exact EReal.bot_mul_bot

/-- An infinity minus anything is an infinity. -/
theorem inf_sub {a : EReal} (b : EReal) (h : a = ⊤ ∨ a = ⊥) : a - b = ⊤ ∨ a - b = ⊥ := by
  rcases h with rfl | rfl
  · induction b with
    | bot => left; rfl
    | top => right; rfl
    | coe r => left; rfl
  · right; rw [sub_eq_add_neg, EReal.bot_add]

/-- The root of zero is zero. -/
theorem sqrt_zero : Ideal.sqrt 0 = 0 := by
  show (if (0 : ℝ) < 0 then (⊥ : EReal) else (Real.sqrt 0 : EReal)) = 0
  rw [if_neg (lt_irrefl _), Real.sqrt_zero]
  rfl

/-- The norm of the row's difference with itself adds nothing to the penalty: it is zero on a finite row, and on a row with
    an infinite entry the penalty is infinite already. -/
theorem pen_add_self (x : Fin 64 → EReal) (e : Fin 512 → Fin 64 → EReal) :
    pen x e + Ideal.sqrt (∑ v, (x v - x v) * (x v - x v)) * Ideal.sqrt (∑ v, (x v - x v) * (x v - x v)) = pen x e := by
  by_cases h : ∃ v, x v = ⊤ ∨ x v = ⊥
  · obtain ⟨v, hv⟩ := h
    have h1 : pen x e = ⊤ := root_top (f := fun v => x v - out x e v) v (sq_top (inf_sub _ hv))
    have h2 := root_top (f := fun v => x v - x v) v (sq_top (inf_sub _ hv))
    rw [h1, h2]
    exact EReal.top_add_top
  · have hz : ∀ v, x v - x v = 0 := fun v => by
      have h' : x v ≠ ⊤ ∧ x v ≠ ⊥ := ⟨fun q => h ⟨v, Or.inl q⟩, fun q => h ⟨v, Or.inr q⟩⟩
      exact EReal.sub_self h'.1 h'.2
    have hs : ∑ v, (x v - x v) * (x v - x v) = 0 := Finset.sum_eq_zero fun v _ => by rw [hz, zero_mul]
    rw [hs, sqrt_zero, zero_mul, add_zero]

/-- A sum of zeros and ones is the number of ones. -/
theorem sum_ones {n : ℕ} (p : Fin n → Bool) :
    ∑ i, (if p i = true then (1 : EReal) else 0) = (((((List.finRange n).countP p : ℕ) : ℤ) : ℝ) : EReal) := by
  rw [Fin.sum_univ_def]
  generalize List.finRange n = l
  induction l with
  | nil => simp
  | cons a l ih =>
    rw [List.map_cons, List.sum_cons, ih, List.countP_cons]
    by_cases h : p a = true
    · rw [if_pos h, if_pos h, add_comm]
      push_cast
      rfl
    · rw [if_neg h, if_neg h, zero_add, add_zero]

end Cert.Vq

end
-- ==== Proof.RefDist.lean ====
/- The reference's distances and its two nearest indices, token by token. -/
module

public import proofs.«01_k».proof.Proof.RefRead
public import proofs.«01_k».proof.Proof.RefMath
public import proofs.«01_k».proof.Proof.Args

@[expose] public section

set_option maxRecDepth 65536

noncomputable section

namespace Cert.ReferenceIdeal.Rows

open Cert.ReferenceIdeal Cert.ReferenceIdeal.Gen Cert.ReferenceIdeal.Read Cert.Vq
open Idealize.ShloMosaic Idealize.ShloMosaic.ValueIdx
open scoped BigOperators

/-- The first argument's contents. -/
abbrev X := Vec Ideal ⟨4, ![4, 512, 1, 64]⟩ .f32
/-- The second argument's contents. -/
abbrev E := Vec Ideal ⟨3, ![1, 512, 64]⟩ .f32

/-- A token's distances. -/
def dist (x0 : X) (x1 : E) (n : Fin 2048) : Fin 512 → EReal := vdist (tok x0 n) (code x1)

/-- They are not negative. -/
theorem dist_nonneg (x0 : X) (x1 : E) (n : Fin 2048) (k : Fin 512) : 0 ≤ dist x0 x1 n k := vdist_nonneg _ _ _

/-- The word of zero. -/
theorem zero_word : (FloatOps.ofBits (F := Ideal) .f32 0x00000000#32 : EReal) = 0 := Ideal.ofBits_zero_f32
/-- The word of one. -/
theorem one_word : (FloatOps.ofBits (F := Ideal) .f32 0x3F800000#32 : EReal) = 1 := Ideal.ofBits_one_f32
/-- The word of infinity. -/
theorem inf_word : (FloatOps.ofBits (F := Ideal) .f32 0x7F800000#32 : EReal) = ⊤ := by
  show Ideal.ofBits .f32 0x7F800000#32 = ⊤
  simp [Ideal.ofBits, Ideal.ieee]

/-- The host's root is the root. -/
theorem host_sqrt (a : EReal) : (FloatOps.hostUnary (F := Ideal) (φ := .f32) .sqrt a : EReal) = Ideal.sqrt a := rfl
/-- The host's quotient is the quotient. -/
theorem host_div (a b : EReal) : (FloatOps.hostDivf (F := Ideal) (φ := .f32) a b : EReal) = Ideal.div a b := rfl

/-- The difference of a token and an entry. -/
theorem v4_at (x0 : X) (x1 : E) (n : Fin 2048) (k : Fin 512) (v : Fin 64) :
    val_main_v4 (F := Ideal) x0 x1 (ix4 n 0 k v) = tok x0 n v - code x1 k v := by
  rw [val_main_v4_apply, val_main_v2_apply, val_main_v0_apply, val_main_v3_apply, val_main_v1_apply]
  have h0 : idx_main_v0 (idx_main_v2 (ix4 n 0 k v))
      = ix4 ⟨n.val / 512, by omega⟩ ⟨n.val % 512, Nat.mod_lt _ (by decide)⟩ 0 v := by
    funext a
    match a with
    | ⟨0, _⟩ => exact Fin.ext (by show (((n.val * 1 + 0) * 1 + 0) * 64 + v.val) / 32768 = n.val / 512; omega)
    | ⟨1, _⟩ => exact Fin.ext (by show (((n.val * 1 + 0) * 1 + 0) * 64 + v.val) / 64 % 512 = n.val % 512; omega)
    | ⟨2, _⟩ => rfl
    | ⟨3, _⟩ => exact Fin.ext (by show (((n.val * 1 + 0) * 1 + 0) * 64 + v.val) % 64 = v.val; omega)
  have h1 : idx_main_v1 (idx_main_v3 (ix4 n 0 k v)) = ix3 0 k v := by
    funext a
    match a with
    | ⟨0, _⟩ => rfl
    | ⟨1, _⟩ => rfl
    | ⟨2, _⟩ => rfl
  rw [h0, h1]
  rfl

/-- The square of one coordinate's difference. -/
theorem sq_at (x0 : X) (x1 : E) (n : Fin 2048) (k : Fin 512) (v : Fin 64) :
    val_main_call0_v0 (F := Ideal) x0 x1 (idx_main_call0_v1 (ix3 n 0 k) v)
      = (tok x0 n v - code x1 k v) * (tok x0 n v - code x1 k v) := by
  rw [val_main_call0_v0_apply]
  have h : idx_main_call0_v1 (ix3 n 0 k) v = ix4 n 0 k v := by
    funext a
    match a with
    | ⟨0, _⟩ => rfl
    | ⟨1, _⟩ => rfl
    | ⟨2, _⟩ => rfl
    | ⟨3, _⟩ => rfl
  rw [h, v4_at]
  rfl

/-- The sum of the squares. -/
theorem sumsq_at (x0 : X) (x1 : E) (n : Fin 2048) (k : Fin 512) :
    val_main_call0_v1 (F := Ideal) x0 x1 (ix3 n 0 k) = ∑ v, (tok x0 n v - code x1 k v) * (tok x0 n v - code x1 k v) := by
  rw [val_main_call0_v1_apply, Finset.sum_congr rfl fun v _ => sq_at x0 x1 n k v]
  generalize ∑ v, (tok x0 n v - code x1 k v) * (tok x0 n v - code x1 k v) = s
  exact (congrArg (· + s) zero_word).trans (zero_add s)

/-- The distance of a token from an entry. -/
theorem v5_at (x0 : X) (x1 : E) (n : Fin 2048) (k : Fin 512) :
    val_main_v5 (F := Ideal) x0 x1 (ix3 n 0 k) = dist x0 x1 n k := by
  rw [val_main_v5_apply, sumsq_at, host_sqrt]
  rfl

/-- A group's entry among the grouped distances. -/
theorem v7_at (x0 : X) (x1 : E) (n : Fin 2048) (g : Fin 64) (s : Fin 8) :
    val_main_v7 (F := Ideal) x0 x1 (idx_main_v8 (ix3 n 0 g) s) = dist x0 x1 n (atom g s) := by
  have h : idx_main_v7 (idx_main_v8 (ix3 n 0 g) s) = ix3 n 0 (atom g s) := by
    funext a
    match a with
    | ⟨0, _⟩ => exact Fin.ext (by show (((n.val * 1 + 0) * 64 + g.val) * 8 + s.val) / 512 = n.val; omega)
    | ⟨1, _⟩ => rfl
    | ⟨2, _⟩ => exact Fin.ext (by show (((n.val * 1 + 0) * 64 + g.val) * 8 + s.val) % 512 = 8 * g.val + s.val; omega)
  rw [val_main_v7_apply, h, v5_at]

/-- The sum of a group's distances. -/
theorem v8_at (x0 : X) (x1 : E) (n : Fin 2048) (g : Fin 64) :
    val_main_v8 (F := Ideal) x0 x1 (ix3 n 0 g) = ∑ s, dist x0 x1 n (atom g s) := by
  rw [val_main_v8_apply, Finset.sum_congr rfl fun s _ => v7_at x0 x1 n g s]
  generalize ∑ s, dist x0 x1 n (atom g s) = t
  exact (congrArg (· + t) zero_word).trans (zero_add t)

/-- The mean distance of a token from a group. -/
theorem v10_at (x0 : X) (x1 : E) (n : Fin 2048) (g : Fin 64) :
    val_main_v10 (F := Ideal) x0 x1 (ix3 n 0 g) = gdist (dist x0 x1 n) g := by
  rw [val_main_v10_apply, v8_at, val_main_v9_apply, host_div]
  rfl

/-- The reference's choice between two pairs keeps the lesser. -/
theorem argmin_step (a b : EReal × BitVec 32) :
    (reducer_argmin_f32_i32 (F := Ideal) a b = a ∧ LexLe a b) ∨ (reducer_argmin_f32_i32 (F := Ideal) a b = b ∧ LexLe b a) := by
  obtain ⟨a1, a2⟩ := a
  obtain ⟨b1, b2⟩ := b
  rcases lt_trichotomy a1 b1 with h | h | h
  · left
    refine ⟨?_, Or.inl h⟩
    simp [reducer_argmin_f32_i32, Scalar.select, IntOp.ori, IntOp.andi, Ideal.cmpf_def, Ideal.cmp, h, h.ne]
  · subst h
    by_cases hi : a2.toInt < b2.toInt
    · left
      refine ⟨?_, Or.inr ⟨rfl, hi.le⟩⟩
      simp [reducer_argmin_f32_i32, Scalar.select, IntOp.ori, IntOp.andi, Ideal.cmpf_def, Ideal.cmp, IntOp.cmpi,
        BitVec.slt_eq_decide, hi]
    · right
      refine ⟨?_, Or.inr ⟨rfl, not_lt.mp hi⟩⟩
      simp [reducer_argmin_f32_i32, Scalar.select, IntOp.ori, IntOp.andi, Ideal.cmpf_def, Ideal.cmp, IntOp.cmpi,
        BitVec.slt_eq_decide, hi]
  · right
    refine ⟨?_, Or.inl h⟩
    simp [reducer_argmin_f32_i32, Scalar.select, IntOp.ori, IntOp.andi, Ideal.cmpf_def, Ideal.cmp, h.not_gt, h.ne']

/-- The pairs reduced at `j` are those of the indices that drop to `j`. -/
theorem mem_fiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, ?_⟩, ?_⟩
    · rw [Equiv.symm_apply_apply]; exact decide_eq_true hi
    · rw [Equiv.symm_apply_apply]

/-- An index-of-the-minimum reduction along the last axis of rows gives each row's first position of the minimum. -/
theorem argmin_at {m : ℕ} [NeZero m] (hm : m < 2 ^ 31) (y : FVec Ideal ⟨3, ![2048, 1, m]⟩ .f32) (p : IVec ⟨3, ![2048, 1, m]⟩ 32)
    (cv : FVec Ideal S_ .f32) (ci : IVec S_ 32) (hcv : cv (Shape.Idx.first h_S_) = (⊤ : EReal))
    (hci : ci (Shape.Idx.first h_S_) = 0#32) (h : (⟨3, ![2048, 1, m]⟩ : Shape).ReducesTo [2] S2048x1) (n : Fin 2048)
    (hdrop : ∀ i : (⟨3, ![2048, 1, m]⟩ : Shape).Idx, h.drop i = ix2 n 0 ↔ (i 0).val = n.val)
    (hp : ∀ k : Fin m, p (ix3 n 0 k) = BitVec.ofNat 32 k.val) (d : Fin m → EReal) (hd : ∀ k, y (ix3 n 0 k) = d k)
    (r : EReal × BitVec 32) (hr : r = Host.argReduce reducer_argmin_f32_i32 y p cv ci h h_S_ (ix2 n 0)) :
    r.2 = BitVec.ofNat 32 (firstMin d).val := by
  obtain rfl : (fun k => y (ix3 n 0 k)) = d := funext hd
  rw [hr, Ideal.argReduce_eq_reduce2, Host.reduce2_eq_foldl_fiber, hcv, hci]
  refine fold_firstMin hm _ argmin_step _ _ fun q => ?_
  rw [mem_fiber]
  constructor
  · rintro ⟨i, hi, rfl⟩
    have hi' : i = ix3 n 0 (i 2) := by
      funext a
      match a with
      | ⟨0, _⟩ => exact Fin.ext ((hdrop i).mp hi)
      | ⟨1, _⟩ => exact Subsingleton.elim (α := Fin 1) _ _
      | ⟨2, _⟩ => rfl
    refine ⟨i 2, ?_⟩
    rw [← hp (i 2)]
    exact congrArg (fun q => (y q, p q)) hi'
  · rintro ⟨k, rfl⟩
    exact ⟨ix3 n 0 k, (hdrop _).mpr rfl, by rw [hp]⟩

/-- The least (value, index) pair of each row, as the reference reduces it. -/
def atomPairs (x0 : X) (x1 : E) (j : S2048x1.Idx) : EReal × BitVec 32 :=
  Host.argReduce (F := Ideal) (φ := .f32) (β := BitVec 32) reducer_argmin_f32_i32 (val_main_v5 (F := Ideal) x0 x1)
    (val_main_call1_v0 (F := Ideal)) (val_main_call1_cst (F := Ideal)) (val_main_call1_c (F := Ideal)) reducesTo_S2048x1x512_S2048x1_d2 h_S_ j
/-- The index is its second part. -/
theorem v6_eq (x0 : X) (x1 : E) : val_main_v6 (F := Ideal) x0 x1 = fun j => (atomPairs x0 x1 j).2 := rfl

/-- The nearest entry of a token. -/
theorem v6_at (x0 : X) (x1 : E) (n : Fin 2048) :
    val_main_v6 (F := Ideal) x0 x1 (ix2 n 0) = BitVec.ofNat 32 (idxAtom (dist x0 x1 n)).val := by
  unfold idxAtom
  exact (congrFun (v6_eq x0 x1) (ix2 n 0)).trans (argmin_at (m := 512) (by decide) (val_main_v5 (F := Ideal) x0 x1) (val_main_call1_v0 (F := Ideal))
    (val_main_call1_cst (F := Ideal)) (val_main_call1_c (F := Ideal)) inf_word rfl reducesTo_S2048x1x512_S2048x1_d2 n
    (fun i => ⟨fun e => by
      rw [← Shape.ReducesTo.drop_apply_val_of_eq reducesTo_S2048x1x512_S2048x1_d2 i 0 0, e],
      fun e => by
        funext a
        match a with
        | ⟨0, _⟩ => exact Fin.ext ((Shape.ReducesTo.drop_apply_val_of_eq reducesTo_S2048x1x512_S2048x1_d2 i 0 0).trans e)
        | ⟨1, _⟩ => exact Subsingleton.elim (α := Fin 1) _ _⟩)
    (fun k => rfl) _ (fun k => v5_at x0 x1 n k) (atomPairs x0 x1 (ix2 n 0)) rfl)

/-- The least (value, index) pair of each row, as the reference reduces it. -/
def groupPairs (x0 : X) (x1 : E) (j : S2048x1.Idx) : EReal × BitVec 32 :=
  Host.argReduce (F := Ideal) (φ := .f32) (β := BitVec 32) reducer_argmin_f32_i32 (val_main_v10 (F := Ideal) x0 x1)
    (val_main_call2_v0 (F := Ideal)) (val_main_call2_cst (F := Ideal)) (val_main_call2_c (F := Ideal)) reducesTo_S2048x1x64_S2048x1_d2 h_S_ j
/-- The index is its second part. -/
theorem v11_eq (x0 : X) (x1 : E) : val_main_v11 (F := Ideal) x0 x1 = fun j => (groupPairs x0 x1 j).2 := rfl

/-- The nearest group of a token. -/
theorem v11_at (x0 : X) (x1 : E) (n : Fin 2048) :
    val_main_v11 (F := Ideal) x0 x1 (ix2 n 0) = BitVec.ofNat 32 (idxGroup (dist x0 x1 n)).val := by
  unfold idxGroup
  exact (congrFun (v11_eq x0 x1) (ix2 n 0)).trans (argmin_at (m := 64) (by decide) (val_main_v10 (F := Ideal) x0 x1) (val_main_call2_v0 (F := Ideal))
    (val_main_call2_cst (F := Ideal)) (val_main_call2_c (F := Ideal)) inf_word rfl reducesTo_S2048x1x64_S2048x1_d2 n
    (fun i => ⟨fun e => by
      rw [← Shape.ReducesTo.drop_apply_val_of_eq reducesTo_S2048x1x64_S2048x1_d2 i 0 0, e],
      fun e => by
        funext a
        match a with
        | ⟨0, _⟩ => exact Fin.ext ((Shape.ReducesTo.drop_apply_val_of_eq reducesTo_S2048x1x64_S2048x1_d2 i 0 0).trans e)
        | ⟨1, _⟩ => exact Subsingleton.elim (α := Fin 1) _ _⟩)
    (fun k => rfl) _ (fun k => v10_at x0 x1 n k) (groupPairs x0 x1 (ix2 n 0)) rfl)

end Cert.ReferenceIdeal.Rows

end
-- ==== Proof.RefMask.lean ====
/- The reference's mask of the nearest group and its weights, token by token. -/
module

public import proofs.«01_k».proof.Proof.RefDist
public import Idealize.ShloMosaic.Lib.Routing.OpsSet

@[expose] public section

set_option maxRecDepth 65536

noncomputable section

namespace Cert.ReferenceIdeal.Rows

open Cert.ReferenceIdeal Cert.ReferenceIdeal.Gen Cert.ReferenceIdeal.Read Cert.Vq
open Idealize.ShloMosaic Idealize.ShloMosaic.ValueIdx
open scoped BigOperators

/-- The wrap of a negative index leaves a small word as it is. -/
theorem wrap_small (n : ℕ) (h : n < 2 ^ 31) (a : BitVec 32) :
    Scalar.select (IntOp.cmpi .slt (BitVec.ofNat 32 n) 0#32) a (BitVec.ofNat 32 n) = BitVec.ofNat 32 n := by
  refine Routing.wrap_of_lt _ _ ?_
  rw [BitVec.toNat_ofNat, Nat.mod_eq_of_lt (by omega)]
  exact h

/-- The nearest group's entries, as the reference lists them. -/
def member (x0 : X) (x1 : E) (n : Fin 2048) (s : Fin 8) : Fin 512 := atom (idxGroup (dist x0 x1 n)) s

/-- The column words: the nearest group's entries. -/
theorem v18_at (x0 : X) (x1 : E) (n : Fin 2048) (s : Fin 8) :
    val_main_v18 (F := Ideal) x0 x1 (ix2 n s) = BitVec.ofNat 32 (member x0 x1 n s).val := by
  rw [val_main_v18_apply, val_main_v16_apply, val_main_v17_apply, val_main_v13_apply, val_main_v15_apply, val_main_v14_apply]
  have h : idx_main_v16 (ix2 n s) = ix2 n 0 := by
    funext a
    match a with
    | ⟨0, _⟩ => rfl
    | ⟨1, _⟩ => rfl
  rw [h, v11_at, val_main_v12_apply]
  show BitVec.ofNat 32 _ * BitVec.ofNat 32 8 + BitVec.ofNat 32 s.val = BitVec.ofNat 32 (8 * _ + s.val)
  rw [← BitVec.ofNat_mul, ← BitVec.ofNat_add, mul_comm]

/-- The wrapped column words. -/
theorem v31_at (x0 : X) (x1 : E) (n : Fin 2048) (s : Fin 8) :
    val_main_v31 (F := Ideal) x0 x1 (ix2 n s) = BitVec.ofNat 32 (member x0 x1 n s).val := by
  rw [val_main_v31_apply, val_main_v28_apply, v18_at, val_main_v27_apply]
  exact wrap_small _ (by have := (member x0 x1 n s).isLt; omega) _

/-- The wrapped row words. -/
theorem v26_at (n : Fin 2048) : val_main_v26 (F := Ideal) (ix2 n 0) = BitVec.ofNat 32 n.val := by
  rw [val_main_v26_apply, val_main_v23_apply, val_main_v21_apply, val_main_v20_apply, val_main_v22_apply]
  exact wrap_small n.val (by omega) _

/-- The first coordinate of an update's target. -/
theorem v35_row (x0 : X) (x1 : E) (n : Fin 2048) (s : Fin 8) :
    val_main_v35 (F := Ideal) x0 x1 (ix3 n s 0) = BitVec.ofNat 32 n.val := by
  unfold val_main_v35
  rw [concatenate_pair_apply_left (t := S2048x8x2) (s₁ := S2048x8x1) (s₂ := S2048x8x1) 2 _ _ _ (ix3 n s 0) rfl (ix3 n s 0) (by
    intro b; match b with | ⟨0, _⟩ => rfl | ⟨1, _⟩ => rfl | ⟨2, _⟩ => rfl), val_main_v33_apply, val_main_v32_apply]
  have h : idx_main_v32 (idx_main_v33 (ix3 n s 0)) = ix2 n 0 := by
    funext a
    match a with
    | ⟨0, _⟩ => rfl
    | ⟨1, _⟩ => rfl
  rw [h, v26_at]

/-- The second coordinate of an update's target. -/
theorem v35_col (x0 : X) (x1 : E) (n : Fin 2048) (s : Fin 8) :
    val_main_v35 (F := Ideal) x0 x1 (ix3 n s 1) = BitVec.ofNat 32 (member x0 x1 n s).val := by
  unfold val_main_v35
  rw [concatenate_pair_apply_right (t := S2048x8x2) (s₁ := S2048x8x1) (s₂ := S2048x8x1) 2 _ _ _ (ix3 n s 1) rfl rfl (ix3 n s 0) (by
    intro b hb; match b with | ⟨0, _⟩ => rfl | ⟨1, _⟩ => rfl | ⟨2, _⟩ => exact absurd rfl hb) rfl, val_main_v34_apply]
  have h : idx_main_v34 (ix3 n s 0) = ix2 n s := by
    funext a
    match a with
    | ⟨0, _⟩ => rfl
    | ⟨1, _⟩ => rfl
  rw [h, v31_at]

/-- An update lands at a row and a column exactly when it is of that row and its member is that column. -/
theorem lands_iff (x0 : X) (x1 : E) (n r : Fin 2048) (s : Fin 8) (k : Fin 512) :
    scatter_S2048x512_S2048x8x2_S2048x8_n_01_01_2.resultIdx? (ix2 n s) (val_main_v35 (F := Ideal) x0 x1) = some (ix2 r k)
      ↔ n = r ∧ member x0 x1 n s = k := by
  refine (Routing.scatter_lands2 scatter_S2048x512_S2048x8x2_S2048x8_n_01_01_2 rfl rfl rfl (val_main_v35 (F := Ideal) x0 x1)
    n s r k).trans ?_
  rw [v35_row, v35_col, toInt_word _ (by omega), toInt_word _ (by have := (member x0 x1 n s).isLt; omega)]
  rw [Fin.ext_iff, Fin.ext_iff]
  omega

/-- The mask: one on the nearest group, zero elsewhere. -/
theorem v37_at (x0 : X) (x1 : E) (n : Fin 2048) (k : Fin 512) :
    val_main_v37 (F := Ideal) x0 x1 (ix2 n k) = if grp k = idxGroup (dist x0 x1 n) then (1 : EReal) else 0 := by
  unfold val_main_v37
  by_cases h : grp k = idxGroup (dist x0 x1 n)
  · rw [if_pos h]
    refine Routing.scatter_set_hit _ _ _ _ _ _ (fun q _ => ?_) (ix2 n ⟨k.val % 8, Nat.mod_lt _ (by decide)⟩)
      ((lands_iff x0 x1 _ _ _ _).mpr ⟨rfl, ?_⟩)
    · rw [val_main_v36_apply]
      exact one_word
    · refine Fin.ext ?_
      show 8 * (idxGroup (dist x0 x1 n)).val + k.val % 8 = k.val
      rw [← h]
      show 8 * (k.val / 8) + k.val % 8 = k.val
      omega
  · rw [if_neg h]
    refine (Routing.scatter_set_miss _ _ _ _ _ fun q hq => h ?_).trans ?_
    · rw [show q = ix2 (q 0) (q 1) from eq_ix2 q] at hq
      obtain ⟨h1, h2⟩ := (lands_iff x0 x1 _ _ _ _).mp hq
      rw [← h2, ← h1]
      refine Fin.ext ?_
      have hs : (q 1).val < 8 := (q 1).isLt
      show (8 * (idxGroup (dist x0 x1 (q 0))).val + (q 1).val) / 8 = (idxGroup (dist x0 x1 (q 0))).val
      omega
    · rw [val_main_v19_apply]
      exact zero_word

/-- A mask's zero or one times a number. -/
theorem mask_mul (p : Prop) [Decidable p] (a : EReal) : (if p then (1 : EReal) else 0) * a = if p then a else 0 := by
  split
  · rw [one_mul]
  · rw [zero_mul]

/-- The weights. -/
theorem v41_at (x0 : X) (x1 : E) (n : Fin 2048) (k : Fin 512) :
    val_main_v41 (F := Ideal) x0 x1 (ix2 n k) = weight (dist x0 x1 n) k := by
  rw [val_main_v41_apply, v37_at, val_main_v40_apply, val_main_v39_apply, val_main_v38_apply]
  have h : idx_main_v38 (ix2 n k) = ix3 n 0 k := by
    funext a
    match a with
    | ⟨0, _⟩ => exact Fin.ext (by show (n.val * 512 + k.val) / 512 = n.val; omega)
    | ⟨1, _⟩ => rfl
    | ⟨2, _⟩ => exact Fin.ext (by show (n.val * 512 + k.val) % 512 = k.val; omega)
  rw [h, v5_at, host_div]
  refine (mask_mul _ _).trans ?_
  unfold weight
  congr 1
  exact congrArg (Ideal.div · _) one_word

/-- Their negations, the sort's keys. -/
theorem v42_at (x0 : X) (x1 : E) (n : Fin 2048) (k : Fin 512) :
    val_main_v42 (F := Ideal) x0 x1 (ix2 n k) = -weight (dist x0 x1 n) k := by
  rw [val_main_v42_apply, v41_at]
  rfl

end Cert.ReferenceIdeal.Rows

end
-- ==== Proof.RefSort.lean ====
/- The reference's sort of each token's weights, and what it takes along it: the positions in stable order of decreasing
   weight and the weights there. -/
module

public import proofs.«01_k».proof.Proof.RefMask

@[expose] public section

set_option maxRecDepth 65536

noncomputable section

namespace Cert.ReferenceIdeal.Rows

open Cert.ReferenceIdeal Cert.ReferenceIdeal.Gen Cert.ReferenceIdeal.Read Cert.Vq
open Idealize.ShloMosaic Idealize.ShloMosaic.ValueIdx
open scoped BigOperators

/-- A row's index with another column. -/
theorem along_row {R C : ℕ} (n : Fin R) (j k : Fin C) :
    Shape.Idx.along (s := ⟨2, ![R, C]⟩) (ix2 n j) 1 k = ix2 n k := by
  funext a
  unfold Shape.Idx.along
  match a with
  | ⟨0, _⟩ => exact Function.update_of_ne (fun h => Nat.zero_ne_one (congrArg Fin.val h)) _ _
  | ⟨1, _⟩ => exact Function.update_self _ _ _

/-- The second operand of a sort of pairs along the rows of a matrix, at a row and a place: what it holds at the position
    the row's stable order puts there. -/
theorem sort2_at {R C : ℕ} {α β : Type} (cmp : α × β → α × β → BitVec 1) (x : (⟨2, ![R, C]⟩ : Shape).Idx → α)
    (y : (⟨2, ![R, C]⟩ : Shape).Idx → β) (n : Fin R) (j : Fin C) :
    (Host.sort2 ⟨2, ![R, C]⟩ 1 cmp x y).2 (ix2 n j)
      = y (ix2 n (sortedFrom (fun k k' : Fin C => cmp (x (ix2 n k), y (ix2 n k)) (x (ix2 n k'), y (ix2 n k')) == 1#1) j)) := by
  unfold Host.sort2
  rw [dif_pos (show 1 < (⟨2, ![R, C]⟩ : Shape).rank by show 1 < 2; decide)]
  show y (Shape.Idx.along (s := ⟨2, ![R, C]⟩) (ix2 n j) 1 _) = _
  refine (congrArg y (along_row n j _)).trans ?_
  refine congrArg (fun q => y (ix2 n (sortedFrom q j))) (funext fun k => funext fun k' => ?_)
  exact congrArg₂ (fun p q => cmp (x p, y p) (x q, y q) == 1#1) (along_row n j k) (along_row n j k')

/-- The reference's comparison is the order of the values. -/
theorem cmp_lt (a b : EReal × BitVec 32) : (comparator_f32_i32_d1 (F := Ideal) a b == 1#1) = decide (a.1 < b.1) := by
  obtain ⟨a, _⟩ := a
  obtain ⟨b, _⟩ := b
  have hz : (FloatOps.ofBits (F := Ideal) .f32 0x00000000#32 : EReal) = 0 := zero_word
  have hn : ∀ c z : EReal, Scalar.select (FloatOps.cmpf (F := Ideal) (φ := .f32) .oeq c (FloatOps.ofBits (F := Ideal) .f32 0x00000000#32))
      (FloatOps.ofBits (F := Ideal) .f32 0x00000000#32 : EReal) c = c := fun c z => by
    rw [hz]
    by_cases h : c = 0
    · simp [Scalar.select, Ideal.cmpf_def, Ideal.cmp, h]
    · simp [Scalar.select, Ideal.cmpf_def, Ideal.cmp, h]
  have hu : ∀ c p q : EReal, Scalar.select (FloatOps.cmpf (F := Ideal) (φ := .f32) .une c c) p q = q := fun c p q => by
    simp [Scalar.select, Ideal.cmpf_def, Ideal.cmp]
  unfold comparator_f32_i32_d1
  dsimp only
  rw [hn a 0, hn b 0, hu, hu]
  by_cases h : a < b
  · simp [Ideal.cmpfTotal_def, Ideal.cmp, CmpDirection.ordered, h]
  · simp [Ideal.cmpfTotal_def, Ideal.cmp, CmpDirection.ordered, h]

/-- A token's weights. -/
def wts (x0 : X) (x1 : E) (n : Fin 2048) : Fin 512 → EReal := weight (dist x0 x1 n)

/-- The positions in sorted order. -/
theorem v43_at (x0 : X) (x1 : E) (n : Fin 2048) (j : Fin 512) :
    val_main_v43 (F := Ideal) x0 x1 (ix2 n j) = BitVec.ofNat 32 (order (wts x0 x1 n) j).val := by
  unfold val_main_v43
  rw [sort2_at (R := 2048) (C := 512), val_main_call3_v0_apply]
  have h : (fun k k' : Fin 512 => comparator_f32_i32_d1 (F := Ideal)
        (val_main_v42 (F := Ideal) x0 x1 (ix2 n k), val_main_call3_v0 (F := Ideal) (ix2 n k))
        (val_main_v42 (F := Ideal) x0 x1 (ix2 n k'), val_main_call3_v0 (F := Ideal) (ix2 n k')) == 1#1)
      = heavier (wts x0 x1 n) := by
    funext k k'
    rw [cmp_lt, v42_at, v42_at]
    unfold heavier wts
    simp only [EReal.neg_lt_neg_iff]
  rw [h]
  rfl

end Cert.ReferenceIdeal.Rows

end
-- ==== Proof.RefTake.lean ====
/- What the reference takes along its sorted positions: the weights there, and the codebook's rows. Its indices are in
   range, so that no entry is masked. -/
module

public import proofs.«01_k».proof.Proof.RefSort

@[expose] public section

set_option maxRecDepth 65536

noncomputable section

namespace Cert.ReferenceIdeal.Rows

open Cert.ReferenceIdeal Cert.ReferenceIdeal.Gen Cert.ReferenceIdeal.Read Cert.Vq
open Idealize.ShloMosaic Idealize.ShloMosaic.ValueIdx
open scoped BigOperators

/-- A small word is between zero and the last position. -/
theorem in_range (b : Fin 512) :
    IntOp.andi (IntOp.cmpi .sge (BitVec.ofNat 32 b.val) 0#32) (IntOp.cmpi .sle (BitVec.ofNat 32 b.val) 511#32) = 1#1 := by
  have hb := b.isLt
  have h1 : (0 : ℤ) ≤ (BitVec.ofNat 32 b.val).toInt := by rw [toInt_word _ (by omega)]; omega
  have h2 : (BitVec.ofNat 32 b.val).toInt ≤ 511 := by rw [toInt_word _ (by omega)]; omega
  have h0 : (0#32).toInt = 0 := by decide
  have h511 : (511#32).toInt = 511 := by decide
  simp only [IntOp.andi, IntOp.cmpi, BitVec.sle_eq_decide, h0, h511, h1, h2, decide_true]
  rfl

/-- A conjunction of ones is one. -/
theorem reduce_ones {s t u : Shape} {axes : List (Fin s.rank)} (x : s.Idx → BitVec 1) (init : u.Idx → BitVec 1) (h : s.ReducesTo axes t)
    (hu : 0 < u.numel) (j : t.Idx) (hx : ∀ i, x i = 1#1) (hi : init (Shape.Idx.first hu) = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx, show IntOp.andi 1#1 1#1 = 1#1 from rfl]
    exact ih

/-- A row's elements taken at one position each: the element at the position its index word names. -/
theorem takeAlong_at {α : Type} (x : S2048x512.Idx → α) (idx : IVec S2048x512x1 32) (n : Fin 2048) (j b : Fin 512)
    (hb : idx (ix3 n j 0) = BitVec.ofNat 32 b.val) :
    Host.gather gather_S2048x512_S2048x512x1_S2048x512_n_1_0_0_1_2_11 x idx (ix2 n j) = x (ix2 n b) := by
  unfold Host.gather
  refine congrArg x (funext fun a => Fin.ext ?_)
  show gather_S2048x512_S2048x512x1_S2048x512_n_1_0_0_1_2_11.start (ix2 n j) idx a
      + gather_S2048x512_S2048x512x1_S2048x512_n_1_0_0_1_2_11.batchCoord (ix2 n j) a
      + gather_S2048x512_S2048x512x1_S2048x512_n_1_0_0_1_2_11.offCoord (ix2 n j) a = (ix2 n b a).val
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x512_S2048x512x1_S2048x512_n_1_0_0_1_2_11.operandBatchingDims from
      List.mem_singleton.mpr rfl)]
    rfl
  · rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x512_S2048x512x1_S2048x512_n_1_0_0_1_2_11.startIndexMap from List.mem_singleton.mpr rfl)]
    have hsi : gather_S2048x512_S2048x512x1_S2048x512_n_1_0_0_1_2_11.siIdx (ix2 n j)
        ⟨List.idxOf (1 : Fin 2) gather_S2048x512_S2048x512x1_S2048x512_n_1_0_0_1_2_11.startIndexMap,
        List.idxOf_lt_length_iff.2 (List.mem_singleton.mpr rfl)⟩ = ix3 n j 0 := by
      funext c; refine Fin.ext ?_
      match c with
      | ⟨0, _⟩ => rfl
      | ⟨1, _⟩ => rfl
      | ⟨2, _⟩ => rfl
    rw [hsi, hb, toInt_word _ (by omega)]
    show min ((b.val : ℤ)).toNat (512 - 1) = b.val
    rw [Int.toNat_natCast]
    omega

/-- Rows of a table taken at index words: the row its word names. -/
theorem takeRows_at {α : Type} (x : S512x64.Idx → α) (idx : IVec S2048x8x1 32) (n : Fin 2048) (s : Fin 8) (v : Fin 64) (b : Fin 512)
    (hb : idx (ix3 n s 0) = BitVec.ofNat 32 b.val) :
    Host.gather gather_S512x64_S2048x8x1_S2048x8x64_2_0_n_n_0_2_164 x idx (ix3 n s v) = x (ix2 b v) := by
  unfold Host.gather
  refine congrArg x (funext fun a => Fin.ext ?_)
  show gather_S512x64_S2048x8x1_S2048x8x64_2_0_n_n_0_2_164.start (ix3 n s v) idx a
      + gather_S512x64_S2048x8x1_S2048x8x64_2_0_n_n_0_2_164.batchCoord (ix3 n s v) a
      + gather_S512x64_S2048x8x1_S2048x8x64_2_0_n_n_0_2_164.offCoord (ix3 n s v) a = (ix2 b v a).val
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S512x64_S2048x8x1_S2048x8x64_2_0_n_n_0_2_164.startIndexMap from List.mem_singleton.mpr rfl)]
    have hsi : gather_S512x64_S2048x8x1_S2048x8x64_2_0_n_n_0_2_164.siIdx (ix3 n s v)
        ⟨List.idxOf (0 : Fin 2) gather_S512x64_S2048x8x1_S2048x8x64_2_0_n_n_0_2_164.startIndexMap,
        List.idxOf_lt_length_iff.2 (List.mem_singleton.mpr rfl)⟩ = ix3 n s 0 := by
      funext c; refine Fin.ext ?_
      match c with
      | ⟨0, _⟩ => rfl
      | ⟨1, _⟩ => rfl
      | ⟨2, _⟩ => rfl
    rw [hsi, hb, toInt_word _ (by omega)]
    show min ((b.val : ℤ)).toNat (512 - 1) = b.val
    rw [Int.toNat_natCast]
    omega
  · unfold GatherDims.start
    rw [dif_neg (show (1 : Fin 2) ∉ gather_S512x64_S2048x8x1_S2048x8x64_2_0_n_n_0_2_164.startIndexMap from
      fun h => Nat.one_ne_zero (congrArg Fin.val (List.mem_singleton.mp h))), Nat.zero_add]
    unfold GatherDims.offCoord
    rw [dif_pos ((GatherDims.mem_sKept _ _).mpr ⟨fun h => Nat.one_ne_zero (congrArg Fin.val (List.mem_singleton.mp h)), List.not_mem_nil⟩)]
    rfl

/-! ## The weights along the sorted positions -/

/-- The position words the weights are taken at. -/
theorem pos_at (x0 : X) (x1 : E) (n : Fin 2048) (j : Fin 512) :
    val_main_call4_v5 (F := Ideal) x0 x1 (ix3 n j 0) = BitVec.ofNat 32 (order (wts x0 x1 n) j).val := by
  have h : idx_main_call4_v5 (ix3 n j 0) = ix2 n j := by
    funext a
    match a with
    | ⟨0, _⟩ => exact Fin.ext (by show ((n.val * 512 + j.val) * 1 + 0) / 512 = n.val; omega)
    | ⟨1, _⟩ => exact Fin.ext (by show ((n.val * 512 + j.val) * 1 + 0) % 512 = j.val; omega)
  rw [val_main_call4_v5_apply, h, val_main_call4_v4_apply, val_main_call4_v1_apply, v43_at, val_main_call4_v0_apply]
  exact wrap_small _ (by have := (order (wts x0 x1 n) j).isLt; omega) _

/-- The range check passes everywhere. -/
theorem check4 (x0 : X) (x1 : E) (i : S2048x512x1.Idx) : val_main_call4_v11 (F := Ideal) x0 x1 i = 1#1 := by
  obtain ⟨n, s, rfl⟩ : ∃ (n : Fin 2048) (s : Fin 512), i = ix3 n s 0 := ⟨i 0, i 1, by
    funext a
    match a with
    | ⟨0, _⟩ => rfl
    | ⟨1, _⟩ => rfl
    | ⟨2, _⟩ => exact Subsingleton.elim (α := Fin 1) _ _⟩
  rw [val_main_call4_v11_apply, val_main_call4_v7_apply, val_main_call4_v10_apply, pos_at x0 x1 n s,
    val_main_call4_v6_apply, val_main_call4_v9_apply, val_main_call4_v8_apply]
  exact in_range (order (wts x0 x1 n) s)

/-- The weights in sorted order. -/
theorem v44_at (x0 : X) (x1 : E) (n : Fin 2048) (j : Fin 512) :
    val_main_v44 (F := Ideal) x0 x1 (ix2 n j) = wts x0 x1 n (order (wts x0 x1 n) j) := by
  rw [val_main_v44_apply]
  have hm : val_main_call4_v12 (F := Ideal) x0 x1 (ix2 n j) = 1#1 := by
    unfold val_main_call4_v12
    exact reduce_ones _ _ _ _ _ (check4 x0 x1) rfl
  have hg : val_main_call4_v13 (F := Ideal) x0 x1 (ix2 n j) = wts x0 x1 n (order (wts x0 x1 n) j) := by
    unfold val_main_call4_v13
    rw [takeAlong_at _ _ n j _ (pos_at x0 x1 n j), v41_at]
    rfl
  rw [hm, hg]
  rfl

/-- The eight heaviest weights. -/
theorem v45_at (x0 : X) (x1 : E) (n : Fin 2048) (s : Fin 8) :
    val_main_v45 (F := Ideal) x0 x1 (ix2 n s) = wts x0 x1 n (first8 (wts x0 x1 n) s) := by
  have h : idx_main_v45 (ix2 n s) = ix2 n (s.castLE (by decide)) := by
    funext a
    match a with
    | ⟨0, _⟩ => rfl
    | ⟨1, _⟩ => rfl
  rw [val_main_v45_apply, h, v44_at]
  rfl

/-- Their positions. -/
theorem v46_at (x0 : X) (x1 : E) (n : Fin 2048) (s : Fin 8) :
    val_main_v46 (F := Ideal) x0 x1 (ix2 n s) = BitVec.ofNat 32 (first8 (wts x0 x1 n) s).val := by
  have h : idx_main_v46 (ix2 n s) = ix2 n (s.castLE (by decide)) := by
    funext a
    match a with
    | ⟨0, _⟩ => rfl
    | ⟨1, _⟩ => rfl
  rw [val_main_v46_apply, h, v43_at]
  rfl

/-! ## The codebook's rows at the eight positions -/

/-- The position words the rows are taken at. -/
theorem row_at (x0 : X) (x1 : E) (n : Fin 2048) (s : Fin 8) :
    val_main_call8_v5 (F := Ideal) x0 x1 (ix3 n s 0) = BitVec.ofNat 32 (first8 (wts x0 x1 n) s).val := by
  have h : idx_main_call8_v5 (ix3 n s 0) = ix2 n s := by
    funext a
    match a with
    | ⟨0, _⟩ => rfl
    | ⟨1, _⟩ => rfl
  have h86 : val_main_v86 (F := Ideal) x0 x1 (ix2 n s) = BitVec.ofNat 32 (first8 (wts x0 x1 n) s).val := by
    rw [val_main_v86_apply, v46_at, val_main_v85_apply, val_main_v84_apply]
    exact BitVec.add_zero _
  rw [val_main_call8_v5_apply, h, val_main_call8_v4_apply, val_main_call8_v1_apply, h86, val_main_call8_v0_apply]
  exact wrap_small _ (by have := (first8 (wts x0 x1 n) s).isLt; omega) _

/-- The range check passes everywhere. -/
theorem check8 (x0 : X) (x1 : E) (i : S2048x8x1.Idx) : val_main_call8_v11 (F := Ideal) x0 x1 i = 1#1 := by
  obtain ⟨n, s, rfl⟩ : ∃ (n : Fin 2048) (s : Fin 8), i = ix3 n s 0 := ⟨i 0, i 1, by
    funext a
    match a with
    | ⟨0, _⟩ => rfl
    | ⟨1, _⟩ => rfl
    | ⟨2, _⟩ => exact Subsingleton.elim (α := Fin 1) _ _⟩
  rw [val_main_call8_v11_apply, val_main_call8_v7_apply, val_main_call8_v10_apply, row_at x0 x1 n s,
    val_main_call8_v6_apply, val_main_call8_v9_apply, val_main_call8_v8_apply]
  exact in_range (first8 (wts x0 x1 n) s)

/-- The codebook's rows at the eight heaviest positions. -/
theorem v88_at (x0 : X) (x1 : E) (n : Fin 2048) (s : Fin 8) (v : Fin 64) :
    val_main_v88 (F := Ideal) x0 x1 (ix3 n s v) = code x1 (first8 (wts x0 x1 n) s) v := by
  rw [val_main_v88_apply, val_main_call8_v14_apply]
  have hm : val_main_call8_v12 (F := Ideal) x0 x1 (idx_main_call8_v14 (ix3 n s v)) = 1#1 := by
    unfold val_main_call8_v12
    exact reduce_ones _ _ _ _ _ (check8 x0 x1) rfl
  have hg : val_main_call8_v13 (F := Ideal) x0 x1 (ix3 n s v) = code x1 (first8 (wts x0 x1 n) s) v := by
    unfold val_main_call8_v13
    rw [takeRows_at _ _ n s v _ (row_at x0 x1 n s), val_main_v87_apply]
    generalize first8 (wts x0 x1 n) s = b
    have h : idx_main_v87 (ix2 b v) = ix3 0 b v := by
      funext a
      match a with
      | ⟨0, _⟩ => rfl
      | ⟨1, _⟩ => exact Fin.ext (by show (b.val * 64 + v.val) / 64 % 512 = b.val; omega)
      | ⟨2, _⟩ => exact Fin.ext (by show (b.val * 64 + v.val) % 64 = v.val; omega)
    rw [h]
    rfl
  rw [hm, hg]
  rfl

end Cert.ReferenceIdeal.Rows

end
-- ==== Proof.RefMix.lean ====
/- The reference's mixture, penalties and index results. -/
module

public import proofs.«01_k».proof.Proof.RefTake

@[expose] public section

set_option maxRecDepth 65536

noncomputable section

namespace Cert.ReferenceIdeal.Rows

open Cert.ReferenceIdeal Cert.ReferenceIdeal.Gen Cert.ReferenceIdeal.Read Cert.Vq
open Idealize.ShloMosaic Idealize.ShloMosaic.ValueIdx
open scoped BigOperators

/-- The host's absolute value is the greater of the number and its negation. -/
theorem host_abs (a : EReal) : (FloatOps.hostAbsf (F := Ideal) (φ := .f32) a : EReal) = max a (-a) := rfl
/-- The maximum is the maximum. -/
theorem host_max (a b : EReal) : (FloatOps.maximumf (F := Ideal) (φ := .f32) a b : EReal) = max a b := rfl

/-- The absolute sum of the eight heaviest weights. -/
theorem v48_at (x0 : X) (x1 : E) (n : Fin 2048) : val_main_v48 (F := Ideal) x0 x1 (ix1 n)
      = ∑ s, max (wts x0 x1 n (first8 (wts x0 x1 n) s)) (-wts x0 x1 n (first8 (wts x0 x1 n) s)) := by
  have h : ∀ s, val_main_v47 (F := Ideal) x0 x1 (idx_main_v48 (ix1 n) s)
      = max (wts x0 x1 n (first8 (wts x0 x1 n) s)) (-wts x0 x1 n (first8 (wts x0 x1 n) s)) := fun s => by
    have hi : idx_main_v48 (ix1 n) s = ix2 n s := by
      funext a
      match a with
      | ⟨0, _⟩ => rfl
      | ⟨1, _⟩ => rfl
    rw [val_main_v47_apply, hi, v45_at, host_abs]
  rw [val_main_v48_apply, Finset.sum_congr rfl fun s _ => h s]
  generalize ∑ s, max (wts x0 x1 n (first8 (wts x0 x1 n) s)) (-wts x0 x1 n (first8 (wts x0 x1 n) s)) = t
  exact (congrArg (· + t) zero_word).trans (zero_add t)

/-- The divisor. -/
theorem v51_at (x0 : X) (x1 : E) (n : Fin 2048) : val_main_v51 (F := Ideal) x0 x1 (ix2 n 0) = denom (wts x0 x1 n) := by
  have hi : idx_main_v49 (ix2 n 0) = ix1 n := by
    funext a
    match a with
    | ⟨0, _⟩ => rfl
  rw [val_main_v51_apply, val_main_v49_apply, hi, v48_at, val_main_v50_apply, host_max]
  exact denom_first8 (dist_nonneg x0 x1 n)

/-- The normalised weights of the eight. -/
theorem v53_at (x0 : X) (x1 : E) (n : Fin 2048) (s : Fin 8) : val_main_v53 (F := Ideal) x0 x1 (ix2 n s)
      = Ideal.div (wts x0 x1 n (first8 (wts x0 x1 n) s)) (denom (wts x0 x1 n)) := by
  have hi : idx_main_v52 (ix2 n s) = ix2 n 0 := by
    funext a
    match a with
    | ⟨0, _⟩ => rfl
    | ⟨1, _⟩ => rfl
  rw [val_main_v53_apply, v45_at, val_main_v52_apply, hi, v51_at, host_div]

/-- One term of the mixture. -/
theorem v91_at (x0 : X) (x1 : E) (n : Fin 2048) (s : Fin 8) (v : Fin 64) : val_main_v91 (F := Ideal) x0 x1 (ix3 n s v)
      = code x1 (first8 (wts x0 x1 n) s) v * Ideal.div (wts x0 x1 n (first8 (wts x0 x1 n) s)) (denom (wts x0 x1 n)) := by
  have hi : idx_main_v89 (idx_main_v90 (ix3 n s v)) = ix2 n s := by
    funext a
    match a with
    | ⟨0, _⟩ => rfl
    | ⟨1, _⟩ => rfl
  rw [val_main_v91_apply, v88_at, val_main_v90_apply, val_main_v89_apply, hi, v53_at]
  rfl

/-- The mixture. -/
theorem v92_at (x0 : X) (x1 : E) (n : Fin 2048) (v : Fin 64) :
    val_main_v92 (F := Ideal) x0 x1 (ix2 n v) = out (tok x0 n) (code x1) v := by
  have h : ∀ s, val_main_v91 (F := Ideal) x0 x1 (idx_main_v92 (ix2 n v) s)
      = code x1 (first8 (wts x0 x1 n) s) v * Ideal.div (wts x0 x1 n (first8 (wts x0 x1 n) s)) (denom (wts x0 x1 n)) := fun s => by
    have hi : idx_main_v92 (ix2 n v) s = ix3 n s v := by
      funext a
      match a with
      | ⟨0, _⟩ => rfl
      | ⟨1, _⟩ => rfl
      | ⟨2, _⟩ => rfl
    rw [hi, v91_at]
  have hm : ∑ s, code x1 (first8 (wts x0 x1 n) s) v * Ideal.div (wts x0 x1 n (first8 (wts x0 x1 n) s)) (denom (wts x0 x1 n))
      = out (tok x0 n) (code x1) v := mix_first8 (dist_nonneg x0 x1 n) (code x1) v
  rw [val_main_v92_apply, Finset.sum_congr rfl fun s _ => h s, hm]
  generalize out (tok x0 n) (code x1) v = t
  exact (congrArg (· + t) zero_word).trans (zero_add t)

/-- The mixture in the arguments' layout. -/
theorem v93_at (x0 : X) (x1 : E) (b : Fin 4) (s : Fin 512) (v : Fin 64) :
    val_main_v93 (F := Ideal) x0 x1 (ix4 b s 0 v) = out (tok x0 (token b s)) (code x1) v := by
  have hi : idx_main_v93 (ix4 b s 0 v) = ix2 (token b s) v := by
    funext a
    match a with
    | ⟨0, _⟩ => exact Fin.ext (by show (((b.val * 512 + s.val) * 1 + 0) * 64 + v.val) / 64 = b.val * 512 + s.val; omega)
    | ⟨1, _⟩ => exact Fin.ext (by show (((b.val * 512 + s.val) * 1 + 0) * 64 + v.val) % 64 = v.val; omega)
  rw [val_main_v93_apply, hi, v92_at]

/-- Result 1. -/
theorem v95_eq (x0 : X) (x1 : E) : val_main_v95 (F := Ideal) x0 x1 = res1 x0 x1 := by
  funext i
  obtain ⟨b, s, v, rfl⟩ : ∃ (b : Fin 4) (s : Fin 512) (v : Fin 64), i = ix4 b s 0 v := ⟨i 0, i 1, i 3, by
    funext a
    match a with
    | ⟨0, _⟩ => rfl
    | ⟨1, _⟩ => rfl
    | ⟨2, _⟩ => exact Subsingleton.elim (α := Fin 1) _ _
    | ⟨3, _⟩ => rfl⟩
  rw [val_main_v95_apply, val_main_v94_apply, v93_at]
  show (out (tok x0 (token b s)) (code x1) v - x0 (ix4 b s 0 v)) + x0 (ix4 b s 0 v)
    = (out (tok x0 (token b s)) (code x1) v - tok x0 (token b s) v) + tok x0 (token b s) v
  rw [tok_token x0 b s 0 v]

/-- A row of a four-axis sum. -/
theorem row_idx (f : S4x512x1.Idx → Fin 64 → S4x512x1x64.Idx)
    (hf : ∀ i k, (f i k 0).val = (i 0).val ∧ (f i k 1).val = (i 1).val ∧ (f i k 2).val = (i 2).val ∧ (f i k 3).val = k.val)
    (b : Fin 4) (s : Fin 512) (v : Fin 64) : f (ix3 b s 0) v = ix4 b s 0 v := by
  obtain ⟨h0, h1, h2, h3⟩ := hf (ix3 b s 0) v
  funext a
  match a with
  | ⟨0, _⟩ => exact Fin.ext h0
  | ⟨1, _⟩ => exact Fin.ext h1
  | ⟨2, _⟩ => exact Fin.ext h2
  | ⟨3, _⟩ => exact Fin.ext h3

/-- The sum of the squared differences of a token and its mixture. -/
def gap (x0 : X) (x1 : E) (b : Fin 4) (s : Fin 512) : EReal :=
  ∑ v, (tok x0 (token b s) v - out (tok x0 (token b s)) (code x1) v) * (tok x0 (token b s) v - out (tok x0 (token b s)) (code x1) v)

/-- That sum for result 2. -/
theorem gap2 (x0 : X) (x1 : E) (b : Fin 4) (s : Fin 512) :
    val_main_call9_v1 (F := Ideal) x0 x1 (ix3 b s 0) = gap x0 x1 b s := by
  have h : ∀ v, val_main_call9_v0 (F := Ideal) x0 x1 (idx_main_call9_v1 (ix3 b s 0) v)
      = (tok x0 (token b s) v - out (tok x0 (token b s)) (code x1) v) * (tok x0 (token b s) v - out (tok x0 (token b s)) (code x1) v) :=
    fun v => by
      rw [row_idx idx_main_call9_v1 (fun _ _ => ⟨rfl, rfl, rfl, rfl⟩) b s v, val_main_call9_v0_apply, val_main_v96_apply, v93_at,
        tok_token x0 b s 0 v]
      rfl
  rw [val_main_call9_v1_apply, Finset.sum_congr rfl fun v _ => h v]
  change _ + gap x0 x1 b s = gap x0 x1 b s
  generalize gap x0 x1 b s = t
  exact (congrArg (· + t) zero_word).trans (zero_add t)

/-- That sum for result 3. -/
theorem gap3 (x0 : X) (x1 : E) (b : Fin 4) (s : Fin 512) :
    val_main_call10_v1 (F := Ideal) x0 x1 (ix3 b s 0) = gap x0 x1 b s := by
  have h : ∀ v, val_main_call10_v0 (F := Ideal) x0 x1 (idx_main_call10_v1 (ix3 b s 0) v)
      = (tok x0 (token b s) v - out (tok x0 (token b s)) (code x1) v) * (tok x0 (token b s) v - out (tok x0 (token b s)) (code x1) v) :=
    fun v => by
      rw [row_idx idx_main_call10_v1 (fun _ _ => ⟨rfl, rfl, rfl, rfl⟩) b s v, val_main_call10_v0_apply, val_main_v99_apply, v93_at,
        tok_token x0 b s 0 v]
      rfl
  rw [val_main_call10_v1_apply, Finset.sum_congr rfl fun v _ => h v]
  change _ + gap x0 x1 b s = gap x0 x1 b s
  generalize gap x0 x1 b s = t
  exact (congrArg (· + t) zero_word).trans (zero_add t)

/-- The sum of the squared differences of a token and itself. -/
theorem self3 (x0 : X) (b : Fin 4) (s : Fin 512) : val_main_call11_v1 (F := Ideal) x0 (ix3 b s 0)
      = ∑ v, (tok x0 (token b s) v - tok x0 (token b s) v) * (tok x0 (token b s) v - tok x0 (token b s) v) := by
  have h : ∀ v, val_main_call11_v0 (F := Ideal) x0 (idx_main_call11_v1 (ix3 b s 0) v)
      = (tok x0 (token b s) v - tok x0 (token b s) v) * (tok x0 (token b s) v - tok x0 (token b s) v) :=
    fun v => by
      rw [row_idx idx_main_call11_v1 (fun _ _ => ⟨rfl, rfl, rfl, rfl⟩) b s v, val_main_call11_v0_apply, val_main_v102_apply,
        tok_token x0 b s 0 v]
      rfl
  rw [val_main_call11_v1_apply, Finset.sum_congr rfl fun v _ => h v]
  generalize (∑ v, (tok x0 (token b s) v - tok x0 (token b s) v) * (tok x0 (token b s) v - tok x0 (token b s) v) : EReal) = t
  exact (congrArg (· + t) zero_word).trans (zero_add t)

/-- An index of a `[4, 512, 1]` array is a sequence and a place. -/
theorem exists_token (i : S4x512x1.Idx) : ∃ (b : Fin 4) (s : Fin 512), i = ix3 b s 0 := ⟨i 0, i 1, by
  funext a
  match a with
  | ⟨0, _⟩ => rfl
  | ⟨1, _⟩ => rfl
  | ⟨2, _⟩ => exact Subsingleton.elim (α := Fin 1) _ _⟩

/-- Result 2. -/
theorem v98_eq (x0 : X) (x1 : E) : val_main_v98 (F := Ideal) x0 x1 = res2 x0 x1 := by
  funext i
  obtain ⟨b, s, rfl⟩ := exists_token i
  rw [val_main_v98_apply, val_main_v97_apply, gap2, host_sqrt]
  rfl

/-- Result 3. -/
theorem v105_eq (x0 : X) (x1 : E) : val_main_v105 (F := Ideal) x0 x1 = res2 x0 x1 := by
  funext i
  obtain ⟨b, s, rfl⟩ := exists_token i
  rw [val_main_v105_apply, val_main_v101_apply, val_main_v100_apply, gap3, host_sqrt, val_main_v104_apply, val_main_v103_apply, self3,
    host_sqrt]
  exact pen_add_self (tok x0 (token b s)) (code x1)

/-- Result 5. -/
theorem v54_eq (x0 : X) (x1 : E) : val_main_v54 (F := Ideal) x0 x1 = res5 x0 x1 := by
  funext i
  obtain ⟨b, s, rfl⟩ := exists_token i
  have hi : idx_main_v54 (ix3 b s 0) = ix2 (token b s) 0 := by
    funext a
    match a with
    | ⟨0, _⟩ => exact Fin.ext (by show ((b.val * 512 + s.val) * 1 + 0) / 1 = b.val * 512 + s.val; omega)
    | ⟨1, _⟩ => rfl
  rw [val_main_v54_apply, hi, v6_at]
  rfl

/-- Result 6. -/
theorem v55_eq (x0 : X) (x1 : E) : val_main_v55 (F := Ideal) x0 x1 = res6 x0 x1 := by
  funext i
  obtain ⟨b, s, rfl⟩ := exists_token i
  have hi : idx_main_v55 (ix3 b s 0) = ix2 (token b s) 0 := by
    funext a
    match a with
    | ⟨0, _⟩ => exact Fin.ext (by show ((b.val * 512 + s.val) * 1 + 0) / 1 = b.val * 512 + s.val; omega)
    | ⟨1, _⟩ => rfl
  rw [val_main_v55_apply, hi, v11_at]
  rfl

end Cert.ReferenceIdeal.Rows

end
-- ==== Proof.RefHist.lean ====
/- The reference's histogram of the winners and its entropy. -/
module

public import proofs.«01_k».proof.Proof.RefTake

@[expose] public section

set_option maxRecDepth 65536

noncomputable section

namespace Cert.ReferenceIdeal.Rows

open Cert.ReferenceIdeal Cert.ReferenceIdeal.Gen Cert.ReferenceIdeal.Read Cert.Vq
open Idealize.ShloMosaic Idealize.ShloMosaic.ValueIdx Idealize.ShloMosaic.Routing
open scoped BigOperators

/-- The word an update of the histogram reads is the one beside it. -/
theorem start_word {N M : ℕ} (d : ScatterDims (shape1 N) (shape2 M 1) (shape1 M)) (hsd : d.scatterDimsToOperandDims = [0])
    (hivd : d.indexVectorDim = 1) (idx : IVec (shape2 M 1) 32) (m : Fin M) :
    d.start (ix1 m) idx 0 = (idx (ix2 m (0 : Fin 1))).toInt := by
  have hm : (0 : Fin 1) ∈ d.scatterDimsToOperandDims := hsd ▸ List.mem_singleton_self _
  unfold ScatterDims.start
  rw [dif_pos hm]
  refine congrArg (fun j => (idx j).toInt) (funext fun a => Fin.ext ?_)
  match a with
  | ⟨0, _⟩ =>
    have hc : ∀ c : Fin 1, (ix1 m c).val = m.val := fun c => by rw [Subsingleton.elim c 0]
    unfold ScatterDims.siIdx
    rw [dif_neg (by rw [hivd]; exact Nat.zero_ne_one)]
    unfold ScatterDims.siCoord
    exact hc _
  | ⟨1, _⟩ => exact congrArg Fin.val (Subsingleton.elim (α := Fin 1) _ _)

/-- The histogram's one axis is inserted, so an update has no place of its own. -/
theorem no_window {N M : ℕ} (d : ScatterDims (shape1 N) (shape2 M 1) (shape1 M)) (hiw : d.insertedWindowDims = [0])
    (m : Fin M) : d.window (ix1 m) 0 = 0 := by
  unfold ScatterDims.window
  refine dif_neg fun h => ?_
  exact of_decide_eq_true (List.mem_filter.mp h).2 (hiw ▸ List.mem_singleton_self _)

/-- Ones added to zeros at the places `g` names: entry `k` is how many updates name `k`. -/
theorem tally {N M : ℕ} (d : ScatterDims (shape1 N) (shape2 M 1) (shape1 M)) (hiw : d.insertedWindowDims = [0])
    (hsd : d.scatterDimsToOperandDims = [0]) (hivd : d.indexVectorDim = 1) (hN : N < 2 ^ 31)
    (z : IVec (shape1 N) 32) (hz : ∀ i, z i = 0#32) (u : IVec (shape1 M) 32) (hu : ∀ i, u i = 1#32)
    (idx : IVec (shape2 M 1) 32) (g : Fin M → Fin N) (hg : ∀ m, idx (ix2 m (0 : Fin 1)) = BitVec.ofNat 32 (g m).val) (k : Fin N) :
    Host.scatter d IntOp.addi z idx u (ix1 k)
      = BitVec.ofNat 32 ((List.finRange M).countP fun m => decide (g m = k)) := by
  have hland : ∀ m, d.resultIdx? (ix1 m) idx = some (ix1 (g m)) := fun m => by
    rw [resultIdx?_ix1, start_word d hsd hivd, no_window d hiw, hg, toInt_word _ (lt_trans (g m).isLt hN)]
    simp
  unfold Host.scatter
  refine (foldl_count _ (ix1 k) (fun n => decide (g (n.cast (numel1 M)) = k)) (fun r n => ?_) _ z 0 (hz _)).trans ?_
  · rw [symm1, hland, hu]
    by_cases e : g (n.cast (numel1 M)) = k
    · simp only [e, decide_true, if_true]
    · have e' : ¬ (ix1 k : (shape1 N).Idx) = ix1 (g (n.cast (numel1 M))) := fun h => e (congrFun h 0).symm
      simp only [e, e', decide_false, if_false, Bool.false_eq_true]
  rw [Nat.zero_add]
  have hc : ∀ (L : ℕ) (h : L = M), (List.finRange L).countP (fun n => decide (g (n.cast h) = k))
      = (List.finRange M).countP fun m => decide (g m = k) := fun L h => by
    subst h
    rfl
  rw [hc]

/-- The winner of row `n`. -/
def best (x0 : X) (x1 : E) (n : Fin 2048) : Fin 512 := winner (tok x0 n) (code x1)

/-- A small word is its maximum with zero. -/
theorem clip_small (n : ℕ) (h : n < 2 ^ 31) : IntOp.maxsi 0#32 (BitVec.ofNat 32 n) = BitVec.ofNat 32 n := by
  unfold IntOp.maxsi
  refine if_neg ?_
  rw [BitVec.slt_iff_toInt_lt, toInt_word n h]
  simp

/-- The winners, as the histogram reads them. -/
theorem v65_at (x0 : X) (x1 : E) (n : Fin 2048) :
    val_main_v65 (F := Ideal) x0 x1 (ix2 n 0) = BitVec.ofNat 32 (best x0 x1 n).val := by
  have hb : (best x0 x1 n).val < 2 ^ 31 := lt_trans (best x0 x1 n).isLt (by decide)
  have h57 : val_main_v57 (F := Ideal) x0 x1 (ix1 n) = BitVec.ofNat 32 (best x0 x1 n).val := by
    have hi : idx_main_v56 (idx_main_v57 (ix1 n)) = ix2 n 0 := by
      funext a
      match a with
      | ⟨0, _⟩ => exact Fin.ext (by show n.val / 1 = n.val; omega)
      | ⟨1, _⟩ => rfl
    rw [val_main_v57_apply, val_main_v56_apply, hi, v46_at]
    refine congrArg (fun k : Fin 512 => BitVec.ofNat 32 k.val) ?_
    exact order_first (wts x0 x1 n) (by decide)
  have h59 : val_main_v59 (F := Ideal) x0 x1 (ix1 n) = BitVec.ofNat 32 (best x0 x1 n).val := by
    rw [val_main_v59_apply, h57, val_main_call5_v1_apply, val_main_call5_v0_apply, val_main_c_11_apply]
    exact clip_small _ hb
  have hi : idx_main_v65 (ix2 n 0) = ix1 n := by
    funext a
    match a with
    | ⟨0, _⟩ => rfl
  rw [val_main_v65_apply, hi, val_main_v64_apply, val_main_v61_apply, h59, val_main_v60_apply, val_main_c_12_apply]
  exact wrap_small _ hb _

/-- The counts as words. -/
theorem v67_at (x0 : X) (x1 : E) (k : Fin 512) : val_main_v67 (F := Ideal) x0 x1 (ix1 k)
      = BitVec.ofNat 32 ((List.finRange 2048).countP fun n => decide (best x0 x1 n = k)) := by
  unfold val_main_v67
  refine tally _ rfl rfl rfl (by decide) _ (fun i => ?_) _ (fun i => ?_) _ (best x0 x1) (v65_at x0 x1) k
  · exact (val_main_v58_apply i).trans (val_main_c_10_apply _)
  · exact (val_main_v66_apply i).trans (val_main_c_14_apply _)

/-- The histogram. -/
def counts (x0 : X) (x1 : E) (k : Fin 512) : EReal := hist (tok x0) (code x1) k

/-- The counts as numbers. -/
theorem v68_at (x0 : X) (x1 : E) (k : Fin 512) : val_main_v68 (F := Ideal) x0 x1 (ix1 k) = counts x0 x1 k := by
  have hs := sum_ones fun n : Fin 2048 => decide (best x0 x1 n = k)
  have hl : ((List.finRange 2048).countP fun n => decide (best x0 x1 n = k)) ≤ 2048 := by
    refine List.countP_le_length.trans ?_
    rw [List.length_finRange]
  have hh : counts x0 x1 k = ∑ n : Fin 2048, (if decide (best x0 x1 n = k) = true then (1 : EReal) else 0) := by
    unfold counts hist
    exact Finset.sum_congr rfl fun n _ => by
      by_cases h : best x0 x1 n = k
      · exact (if_pos h).trans (if_pos (decide_eq_true h)).symm
      · exact (if_neg h).trans (if_neg fun q => h (of_decide_eq_true q)).symm
  rw [val_main_v68_apply, v67_at, hh, hs]
  generalize ((List.finRange 2048).countP fun n => decide (best x0 x1 n = k)) = c at hl ⊢
  show ((((BitVec.ofNat 32 c).toInt : ℤ) : ℝ) : EReal) = _
  rw [toInt_word c (by omega)]

/-- The share of an entry. -/
theorem v70_at (x0 : X) (x1 : E) (k : Fin 512) : val_main_v70 (F := Ideal) x0 x1 (ix1 k)
      = Ideal.div (counts x0 x1 k) (Ideal.ofBits .f32 0x45000000#32) := by
  rw [val_main_v70_apply, v68_at, val_main_v69_apply, val_main_cst_15_apply, host_div]
  rfl

/-- Choosing by whether a number is positive. -/
theorem choose_pos (h a b : EReal) :
    Scalar.select (FloatOps.cmpf (F := Ideal) (φ := .f32) .ogt h (FloatOps.ofBits (F := Ideal) .f32 0x00000000#32)) a b
      = if 0 < h then a else b := by
  rw [show (FloatOps.ofBits (F := Ideal) .f32 0x00000000#32 : EReal) = 0 from zero_word]
  by_cases e : 0 < h
  · simp [Scalar.select, Ideal.cmpf_def, Ideal.cmp, e]
  · simp [Scalar.select, Ideal.cmpf_def, Ideal.cmp, e]

/-- One entry's part of the entropy. -/
theorem v78_at (x0 : X) (x1 : E) (k : Fin 512) : val_main_v78 (F := Ideal) x0 x1 (ix1 k) = entTerm (counts x0 x1 k) := by
  have h75 : val_main_v75 (F := Ideal) x0 x1 (ix1 k)
      = if 0 < counts x0 x1 k then Ideal.div (counts x0 x1 k) (Ideal.ofBits .f32 0x45000000#32)
        else val_main_call6_v1 (F := Ideal) (ix1 k) := by
    rw [val_main_v75_apply, val_main_v74_apply, v68_at, v70_at, val_main_v73_apply, val_main_cst_17_apply]
    exact choose_pos _ _ _
  have h77 : val_main_v77 (F := Ideal) x0 x1 (ix1 k)
      = Ideal.div (counts x0 x1 k) (Ideal.ofBits .f32 0x45000000#32)
        * Ideal.log (if 0 < counts x0 x1 k then Ideal.div (counts x0 x1 k) (Ideal.ofBits .f32 0x45000000#32)
          else val_main_call6_v1 (F := Ideal) (ix1 k)) := by
    rw [val_main_v77_apply, v70_at, val_main_v76_apply, h75]
    rfl
  have h0 : val_main_call7_v1 (F := Ideal) (ix1 k) = (0 : EReal) := by
    rw [val_main_call7_v1_apply, val_main_call7_v0_apply, val_main_cst_19_apply]
    exact zero_word
  rw [val_main_v78_apply, val_main_v72_apply, v68_at, val_main_v71_apply, val_main_cst_16_apply, h77, h0]
  refine (choose_pos _ _ _).trans ?_
  unfold entTerm
  by_cases e : 0 < counts x0 x1 k
  · simp only [if_pos e]
  · simp only [if_neg e]

/-- A sum over the indices of a vector of `512` entries is the sum over its places. -/
theorem sum_places (f : S512.Idx → EReal) : ∑ j, f j = ∑ k : Fin 512, f (ix1 k) :=
  Fintype.sum_equiv ⟨fun j => j 0, fun k => ix1 k, fun j => (eq_ix1 j).symm, fun _ => rfl⟩ _ _ fun j => congrArg f (eq_ix1 j)

/-- Result 4. -/
theorem v80_eq (x0 : X) (x1 : E) : val_main_v80 (F := Ideal) x0 x1 = res4 x0 x1 := by
  funext i
  have hs : ∑ j, val_main_v78 (F := Ideal) x0 x1 j = ∑ k : Fin 512, entTerm (hist (tok x0) (code x1) k) :=
    (sum_places _).trans (Finset.sum_congr rfl fun k _ => v78_at x0 x1 k)
  rw [val_main_v80_apply, val_main_v79_apply, hs]
  show _ = -∑ k : Fin 512, entTerm (hist (tok x0) (code x1) k)
  generalize ∑ k : Fin 512, entTerm (hist (tok x0) (code x1) k) = t
  exact (congrArg (fun z : EReal => -(z + t)) zero_word).trans (congrArg (fun z : EReal => -z) (zero_add t))

end Cert.ReferenceIdeal.Rows

end
-- ==== Proof.lean ====
/- The proof of the claims: the program, its idealization and the reference run and leave their arguments as they were, the
   idealization rewrites nothing, and the idealization and the reference end with the same six results. The runs are proved in
   `Proof/KerRun.lean` and `Proof/RefRun.lean`; `Proof/RefMix.lean` and `Proof/RefHist.lean` read the reference's results as the
   functions of the arguments that `Proof/Args.lean` names. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KerRun
public import proofs.«01_k».proof.Proof.RefRun
public import proofs.«01_k».proof.Proof.RefMix
public import proofs.«01_k».proof.Proof.RefHist
public import Idealize.ShloMosaic.Adequacy
public import Idealize.ShloMosaic.Init

@[expose] public section

noncomputable section

namespace Cert.Proof

open Idealize.ShloMosaic Idealize.SL.Sem Cert.Vq

/-- A buffer that holds `V` of the arguments holds `R` of them, where `V` is `R`. -/
theorem of_args {α : Type} (R V : Cert.ReferenceIdeal.Rows.X → Cert.ReferenceIdeal.Rows.E → α) (hV : ∀ p q, V p q = R p q)
    {a p : Cert.ReferenceIdeal.Rows.X} {b q : Cert.ReferenceIdeal.Rows.E} (ha : a = p) (hb : b = q) {f : α} (hf : f = V a b) :
    f = R p q := by
  subst ha hb
  exact hf.trans (hV _ _)

/-- The reference ends with the six named functions of its arguments, its arguments as they were. -/
theorem reference_run (m : (ℓ : Loc Cert.ReferenceIdeal.nD Cert.ReferenceIdeal.τ Cert.ReferenceIdeal.sig) → Buf (Elt Ideal) ℓ)
    (g : Dev Cert.ReferenceIdeal.nD → PrngReg)
    (x : Dev Cert.ReferenceIdeal.nD → Cert.ReferenceIdeal.Rows.X) (e : Dev Cert.ReferenceIdeal.nD → Cert.ReferenceIdeal.Rows.E)
    (hx : ∀ c : Dev Cert.ReferenceIdeal.nD, m ((c.tc : Thread Cert.ReferenceIdeal.nD Cert.ReferenceIdeal.τ).loc Cert.ReferenceIdeal.main_arg0) = x c)
    (he : ∀ c : Dev Cert.ReferenceIdeal.nD, m ((c.tc : Thread Cert.ReferenceIdeal.nD Cert.ReferenceIdeal.τ).loc Cert.ReferenceIdeal.main_arg1) = e c) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v95) = res1 (x c) (e c)
        ∧ r.2.mem ((c.tc : Thread Cert.ReferenceIdeal.nD Cert.ReferenceIdeal.τ).loc Cert.ReferenceIdeal.main_v98) = res2 (x c) (e c)
        ∧ r.2.mem ((c.tc : Thread Cert.ReferenceIdeal.nD Cert.ReferenceIdeal.τ).loc Cert.ReferenceIdeal.main_v105) = res2 (x c) (e c)
        ∧ r.2.mem ((c.tc : Thread Cert.ReferenceIdeal.nD Cert.ReferenceIdeal.τ).loc Cert.ReferenceIdeal.main_v80) = res4 (x c) (e c)
        ∧ r.2.mem ((c.tc : Thread Cert.ReferenceIdeal.nD Cert.ReferenceIdeal.τ).loc Cert.ReferenceIdeal.main_v54) = res5 (x c) (e c)
        ∧ r.2.mem ((c.tc : Thread Cert.ReferenceIdeal.nD Cert.ReferenceIdeal.τ).loc Cert.ReferenceIdeal.main_v55) = res6 (x c) (e c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) := by
  refine (θ_run _ _ _).mono (fun r h c => ?_) (Cert.ReferenceIdeal.Value.run m g)
  obtain ⟨h1, h2, h3, h4, h5, h6, ha, hb⟩ := h c
  exact ⟨of_args res1 _ Cert.ReferenceIdeal.Rows.v95_eq (hx c) (he c) (h1.trans (Cert.ReferenceIdeal.Read.val_main_v95_eq _)),
    of_args res2 _ Cert.ReferenceIdeal.Rows.v98_eq (hx c) (he c) (h2.trans (Cert.ReferenceIdeal.Read.val_main_v98_eq _)),
    of_args res2 _ Cert.ReferenceIdeal.Rows.v105_eq (hx c) (he c) (h3.trans (Cert.ReferenceIdeal.Read.val_main_v105_eq _)),
    of_args res4 _ Cert.ReferenceIdeal.Rows.v80_eq (hx c) (he c) (h4.trans (Cert.ReferenceIdeal.Read.val_main_v80_eq _)),
    of_args res5 _ Cert.ReferenceIdeal.Rows.v54_eq (hx c) (he c) (h5.trans (Cert.ReferenceIdeal.Read.val_main_v54_eq _)),
    of_args res6 _ Cert.ReferenceIdeal.Rows.v55_eq (hx c) (he c) (h6.trans (Cert.ReferenceIdeal.Read.val_main_v55_eq _)), ha, hb⟩

/-- The reference runs, leaves its arguments as they were, and ends with every counter at zero: it has no counter. -/
theorem reference_frame : Cert.quiescent_ReferenceIdeal := fun m g _ =>
  (θ_run _ _ _).mono (fun r h => ⟨fun c => ⟨(h c).2.2.2.2.2.2.1, (h c).2.2.2.2.2.2.2⟩, sem_eq_zero_of_no_sems rfl r.2⟩)
    (Cert.ReferenceIdeal.Value.run m g)

/-- The idealization and the reference end with the same six results. -/
theorem same_results : Cert.algebraic_KernelIdeal_ReferenceIdeal := fun m g m' g' _ hargs =>
  ⟨fun c => res1 (Cert.KernelIdeal.Block.argX m c) (Cert.KernelIdeal.Block.argE m c),
    fun c => res2 (Cert.KernelIdeal.Block.argX m c) (Cert.KernelIdeal.Block.argE m c),
    fun c => res2 (Cert.KernelIdeal.Block.argX m c) (Cert.KernelIdeal.Block.argE m c),
    fun c => res4 (Cert.KernelIdeal.Block.argX m c) (Cert.KernelIdeal.Block.argE m c),
    fun c => res5 (Cert.KernelIdeal.Block.argX m c) (Cert.KernelIdeal.Block.argE m c),
    fun c => res6 (Cert.KernelIdeal.Block.argX m c) (Cert.KernelIdeal.Block.argE m c),
    (θ_run _ _ _).mono (fun r h c => by
      obtain ⟨⟨h1, h2, h3, h4, h5, h6⟩, ha, hb⟩ := h c
      exact ⟨h1, h2, h3, h4, h5, h6, ha, hb⟩) (Cert.KernelIdeal.Block.run m g),
    reference_run m' g' (Cert.KernelIdeal.Block.argX m) (Cert.KernelIdeal.Block.argE m) (fun c => (hargs c).1) (fun c => (hargs c).2)⟩

/-- Every claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, same_results⟩

end Cert.Proof

end
